-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v32)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v32) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v37)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v37) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v79) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S16384x6144 : Shape := ⟨2, ![16384, 6144]⟩
abbrev S4x2560 : Shape := ⟨2, ![4, 2560]⟩
abbrev S2560 : Shape := ⟨1, ![2560]⟩
abbrev S24 : Shape := ⟨1, ![24]⟩
abbrev S1536 : Shape := ⟨1, ![1536]⟩
abbrev S_ : Shape := ⟨0, ![]⟩
abbrev S128 : Shape := ⟨1, ![128]⟩
abbrev S1x128 : Shape := ⟨2, ![1, 128]⟩
abbrev S24x64 : Shape := ⟨2, ![24, 64]⟩
abbrev S1x1536 : Shape := ⟨2, ![1, 1536]⟩
abbrev S1x2560 : Shape := ⟨2, ![1, 2560]⟩
abbrev S16384x1536 : Shape := ⟨2, ![16384, 1536]⟩
abbrev S2x1536x128 : Shape := ⟨3, ![2, 1536, 128]⟩
abbrev S128x512 : Shape := ⟨2, ![128, 512]⟩
abbrev S128x128 : Shape := ⟨2, ![128, 128]⟩
abbrev S128x1536 : Shape := ⟨2, ![128, 1536]⟩
abbrev S1x1536x128 : Shape := ⟨3, ![1, 1536, 128]⟩
abbrev S136x2560 : Shape := ⟨2, ![136, 2560]⟩
abbrev S1536x128 : Shape := ⟨2, ![1536, 128]⟩
abbrev S8x2560 : Shape := ⟨2, ![8, 2560]⟩
abbrev S384x128 : Shape := ⟨2, ![384, 128]⟩
abbrev S128x384 : Shape := ⟨2, ![128, 384]⟩
abbrev S128x1 : Shape := ⟨2, ![128, 1]⟩
abbrev S1x1 : Shape := ⟨2, ![1, 1]⟩
abbrev S64x128 : Shape := ⟨2, ![64, 128]⟩

abbrev nBuf : Space → Nat
  | .hbm => 24
  | .vmem => 30
  | .smem => 0
  | _ => 0

abbrev bufTy : (tb : Table) → Fin (tcTables nBuf tb) → BufTy
  | .hbm, ⟨0, _⟩ => ⟨S16384x6144, .f32⟩
  | .hbm, ⟨1, _⟩ => ⟨S4x2560, .f32⟩
  | .hbm, ⟨2, _⟩ => ⟨S2560, .f32⟩
  | .hbm, ⟨3, _⟩ => ⟨S24, .f32⟩
  | .hbm, ⟨4, _⟩ => ⟨S24, .f32⟩
  | .hbm, ⟨5, _⟩ => ⟨S24, .f32⟩
  | .hbm, ⟨6, _⟩ => ⟨S1536, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S24, .f32⟩
  | .hbm, ⟨12, _⟩ => ⟨S24, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S24x64, .f32⟩
  | .hbm, ⟨18, _⟩ => ⟨S1536, .f32⟩
  | .hbm, ⟨19, _⟩ => ⟨S1x1536, .f32⟩
  | .hbm, ⟨20, _⟩ => ⟨S1x1536, .f32⟩
  | .hbm, ⟨21, _⟩ => ⟨S1x2560, .f32⟩
  | .hbm, ⟨22, _⟩ => ⟨S16384x1536, .f32⟩
  | .hbm, ⟨23, _⟩ => ⟨S2x1536x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x128, .f32⟩
  | .local _ .vmem, ⟨17, _⟩ => ⟨S128x128, .f32⟩
  | .local _ .vmem, ⟨18, _⟩ => ⟨S4x2560, .f32⟩
  | .local _ .vmem, ⟨19, _⟩ => ⟨S1x2560, .f32⟩
  | .local _ .vmem, ⟨20, _⟩ => ⟨S1x128, .f32⟩
  | .local _ .vmem, ⟨21, _⟩ => ⟨S1x128, .f32⟩
  | .local _ .vmem, ⟨22, _⟩ => ⟨S1x1536, .f32⟩
  | .local _ .vmem, ⟨23, _⟩ => ⟨S1x1536, .f32⟩
  | .local _ .vmem, ⟨24, _⟩ => ⟨S128x1536, .f32⟩
  | .local _ .vmem, ⟨25, _⟩ => ⟨S128x1536, .f32⟩
  | .local _ .vmem, ⟨26, _⟩ => ⟨S1x1536x128, .f32⟩
  | .local _ .vmem, ⟨27, _⟩ => ⟨S1x1536x128, .f32⟩
  | .local _ .vmem, ⟨28, _⟩ => ⟨S136x2560, .f32⟩
  | .local _ .vmem, ⟨29, _⟩ => ⟨S1536x128, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v1787 : BitVec 1 := Scalar.cmpi .eq arg1 c63_i32
  let v1788 : BitVec 32 := Scalar.extui v1787
  let c0_i32_646 : BitVec 32 := 0#32
  let v1789 : BitVec 1 := Scalar.cmpi .ne v1788 c0_i32_646
  v1789

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c4_i32 : BitVec 32 := 4#32
  let c0_i32 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c5_i32 : BitVec 32 := 5#32
  let c0_i32 : BitVec 32 := 0#32
  ![v1.toNat, c5_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c6_i32 : BitVec 32 := 6#32
  let c0_i32 : BitVec 32 := 0#32
  ![v1.toNat, c6_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c7_i32 : BitVec 32 := 7#32
  let c0_i32 : BitVec 32 := 0#32
  ![v1.toNat, c7_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c1_i32 : BitVec 32 := 1#32
  let c0_i32 : BitVec 32 := 0#32
  ![v1.toNat, c1_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c2_i32 : BitVec 32 := 2#32
  let c0_i32 : BitVec 32 := 0#32
  ![v1.toNat, c2_i32.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c44_i32 : BitVec 32 := 44#32
  let c0_i32 : BitVec 32 := 0#32
  ![v1.toNat, c44_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S4x2560 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S128x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1536x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal.lean ====
abbrev S16384x6144 : Shape := ⟨2, ![16384, 6144]⟩
abbrev S4x2560 : Shape := ⟨2, ![4, 2560]⟩
abbrev S2560 : Shape := ⟨1, ![2560]⟩
abbrev S24 : Shape := ⟨1, ![24]⟩
abbrev S1536 : Shape := ⟨1, ![1536]⟩
abbrev S2x8192x6144 : Shape := ⟨3, ![2, 8192, 6144]⟩
abbrev S2x8192x1536 : Shape := ⟨3, ![2, 8192, 1536]⟩
abbrev S2x8192x2560 : Shape := ⟨3, ![2, 8192, 2560]⟩
abbrev S2x8192x24 : Shape := ⟨3, ![2, 8192, 24]⟩
abbrev S_ : Shape := ⟨0, ![]⟩
abbrev S2x3x2560 : Shape := ⟨3, ![2, 3, 2560]⟩
abbrev S2x24x64x128 : Shape := ⟨4, ![2, 24, 64, 128]⟩
abbrev S2x8195x2560 : Shape := ⟨3, ![2, 8195, 2560]⟩
abbrev S1x2560 : Shape := ⟨2, ![1, 2560]⟩
abbrev S1x1x2560 : Shape := ⟨3, ![1, 1, 2560]⟩
abbrev S2x8192x24x64 : Shape := ⟨4, ![2, 8192, 24, 64]⟩
abbrev S2x8192x512 : Shape := ⟨3, ![2, 8192, 512]⟩
abbrev S2x8192x4x128 : Shape := ⟨4, ![2, 8192, 4, 128]⟩
abbrev S1x1x24 : Shape := ⟨3, ![1, 1, 24]⟩
abbrev S2x64x128x4x6x64 : Shape := ⟨6, ![2, 64, 128, 4, 6, 64]⟩
abbrev S2x64x128x4x6 : Shape := ⟨5, ![2, 64, 128, 4, 6]⟩
abbrev S2x64x128x4x128 : Shape := ⟨5, ![2, 64, 128, 4, 128]⟩
abbrev S4x6 : Shape := ⟨2, ![4, 6]⟩
abbrev S1x1x1x4x6 : Shape := ⟨5, ![1, 1, 1, 4, 6]⟩
abbrev S2x64x128x4x6x1 : Shape := ⟨6, ![2, 64, 128, 4, 6, 1]⟩
abbrev S128x128 : Shape := ⟨2, ![128, 128]⟩
abbrev S128x128x1x1 : Shape := ⟨4, ![128, 128, 1, 1]⟩
abbrev S2x64x128x1x4x6 : Shape := ⟨6, ![2, 64, 128, 1, 4, 6]⟩
abbrev S2x64x1x128x4x6 : Shape := ⟨6, ![2, 64, 1, 128, 4, 6]⟩
abbrev S2x64x128x128x4x6 : Shape := ⟨6, ![2, 64, 128, 128, 4, 6]⟩
abbrev S2x64x4x128x128 : Shape := ⟨5, ![2, 64, 4, 128, 128]⟩
abbrev S2x64x128x128x4 : Shape := ⟨5, ![2, 64, 128, 128, 4]⟩
abbrev S2x64x128x128x4x1 : Shape := ⟨6, ![2, 64, 128, 128, 4, 1]⟩
abbrev S2x64x4x6x64x128 : Shape := ⟨6, ![2, 64, 4, 6, 64, 128]⟩
abbrev S2x64x1x4x6 : Shape := ⟨5, ![2, 64, 1, 4, 6]⟩
abbrev S2x64x4x6 : Shape := ⟨4, ![2, 64, 4, 6]⟩
abbrev S2x4x6x64x128 : Shape := ⟨5, ![2, 4, 6, 64, 128]⟩
abbrev S64x2x4x6 : Shape := ⟨4, ![64, 2, 4, 6]⟩
abbrev S64x2x4x6x64x128 : Shape := ⟨6, ![64, 2, 4, 6, 64, 128]⟩
abbrev S1x2x4x6 : Shape := ⟨4, ![1, 2, 4, 6]⟩
abbrev S2x4x6 : Shape := ⟨3, ![2, 4, 6]⟩
abbrev S1x2x4x6x64x128 : Shape := ⟨6, ![1, 2, 4, 6, 64, 128]⟩
abbrev S2x4x6x1x1 : Shape := ⟨5, ![2, 4, 6, 1, 1]⟩
abbrev S24x1 : Shape := ⟨2, ![24, 1]⟩
abbrev S1x1x24x1 : Shape := ⟨4, ![1, 1, 24, 1]⟩
abbrev S2x8192x4x384 : Shape := ⟨4, ![2, 8192, 4, 384]⟩
abbrev S2x8192x4 : Shape := ⟨3, ![2, 8192, 4]⟩
abbrev S2x8192x4x1 : Shape := ⟨4, ![2, 8192, 4, 1]⟩
abbrev S1x1x1536 : Shape := ⟨3, ![1, 1, 1536]⟩
abbrev S16384x1536 : Shape := ⟨2, ![16384, 1536]⟩
abbrev S2x1536x128 : Shape := ⟨3, ![2, 1536, 128]⟩

abbrev nBuf : Space → Nat
  | .hbm => 219
  | .vmem => 0
  | .smem => 0
  | _ => 0

abbrev hbmTy0_0 (i : Nat) : BufTy := match i % 128 with
  | 0 => ⟨S16384x6144, .f32⟩
  | 1 => ⟨S4x2560, .f32⟩
  | 2 => ⟨S2560, .f32⟩
  | 3 => ⟨S24, .f32⟩
  | 4 => ⟨S24, .f32⟩
  | 5 => ⟨S24, .f32⟩
  | 6 => ⟨S1536, .f32⟩
  | 7 => ⟨S2x8192x6144, .f32⟩
  | 8 => ⟨S2x8192x1536, .f32⟩
  | 9 => ⟨S2x8192x2560, .f32⟩
  | 10 => ⟨S2x8192x24, .f32⟩
  | 11 => ⟨S_, .f32⟩
  | 12 => ⟨S2x3x2560, .f32⟩
  | 13 => ⟨S_, .f32⟩
  | 14 => ⟨S2x24x64x128, .f32⟩
  | 15 => ⟨S2x8195x2560, .f32⟩
  | 16 => ⟨S2x8192x2560, .f32⟩
  | 17 => ⟨S1x2560, .f32⟩
  | 18 => ⟨S2560, .f32⟩
  | 19 => ⟨S1x1x2560, .f32⟩
  | 20 => ⟨S2x8192x2560, .f32⟩
  | 21 => ⟨S2x8192x2560, .f32⟩
  | 22 => ⟨S1x1x2560, .f32⟩
  | 23 => ⟨S2x8192x2560, .f32⟩
  | 24 => ⟨S2x8192x2560, .f32⟩
  | 25 => ⟨S2x8192x2560, .f32⟩
  | 26 => ⟨S1x2560, .f32⟩
  | 27 => ⟨S2560, .f32⟩
  | 28 => ⟨S1x1x2560, .f32⟩
  | 29 => ⟨S2x8192x2560, .f32⟩
  | 30 => ⟨S2x8192x2560, .f32⟩
  | 31 => ⟨S2x8192x2560, .f32⟩
  | 32 => ⟨S2x8192x2560, .f32⟩
  | 33 => ⟨S1x2560, .f32⟩
  | 34 => ⟨S2560, .f32⟩
  | 35 => ⟨S1x1x2560, .f32⟩
  | 36 => ⟨S2x8192x2560, .f32⟩
  | 37 => ⟨S2x8192x2560, .f32⟩
  | 38 => ⟨S2x8192x2560, .f32⟩
  | 39 => ⟨S2x8192x2560, .f32⟩
  | 40 => ⟨S1x2560, .f32⟩
  | 41 => ⟨S2560, .f32⟩
  | 42 => ⟨S1x1x2560, .f32⟩
  | 43 => ⟨S2x8192x2560, .f32⟩
  | 44 => ⟨S2x8192x2560, .f32⟩
  | 45 => ⟨S2x8192x2560, .f32⟩
  | 46 => ⟨S2x8192x2560, .f32⟩
  | 47 => ⟨S2x8192x2560, .f32⟩
  | 48 => ⟨S_, .f32⟩
  | 49 => ⟨S2x8192x2560, .f32⟩
  | 50 => ⟨S2x8192x2560, .f32⟩
  | 51 => ⟨S_, .f32⟩
  | 52 => ⟨S2x8192x2560, .f32⟩
  | 53 => ⟨S2x8192x2560, .f32⟩
  | 54 => ⟨S2x8192x2560, .f32⟩
  | 55 => ⟨S2x8192x1536, .f32⟩
  | 56 => ⟨S2x8192x24x64, .f32⟩
  | 57 => ⟨S2x8192x512, .f32⟩
  | 58 => ⟨S2x8192x4x128, .f32⟩
  | 59 => ⟨S2x8192x512, .f32⟩
  | 60 => ⟨S2x8192x4x128, .f32⟩
  | 61 => ⟨S1x1x24, .f32⟩
  | 62 => ⟨S2x8192x24, .f32⟩
  | 63 => ⟨S2x8192x24, .f32⟩
  | 64 => ⟨S_, .f32⟩
  | 65 => ⟨S2x8192x24, .f32⟩
  | 66 => ⟨S2x8192x24, .f32⟩
  | 67 => ⟨S2x8192x24, .f32⟩
  | 68 => ⟨S2x8192x24, .f32⟩
  | 69 => ⟨S2x8192x24, .i1⟩
  | 70 => ⟨S2x8192x24, .f32⟩
  | 71 => ⟨S2x8192x24, .f32⟩
  | 72 => ⟨S2x8192x24, .f32⟩
  | 73 => ⟨S2x8192x24, .f32⟩
  | 74 => ⟨S2x8192x24, .f32⟩
  | 75 => ⟨S2x8192x24, .f32⟩
  | 76 => ⟨S2x8192x24, .f32⟩
  | 77 => ⟨S2x8192x24, .f32⟩
  | 78 => ⟨S24, .f32⟩
  | 79 => ⟨S24, .f32⟩
  | 80 => ⟨S2x64x128x4x6x64, .f32⟩
  | 81 => ⟨S2x64x128x4x6, .f32⟩
  | 82 => ⟨S2x64x128x4x128, .f32⟩
  | 83 => ⟨S2x64x128x4x128, .f32⟩
  | 84 => ⟨S4x6, .f32⟩
  | 85 => ⟨S1x1x1x4x6, .f32⟩
  | 86 => ⟨S2x64x128x4x6, .f32⟩
  | 87 => ⟨S2x64x128x4x6, .f32⟩
  | 88 => ⟨S_, .f32⟩
  | 89 => ⟨S_, .f32⟩
  | 90 => ⟨S2x64x128x4x6, .f32⟩
  | 91 => ⟨S2x64x128x4x6x1, .f32⟩
  | 92 => ⟨S2x64x128x4x6x64, .f32⟩
  | 93 => ⟨S2x64x128x4x6x64, .f32⟩
  | 94 => ⟨S_, .i1⟩
  | 95 => ⟨S128x128, .i1⟩
  | 96 => ⟨S128x128, .i32⟩
  | 97 => ⟨S_, .i32⟩
  | 98 => ⟨S128x128, .i32⟩
  | 99 => ⟨S128x128, .i32⟩
  | 100 => ⟨S128x128, .i32⟩
  | 101 => ⟨S128x128, .i1⟩
  | 102 => ⟨S_, .i1⟩
  | 103 => ⟨S128x128, .i1⟩
  | 104 => ⟨S128x128, .i1⟩
  | 105 => ⟨S128x128x1x1, .i1⟩
  | 106 => ⟨S2x64x128x1x4x6, .f32⟩
  | 107 => ⟨S2x64x1x128x4x6, .f32⟩
  | 108 => ⟨S2x64x128x128x4x6, .f32⟩
  | 109 => ⟨S2x64x128x128x4x6, .f32⟩
  | 110 => ⟨S2x64x128x128x4x6, .f32⟩
  | 111 => ⟨S_, .f32⟩
  | 112 => ⟨S_, .f32⟩
  | 113 => ⟨S2x64x128x128x4x6, .i1⟩
  | 114 => ⟨S2x64x128x128x4x6, .f32⟩
  | 115 => ⟨S2x64x128x128x4x6, .f32⟩
  | 116 => ⟨S2x64x128x128x4x6, .f32⟩
  | 117 => ⟨S2x64x4x128x128, .f32⟩
  | 118 => ⟨S2x64x128x128x4, .f32⟩
  | 119 => ⟨S2x64x128x128x4x1, .f32⟩
  | 120 => ⟨S2x64x128x128x4x6, .f32⟩
  | 121 => ⟨S2x64x128x128x4x6, .f32⟩
  | 122 => ⟨S2x64x4x6x64x128, .f32⟩
  | 123 => ⟨S2x64x128x4x6x64, .f32⟩
  | 124 => ⟨S2x64x1x4x6, .f32⟩
  | 125 => ⟨S2x64x128x4x6, .f32⟩
  | 126 => ⟨S2x64x128x4x6, .f32⟩
  | 127 => ⟨S2x64x128x4x6, .f32⟩
  | _ => ⟨S16384x6144, .f32⟩

abbrev hbmTy0_1 (i : Nat) : BufTy := match i % 128 with
  | 0 => ⟨S2x64x128x4x6x1, .f32⟩
  | 1 => ⟨S2x64x128x4x6x64, .f32⟩
  | 2 => ⟨S2x64x128x4x6x64, .f32⟩
  | 3 => ⟨S2x64x4x6x64x128, .f32⟩
  | 4 => ⟨S2x64x1x4x6, .f32⟩
  | 5 => ⟨S2x64x4x6, .f32⟩
  | 6 => ⟨S2x64x4x6, .f32⟩
  | 7 => ⟨S2x4x6x64x128, .f32⟩
  | 8 => ⟨S64x2x4x6, .f32⟩
  | 9 => ⟨S64x2x4x6x64x128, .f32⟩
  | 10 => ⟨S_, .f32⟩
  | 11 => ⟨S64x2x4x6x64x128, .f32⟩
  | 12 => ⟨S_, .i32⟩
  | 13 => ⟨S64x2x4x6, .f32⟩
  | 14 => ⟨S64x2x4x6x64x128, .f32⟩
  | 15 => ⟨S_, .i32⟩
  | 16 => ⟨S2x4x6x64x128, .f32⟩
  | 17 => ⟨S64x2x4x6x64x128, .f32⟩
  | 18 => ⟨S_, .i32⟩
  | 19 => ⟨S_, .i1⟩
  | 20 => ⟨S_, .i32⟩
  | 21 => ⟨S_, .i32⟩
  | 22 => ⟨S_, .i32⟩
  | 23 => ⟨S1x2x4x6, .f32⟩
  | 24 => ⟨S2x4x6, .f32⟩
  | 25 => ⟨S_, .i32⟩
  | 26 => ⟨S_, .i32⟩
  | 27 => ⟨S_, .i32⟩
  | 28 => ⟨S_, .i32⟩
  | 29 => ⟨S_, .i32⟩
  | 30 => ⟨S1x2x4x6x64x128, .f32⟩
  | 31 => ⟨S2x4x6x64x128, .f32⟩
  | 32 => ⟨S2x4x6x1x1, .f32⟩
  | 33 => ⟨S2x4x6x64x128, .f32⟩
  | 34 => ⟨S2x4x6x64x128, .f32⟩
  | 35 => ⟨S2x4x6x64x128, .f32⟩
  | 36 => ⟨S1x2x4x6x64x128, .f32⟩
  | 37 => ⟨S_, .i32⟩
  | 38 => ⟨S_, .i32⟩
  | 39 => ⟨S_, .i32⟩
  | 40 => ⟨S_, .i32⟩
  | 41 => ⟨S_, .i32⟩
  | 42 => ⟨S64x2x4x6x64x128, .f32⟩
  | 43 => ⟨S_, .i32⟩
  | 44 => ⟨S_, .i32⟩
  | 45 => ⟨S2x64x4x6x64x128, .f32⟩
  | 46 => ⟨S2x64x4x6x64x128, .f32⟩
  | 47 => ⟨S2x64x128x4x6x64, .f32⟩
  | 48 => ⟨S2x64x128x4x6, .f32⟩
  | 49 => ⟨S2x64x128x4x6x1, .f32⟩
  | 50 => ⟨S2x64x128x4x6x64, .f32⟩
  | 51 => ⟨S2x64x128x4x6x64, .f32⟩
  | 52 => ⟨S2x64x128x4x6x64, .f32⟩
  | 53 => ⟨S2x8192x24x64, .f32⟩
  | 54 => ⟨S2x24x64x128, .f32⟩
  | 55 => ⟨S24x1, .f32⟩
  | 56 => ⟨S1x1x24x1, .f32⟩
  | 57 => ⟨S2x8192x24x64, .f32⟩
  | 58 => ⟨S2x8192x24x64, .f32⟩
  | 59 => ⟨S2x8192x24x64, .f32⟩
  | 60 => ⟨S2x8192x1536, .f32⟩
  | 61 => ⟨S2x8192x1536, .f32⟩
  | 62 => ⟨S2x8192x1536, .f32⟩
  | 63 => ⟨S_, .f32⟩
  | 64 => ⟨S2x8192x1536, .f32⟩
  | 65 => ⟨S2x8192x1536, .f32⟩
  | 66 => ⟨S_, .f32⟩
  | 67 => ⟨S2x8192x1536, .f32⟩
  | 68 => ⟨S2x8192x1536, .f32⟩
  | 69 => ⟨S2x8192x1536, .f32⟩
  | 70 => ⟨S2x8192x1536, .f32⟩
  | 71 => ⟨S2x8192x4x384, .f32⟩
  | 72 => ⟨S2x8192x4x384, .f32⟩
  | 73 => ⟨S_, .f32⟩
  | 74 => ⟨S2x8192x4, .f32⟩
  | 75 => ⟨S2x8192x4x1, .f32⟩
  | 76 => ⟨S_, .f32⟩
  | 77 => ⟨S2x8192x4x1, .f32⟩
  | 78 => ⟨S2x8192x4x1, .f32⟩
  | 79 => ⟨S_, .f32⟩
  | 80 => ⟨S2x8192x4x1, .f32⟩
  | 81 => ⟨S2x8192x4x1, .f32⟩
  | 82 => ⟨S2x8192x4x1, .f32⟩
  | 83 => ⟨S2x8192x4x384, .f32⟩
  | 84 => ⟨S2x8192x4x384, .f32⟩
  | 85 => ⟨S2x8192x1536, .f32⟩
  | 86 => ⟨S1x1x1536, .f32⟩
  | 87 => ⟨S2x8192x1536, .f32⟩
  | 88 => ⟨S2x8192x1536, .f32⟩
  | 89 => ⟨S16384x1536, .f32⟩
  | 90 => ⟨S2x1536x128, .f32⟩
  | _ => ⟨S16384x6144, .f32⟩

abbrev hbmTy (i : Nat) : BufTy := match i / 128 with
  | 0 => hbmTy0_0 i
  | 1 => hbmTy0_1 i
  | _ => ⟨S16384x6144, .f32⟩

abbrev bufTy : (tb : Table) → Fin (tcTables nBuf tb) → BufTy
  | .hbm, ⟨i, _⟩ => hbmTy i
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call2_call0_cst : Ref sig .tc := ⟨.hbm, 88, rfl⟩
abbrev main_call2_call0_v0 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c : Ref sig .tc := ⟨.hbm, 94, rfl⟩
abbrev main_v62 : Ref sig .tc := ⟨.hbm, 95, rfl⟩
abbrev main_call3_v0 : Ref sig .tc := ⟨.hbm, 96, rfl⟩
abbrev main_call3_c : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_c_0 : Ref sig .tc := ⟨.hbm, 102, rfl⟩
abbrev main_call3_v5 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_1 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_2 : Ref sig .tc := ⟨.hbm, 138, rfl⟩
abbrev main_v93 : Ref sig .tc := ⟨.hbm, 139, rfl⟩
abbrev main_c_3 : Ref sig .tc := ⟨.hbm, 140, rfl⟩
abbrev main_v94_0 : Ref sig .tc := ⟨.hbm, 141, rfl⟩
abbrev main_v94_1 : Ref sig .tc := ⟨.hbm, 142, rfl⟩
abbrev main_v94_2 : Ref sig .tc := ⟨.hbm, 143, rfl⟩
abbrev main_v94_3 : Ref sig .tc := ⟨.hbm, 144, rfl⟩
abbrev main_v94_4 : Ref sig .tc := ⟨.hbm, 145, rfl⟩
abbrev main_while0c_c_11 : Ref sig .tc := ⟨.hbm, 146, rfl⟩
abbrev main_while0c_v130 : Ref sig .tc := ⟨.hbm, 147, rfl⟩
abbrev main_while0b_call5_c : Ref sig .tc := ⟨.hbm, 148, rfl⟩
abbrev main_while0b_call5_c_0 : Ref sig .tc := ⟨.hbm, 149, rfl⟩
abbrev main_while0b_call5_c_1 : Ref sig .tc := ⟨.hbm, 150, rfl⟩
abbrev main_while0b_call5_v0 : Ref sig .tc := ⟨.hbm, 151, rfl⟩
abbrev main_while0b_v130 : Ref sig .tc := ⟨.hbm, 152, rfl⟩
abbrev main_while0b_call6_c : Ref sig .tc := ⟨.hbm, 153, rfl⟩
abbrev main_while0b_call6_c_0 : Ref sig .tc := ⟨.hbm, 154, rfl⟩
abbrev main_while0b_call6_c_1 : Ref sig .tc := ⟨.hbm, 155, rfl⟩
abbrev main_while0b_call6_c_2 : Ref sig .tc := ⟨.hbm, 156, rfl⟩
abbrev main_while0b_call6_c_3 : Ref sig .tc := ⟨.hbm, 157, rfl⟩
abbrev main_while0b_call6_v0 : Ref sig .tc := ⟨.hbm, 158, rfl⟩
abbrev main_while0b_v131 : Ref sig .tc := ⟨.hbm, 159, rfl⟩
abbrev main_while0b_v132 : Ref sig .tc := ⟨.hbm, 160, rfl⟩
abbrev main_while0b_v133 : Ref sig .tc := ⟨.hbm, 161, rfl⟩
abbrev main_while0b_v134 : Ref sig .tc := ⟨.hbm, 162, rfl⟩
abbrev main_while0b_v135 : Ref sig .tc := ⟨.hbm, 163, rfl⟩
abbrev main_while0b_call7_v0 : Ref sig .tc := ⟨.hbm, 164, rfl⟩
abbrev main_while0b_call7_c : Ref sig .tc := ⟨.hbm, 165, rfl⟩
abbrev main_while0b_call7_c_0 : Ref sig .tc := ⟨.hbm, 166, rfl⟩
abbrev main_while0b_call7_c_1 : Ref sig .tc := ⟨.hbm, 167, rfl⟩
abbrev main_while0b_call7_c_2 : Ref sig .tc := ⟨.hbm, 168, rfl⟩
abbrev main_while0b_call7_c_3 : Ref sig .tc := ⟨.hbm, 169, rfl⟩
abbrev main_while0b_v136 : Ref sig .tc := ⟨.hbm, 170, rfl⟩
abbrev main_while0b_c_11 : Ref sig .tc := ⟨.hbm, 171, rfl⟩
abbrev main_while0b_v137 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_call8_v0 : Ref sig .tc := ⟨.hbm, 189, rfl⟩
abbrev main_call8_v1 : Ref sig .tc := ⟨.hbm, 190, rfl⟩
abbrev main_call8_cst : Ref sig .tc := ⟨.hbm, 191, rfl⟩
abbrev main_call8_v2 : Ref sig .tc := ⟨.hbm, 192, rfl⟩
abbrev main_call8_v3 : Ref sig .tc := ⟨.hbm, 193, rfl⟩
abbrev main_call8_cst_0 : Ref sig .tc := ⟨.hbm, 194, rfl⟩
abbrev main_call8_v4 : Ref sig .tc := ⟨.hbm, 195, rfl⟩
abbrev main_call8_v5 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_cst_4 : Ref sig .tc := ⟨.hbm, 201, rfl⟩
abbrev main_v115 : Ref sig .tc := ⟨.hbm, 202, rfl⟩
abbrev main_v116 : Ref sig .tc := ⟨.hbm, 203, rfl⟩
abbrev main_cst_5 : Ref sig .tc := ⟨.hbm, 204, rfl⟩
abbrev main_v117 : Ref sig .tc := ⟨.hbm, 205, rfl⟩
abbrev main_v118 : Ref sig .tc := ⟨.hbm, 206, rfl⟩
abbrev main_cst_6 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S2x8192x1024 : Shape := ⟨3, ![2, 8192, 1024]⟩
abbrev S1x1024x5656 : Shape := ⟨3, ![1, 1024, 5656]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S16384x1024 : Shape := ⟨2, ![16384, 1024]⟩
abbrev S1024x5656 : Shape := ⟨2, ![1024, 5656]⟩
abbrev S1024x4096 : Shape := ⟨2, ![1024, 4096]⟩
abbrev S1024x1536 : Shape := ⟨2, ![1024, 1536]⟩
abbrev S1024x24 : Shape := ⟨2, ![1024, 24]⟩
abbrev S1024x512 : Shape := ⟨2, ![1024, 512]⟩
abbrev S1024x6144 : Shape := ⟨2, ![1024, 6144]⟩
abbrev S16384x6144 : Shape := ⟨2, ![16384, 6144]⟩
abbrev S1024x1024 : Shape := ⟨2, ![1024, 1024]⟩
abbrev S1024x128 : Shape := ⟨2, ![1024, 128]⟩

abbrev nBuf : Space → Nat
  | .hbm => 39
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S1x1024x5656, .f32⟩
  | .hbm, ⟨2, _⟩ => ⟨S8192, .i32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S8192, .f32⟩
  | .hbm, ⟨12, _⟩ => ⟨S8192x1, .f32⟩
  | .hbm, ⟨13, _⟩ => ⟨S1x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x64, .f32⟩
  | .hbm, ⟨20, _⟩ => ⟨S1x8192x1x64, .f32⟩
  | .hbm, ⟨21, _⟩ => ⟨S1x8192x2x64, .f32⟩
  | .hbm, ⟨22, _⟩ => ⟨S8192x128, .f32⟩
  | .hbm, ⟨23, _⟩ => ⟨S8192x32, .f32⟩
  | .hbm, ⟨24, _⟩ => ⟨S8192x64, .f32⟩
  | .hbm, ⟨25, _⟩ => ⟨S1x8192x1x64, .f32⟩
  | .hbm, ⟨26, _⟩ => ⟨S1x8192x2x64, .f32⟩
  | .hbm, ⟨27, _⟩ => ⟨S8192x128, .f32⟩
  | .hbm, ⟨28, _⟩ => ⟨S16384x1024, .f32⟩
  | .hbm, ⟨29, _⟩ => ⟨S1024x5656, .f32⟩
  | .hbm, ⟨30, _⟩ => ⟨S1024x4096, .f32⟩
  | .hbm, ⟨31, _⟩ => ⟨S1024x1536, .f32⟩
  | .hbm, ⟨32, _⟩ => ⟨S1024x24, .f32⟩
  | .hbm, ⟨33, _⟩ => ⟨S_, .i32⟩
  | .hbm, ⟨34, _⟩ => ⟨S_, .f32⟩
  | .hbm, ⟨35, _⟩ => ⟨S1024x512, .f32⟩
  | .hbm, ⟨36, _⟩ => ⟨S1024x6144, .f32⟩
  | .hbm, ⟨37, _⟩ => ⟨S1024x6144, .bf16⟩
  | .hbm, ⟨38, _⟩ => ⟨S16384x6144, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_c : Ref sig .tc := ⟨.hbm, 33, rfl⟩
abbrev main_call0_v0 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 6], ![false, false]⟩

def k0_cond2 (i : grid0.Coords) : BitVec 1 :=
  let arg1 : BitVec 32 := BitVec.ofNat 32 (i 1).val
  let c4_i32 : BitVec 32 := 4#32
  let v7 : BitVec 1 := Scalar.cmpi .eq arg1 c4_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c4_i32_5 : BitVec 32 := 4#32
  let v10 : BitVec 1 := Scalar.cmpi .ne arg1 c4_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S2x8192x1024 : Shape := ⟨3, ![2, 8192, 1024]⟩
abbrev S1x1024x5656 : Shape := ⟨3, ![1, 1024, 5656]⟩
abbrev S8192 : Shape := ⟨1, ![8192]⟩
abbrev S1024x5656 : Shape := ⟨2, ![1024, 5656]⟩
abbrev S2x8192x5656 : Shape := ⟨3, ![2, 8192, 5656]⟩
abbrev S2x8192x1536 : Shape := ⟨3, ![2, 8192, 1536]⟩
abbrev S2x8192x2560 : Shape := ⟨3, ![2, 8192, 2560]⟩
abbrev S2x8192x24 : Shape := ⟨3, ![2, 8192, 24]⟩
abbrev S2x8192x3x8x64 : Shape := ⟨5, ![2, 8192, 3, 8, 64]⟩
abbrev S2x8192x1x8x64 : Shape := ⟨5, ![2, 8192, 1, 8, 64]⟩
abbrev S2x8192x8x64 : Shape := ⟨4, ![2, 8192, 8, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x8x32 : Shape := ⟨4, ![2, 8192, 8, 32]⟩
abbrev S2x8192x512 : Shape := ⟨3, ![2, 8192, 512]⟩
abbrev S2x8192x488 : Shape := ⟨3, ![2, 8192, 488]⟩
abbrev S2x8192x6144 : Shape := ⟨3, ![2, 8192, 6144]⟩
abbrev S16384x6144 : Shape := ⟨2, ![16384, 6144]⟩

abbrev nBuf : Space → Nat
  | .hbm => 85
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024x5656, .f32⟩
  | .hbm, ⟨2, _⟩ => ⟨S8192, .i32⟩
  | .hbm, ⟨3, _⟩ => ⟨S1024x5656, .f32⟩
  | .hbm, ⟨4, _⟩ => ⟨S2x8192x5656, .f32⟩
  | .hbm, ⟨5, _⟩ => ⟨S2x8192x1536, .f32⟩
  | .hbm, ⟨6, _⟩ => ⟨S2x8192x2560, .f32⟩
  | .hbm, ⟨7, _⟩ => ⟨S2x8192x24, .f32⟩
  | .hbm, ⟨8, _⟩ => ⟨S2x8192x1536, .f32⟩
  | .hbm, ⟨9, _⟩ => ⟨S2x8192x3x8x64, .f32⟩
  | .hbm, ⟨10, _⟩ => ⟨S2x8192x1x8x64, .f32⟩
  | .hbm, ⟨11, _⟩ => ⟨S2x8192x8x64, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S8192, .f32⟩
  | .hbm, ⟨21, _⟩ => ⟨S8192x1, .f32⟩
  | .hbm, ⟨22, _⟩ => ⟨S1x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S1x8192x1x32, .f32⟩
  | .hbm, ⟨28, _⟩ => ⟨S8192x32, .f32⟩
  | .hbm, ⟨29, _⟩ => ⟨S1x8192x1x32, .f32⟩
  | .hbm, ⟨30, _⟩ => ⟨S2x8192x8x32, .f32⟩
  | .hbm, ⟨31, _⟩ => ⟨S2x8192x8x32, .f32⟩
  | .hbm, ⟨32, _⟩ => ⟨S2x8192x8x32, .f32⟩
  | .hbm, ⟨33, _⟩ => ⟨S2x8192x8x32, .f32⟩
  | .hbm, ⟨34, _⟩ => ⟨S2x8192x8x32, .f32⟩
  | .hbm, ⟨35, _⟩ => ⟨S2x8192x8x32, .f32⟩
  | .hbm, ⟨36, _⟩ => ⟨S2x8192x8x32, .f32⟩
  | .hbm, ⟨37, _⟩ => ⟨S2x8192x8x32, .f32⟩
  | .hbm, ⟨38, _⟩ => ⟨S2x8192x8x32, .f32⟩
  | .hbm, ⟨39, _⟩ => ⟨S2x8192x8x32, .f32⟩
  | .hbm, ⟨40, _⟩ => ⟨S2x8192x8x32, .f32⟩
  | .hbm, ⟨41, _⟩ => ⟨S2x8192x8x32, .f32⟩
  | .hbm, ⟨42, _⟩ => ⟨S2x8192x8x64, .f32⟩
  | .hbm, ⟨43, _⟩ => ⟨S2x8192x1x8x64, .f32⟩
  | .hbm, ⟨44, _⟩ => ⟨S2x8192x8x64, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S8192, .f32⟩
  | .hbm, ⟨54, _⟩ => ⟨S8192x1, .f32⟩
  | .hbm, ⟨55, _⟩ => ⟨S1x32, .f32⟩
  | .hbm, ⟨56, _⟩ => ⟨S8192x32, .f32⟩
  | .hbm, ⟨57, _⟩ => ⟨S8192x32, .f32⟩
  | .hbm, ⟨58, _⟩ => ⟨S8192x32, .f32⟩
  | .hbm, ⟨59, _⟩ => ⟨S8192x32, .f32⟩
  | .hbm, ⟨60, _⟩ => ⟨S1x8192x1x32, .f32⟩
  | .hbm, ⟨61, _⟩ => ⟨S8192x32, .f32⟩
  | .hbm, ⟨62, _⟩ => ⟨S1x8192x1x32, .f32⟩
  | .hbm, ⟨63, _⟩ => ⟨S2x8192x8x32, .f32⟩
  | .hbm, ⟨64, _⟩ => ⟨S2x8192x8x32, .f32⟩
  | .hbm, ⟨65, _⟩ => ⟨S2x8192x8x32, .f32⟩
  | .hbm, ⟨66, _⟩ => ⟨S2x8192x8x32, .f32⟩
  | .hbm, ⟨67, _⟩ => ⟨S2x8192x8x32, .f32⟩
  | .hbm, ⟨68, _⟩ => ⟨S2x8192x8x32, .f32⟩
  | .hbm, ⟨69, _⟩ => ⟨S2x8192x8x32, .f32⟩
  | .hbm, ⟨70, _⟩ => ⟨S2x8192x8x32, .f32⟩
  | .hbm, ⟨71, _⟩ => ⟨S2x8192x8x32, .f32⟩
  | .hbm, ⟨72, _⟩ => ⟨S2x8192x8x32, .f32⟩
  | .hbm, ⟨73, _⟩ => ⟨S2x8192x8x32, .f32⟩
  | .hbm, ⟨74, _⟩ => ⟨S2x8192x8x32, .f32⟩
  | .hbm, ⟨75, _⟩ => ⟨S2x8192x8x64, .f32⟩
  | .hbm, ⟨76, _⟩ => ⟨S2x8192x1x8x64, .f32⟩
  | .hbm, ⟨77, _⟩ => ⟨S2x8192x8x64, .f32⟩
  | .hbm, ⟨78, _⟩ => ⟨S2x8192x512, .f32⟩
  | .hbm, ⟨79, _⟩ => ⟨S2x8192x512, .f32⟩
  | .hbm, ⟨80, _⟩ => ⟨S2x8192x512, .f32⟩
  | .hbm, ⟨81, _⟩ => ⟨S_, .f32⟩
  | .hbm, ⟨82, _⟩ => ⟨S2x8192x488, .f32⟩
  | .hbm, ⟨83, _⟩ => ⟨S2x8192x6144, .f32⟩
  | .hbm, ⟨84, _⟩ => ⟨S16384x6144, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_cst_1 : Ref sig .tc := ⟨.hbm, 47, rfl⟩
abbrev main_v43 : Ref sig .tc := ⟨.hbm, 48, rfl⟩
abbrev main_v44 : Ref sig .tc := ⟨.hbm, 49, rfl⟩
abbrev main_cst_2 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_cst_3 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩

abbrev nD : Nat := 1
abbrev τ : Topo := Topo.v7x

variable {F : FTy → Type} [FloatOps F]
-- ==== Kernel3.lean ====
abbrev S16384x1536 : Shape := ⟨2, ![16384, 1536]⟩
abbrev S16384x512 : Shape := ⟨2, ![16384, 512]⟩
abbrev S2x8192x1024 : Shape := ⟨3, ![2, 8192, 1024]⟩
abbrev S1x2048x1024 : Shape := ⟨3, ![1, 2048, 1024]⟩
abbrev S1x1024 : Shape := ⟨2, ![1, 1024]⟩
abbrev S16384x1024 : Shape := ⟨2, ![16384, 1024]⟩
abbrev S2048x1024 : Shape := ⟨2, ![2048, 1024]⟩
abbrev S1536x1024 : Shape := ⟨2, ![1536, 1024]⟩
abbrev S512x1024 : Shape := ⟨2, ![512, 1024]⟩
abbrev S1024 : Shape := ⟨1, ![1024]⟩
abbrev S512x1536 : Shape := ⟨2, ![512, 1536]⟩
abbrev S512x512 : Shape := ⟨2, ![512, 512]⟩
abbrev S512 : Shape := ⟨1, ![512]⟩
abbrev S512x1 : Shape := ⟨2, ![512, 1]⟩

abbrev nBuf : Space → Nat
  | .hbm => 18
  | .vmem => 12
  | .smem => 0
  | _ => 0

abbrev bufTy : (tb : Table) → Fin (tcTables nBuf tb) → BufTy
  | .hbm, ⟨0, _⟩ => ⟨S16384x1536, .f32⟩
  | .hbm, ⟨1, _⟩ => ⟨S16384x512, .f32⟩
  | .hbm, ⟨2, _⟩ => ⟨S2x8192x1024, .f32⟩
  | .hbm, ⟨3, _⟩ => ⟨S1x2048x1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S2048x1024, .f32⟩
  | .hbm, ⟨8, _⟩ => ⟨S1536x1024, .f32⟩
  | .hbm, ⟨9, _⟩ => ⟨S1536x1024, .bf16⟩
  | .hbm, ⟨10, _⟩ => ⟨S2048x1024, .f32⟩
  | .hbm, ⟨11, _⟩ => ⟨S512x1024, .f32⟩
  | .hbm, ⟨12, _⟩ => ⟨S512x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .f32⟩
  | .local _ .vmem, ⟨0, _⟩ => ⟨S512x1536, .f32⟩
  | .local _ .vmem, ⟨1, _⟩ => ⟨S512x1536, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1536x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x1536 : Shape := ⟨2, ![16384, 1536]⟩
abbrev S16384x512 : Shape := ⟨2, ![16384, 512]⟩
abbrev S2x8192x1024 : Shape := ⟨3, ![2, 8192, 1024]⟩
abbrev S1x2048x1024 : Shape := ⟨3, ![1, 2048, 1024]⟩
abbrev S1x1024 : Shape := ⟨2, ![1, 1024]⟩
abbrev S2x8192x1536 : Shape := ⟨3, ![2, 8192, 1536]⟩
abbrev S2x8192x512 : Shape := ⟨3, ![2, 8192, 512]⟩
abbrev S2x8192x2048 : Shape := ⟨3, ![2, 8192, 2048]⟩
abbrev S2048x1024 : Shape := ⟨2, ![2048, 1024]⟩
abbrev S_ : Shape := ⟨0, ![]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16384x1536, .f32⟩
  | .hbm, ⟨1, _⟩ => ⟨S16384x512, .f32⟩
  | .hbm, ⟨2, _⟩ => ⟨S2x8192x1024, .f32⟩
  | .hbm, ⟨3, _⟩ => ⟨S1x2048x1024, .f32⟩
  | .hbm, ⟨4, _⟩ => ⟨S1x1024, .f32⟩
  | .hbm, ⟨5, _⟩ => ⟨S1x1024, .f32⟩
  | .hbm, ⟨6, _⟩ => ⟨S2x8192x1536, .f32⟩
  | .hbm, ⟨7, _⟩ => ⟨S2x8192x512, .f32⟩
  | .hbm, ⟨8, _⟩ => ⟨S2x8192x2048, .f32⟩
  | .hbm, ⟨9, _⟩ => ⟨S2048x1024, .f32⟩
  | .hbm, ⟨10, _⟩ => ⟨S2x8192x1024, .f32⟩
  | .hbm, ⟨11, _⟩ => ⟨S_, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x1, .f32⟩
  | .hbm, ⟨36, _⟩ => ⟨S2x8192x1024, .f32⟩
  | .hbm, ⟨37, _⟩ => ⟨S2x8192x1024, .f32⟩
  | .hbm, ⟨38, _⟩ => ⟨S1x1x1024, .f32⟩
  | .hbm, ⟨39, _⟩ => ⟨S2x8192x1024, .f32⟩
  | .hbm, ⟨40, _⟩ => ⟨S2x8192x1024, .f32⟩
  | .hbm, ⟨41, _⟩ => ⟨S1x1x1024, .f32⟩
  | .hbm, ⟨42, _⟩ => ⟨S2x8192x1024, .f32⟩
  | .hbm, ⟨43, _⟩ => ⟨S2x8192x1024, .f32⟩
  | .hbm, ⟨44, _⟩ => ⟨S16384x1024, .f32⟩
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel4.lean ====
abbrev S128x4x1024 : Shape := ⟨3, ![128, 4, 1024]⟩
abbrev S1x1024x5656 : Shape := ⟨3, ![1, 1024, 5656]⟩
abbrev S4 : Shape := ⟨1, ![4]⟩
abbrev S_ : Shape := ⟨0, ![]⟩
abbrev S1x4 : Shape := ⟨2, ![1, 4]⟩
abbrev S128x4 : Shape := ⟨2, ![128, 4]⟩
abbrev S512 : Shape := ⟨1, ![512]⟩
abbrev S32 : Shape := ⟨1, ![32]⟩
abbrev S512x1 : Shape := ⟨2, ![512, 1]⟩
abbrev S1x32 : Shape := ⟨2, ![1, 32]⟩
abbrev S512x32 : Shape := ⟨2, ![512, 32]⟩
abbrev S512x64 : Shape := ⟨2, ![512, 64]⟩
abbrev S1x512x1x64 : Shape := ⟨4, ![1, 512, 1, 64]⟩
abbrev S1x512x2x64 : Shape := ⟨4, ![1, 512, 2, 64]⟩
abbrev S512x128 : Shape := ⟨2, ![512, 128]⟩
abbrev S512x1024 : Shape := ⟨2, ![512, 1024]⟩
abbrev S1024x5656 : Shape := ⟨2, ![1024, 5656]⟩
abbrev S1024x4096 : Shape := ⟨2, ![1024, 4096]⟩
abbrev S1024x1536 : Shape := ⟨2, ![1024, 1536]⟩
abbrev S1024x24 : Shape := ⟨2, ![1024, 24]⟩
abbrev S1024x512 : Shape := ⟨2, ![1024, 512]⟩
abbrev S1024x6144 : Shape := ⟨2, ![1024, 6144]⟩
abbrev S512x6144 : Shape := ⟨2, ![512, 6144]⟩
abbrev S1024x1024 : Shape := ⟨2, ![1024, 1024]⟩

abbrev nBuf : Space → Nat
  | .hbm => 45
  | .vmem => 8
  | .smem => 0
  | _ => 0

abbrev bufTy : (tb : Table) → Fin (tcTables nBuf tb) → BufTy
  | .hbm, ⟨0, _⟩ => ⟨S128x4x1024, .f32⟩
  | .hbm, ⟨1, _⟩ => ⟨S1x1024x5656, .f32⟩
  | .hbm, ⟨2, _⟩ => ⟨S4, .i32⟩
  | .hbm, ⟨3, _⟩ => ⟨S_, .i32⟩
  | .hbm, ⟨4, _⟩ => ⟨S4, .i32⟩
  | .hbm, ⟨5, _⟩ => ⟨S4, .i32⟩
  | .hbm, ⟨6, _⟩ => ⟨S1x4, .i32⟩
  | .hbm, ⟨7, _⟩ => ⟨S128x4, .i32⟩
  | .hbm, ⟨8, _⟩ => ⟨S512, .i32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S512, .f32⟩
  | .hbm, ⟨18, _⟩ => ⟨S512x1, .f32⟩
  | .hbm, ⟨19, _⟩ => ⟨S1x32, .f32⟩
  | .hbm, ⟨20, _⟩ => ⟨S512x32, .f32⟩
  | .hbm, ⟨21, _⟩ => ⟨S512x32, .f32⟩
  | .hbm, ⟨22, _⟩ => ⟨S512x32, .f32⟩
  | .hbm, ⟨23, _⟩ => ⟨S512x32, .f32⟩
  | .hbm, ⟨24, _⟩ => ⟨S512x32, .f32⟩
  | .hbm, ⟨25, _⟩ => ⟨S512x64, .f32⟩
  | .hbm, ⟨26, _⟩ => ⟨S1x512x1x64, .f32⟩
  | .hbm, ⟨27, _⟩ => ⟨S1x512x2x64, .f32⟩
  | .hbm, ⟨28, _⟩ => ⟨S512x128, .f32⟩
  | .hbm, ⟨29, _⟩ => ⟨S512x32, .f32⟩
  | .hbm, ⟨30, _⟩ => ⟨S512x64, .f32⟩
  | .hbm, ⟨31, _⟩ => ⟨S1x512x1x64, .f32⟩
  | .hbm, ⟨32, _⟩ => ⟨S1x512x2x64, .f32⟩
  | .hbm, ⟨33, _⟩ => ⟨S512x128, .f32⟩
  | .hbm, ⟨34, _⟩ => ⟨S512x1024, .f32⟩
  | .hbm, ⟨35, _⟩ => ⟨S1024x5656, .f32⟩
  | .hbm, ⟨36, _⟩ => ⟨S1024x4096, .f32⟩
  | .hbm, ⟨37, _⟩ => ⟨S1024x1536, .f32⟩
  | .hbm, ⟨38, _⟩ => ⟨S1024x24, .f32⟩
  | .hbm, ⟨39, _⟩ => ⟨S_, .i32⟩
  | .hbm, ⟨40, _⟩ => ⟨S_, .f32⟩
  | .hbm, ⟨41, _⟩ => ⟨S1024x512, .f32⟩
  | .hbm, ⟨42, _⟩ => ⟨S1024x6144, .f32⟩
  | .hbm, ⟨43, _⟩ => ⟨S1024x6144, .bf16⟩
  | .hbm, ⟨44, _⟩ => ⟨S512x6144, .f32⟩
  | .local _ .vmem, ⟨0, _⟩ => ⟨S512x1024, .f32⟩
  | .local _ .vmem, ⟨1, _⟩ => ⟨S1024x1024, .bf16⟩
  | .local _ .vmem, ⟨2, _⟩ => ⟨S1024x1024, .bf16⟩
  | .local _ .vmem, ⟨3, _⟩ => ⟨S512x128, .f32⟩
  | .local _ .vmem, ⟨4, _⟩ => ⟨S512x128, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_c_1 : Ref sig .tc := ⟨.hbm, 39, rfl⟩
abbrev main_call0_v0 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 6], ![false, false]⟩

def k0_cond2 (i : grid0.Coords) : BitVec 1 :=
  let arg1 : BitVec 32 := BitVec.ofNat 32 (i 1).val
  let c4_i32 : BitVec 32 := 4#32
  let v7 : BitVec 1 := Scalar.cmpi .eq arg1 c4_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c4_i32_5 : BitVec 32 := 4#32
  let v10 : BitVec 1 := Scalar.cmpi .ne arg1 c4_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S128x4x1024 : Shape := ⟨3, ![128, 4, 1024]⟩
abbrev S1x1024x5656 : Shape := ⟨3, ![1, 1024, 5656]⟩
abbrev S4 : Shape := ⟨1, ![4]⟩
abbrev S_ : Shape := ⟨0, ![]⟩
abbrev S1024x5656 : Shape := ⟨2, ![1024, 5656]⟩
abbrev S128x4x5656 : Shape := ⟨3, ![128, 4, 5656]⟩
abbrev S128x4x1536 : Shape := ⟨3, ![128, 4, 1536]⟩
abbrev S128x4x2560 : Shape := ⟨3, ![128, 4, 2560]⟩
abbrev S128x4x24 : Shape := ⟨3, ![128, 4, 24]⟩
abbrev S128x4x3x8x64 : Shape := ⟨5, ![128, 4, 3, 8, 64]⟩
abbrev S128x4x1x8x64 : Shape := ⟨5, ![128, 4, 1, 8, 64]⟩
abbrev S128x4x8x64 : Shape := ⟨4, ![128, 4, 8, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S1x4x1x32 : Shape := ⟨4, ![1, 4, 1, 32]⟩
abbrev S128x4x8x32 : Shape := ⟨4, ![128, 4, 8, 32]⟩
abbrev S128x4x512 : Shape := ⟨3, ![128, 4, 512]⟩
abbrev S128x4x488 : Shape := ⟨3, ![128, 4, 488]⟩
abbrev S128x4x6144 : Shape := ⟨3, ![128, 4, 6144]⟩
abbrev S512x6144 : Shape := ⟨2, ![512, 6144]⟩

abbrev nBuf : Space → Nat
  | .hbm => 88
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x1024x5656, .f32⟩
  | .hbm, ⟨2, _⟩ => ⟨S4, .i32⟩
  | .hbm, ⟨3, _⟩ => ⟨S_, .i32⟩
  | .hbm, ⟨4, _⟩ => ⟨S4, .i32⟩
  | .hbm, ⟨5, _⟩ => ⟨S4, .i32⟩
  | .hbm, ⟨6, _⟩ => ⟨S1024x5656, .f32⟩
  | .hbm, ⟨7, _⟩ => ⟨S128x4x5656, .f32⟩
  | .hbm, ⟨8, _⟩ => ⟨S128x4x1536, .f32⟩
  | .hbm, ⟨9, _⟩ => ⟨S128x4x2560, .f32⟩
  | .hbm, ⟨10, _⟩ => ⟨S128x4x24, .f32⟩
  | .hbm, ⟨11, _⟩ => ⟨S128x4x1536, .f32⟩
  | .hbm, ⟨12, _⟩ => ⟨S128x4x3x8x64, .f32⟩
  | .hbm, ⟨13, _⟩ => ⟨S128x4x1x8x64, .f32⟩
  | .hbm, ⟨14, _⟩ => ⟨S128x4x8x64, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S4, .f32⟩
  | .hbm, ⟨24, _⟩ => ⟨S4x1, .f32⟩
  | .hbm, ⟨25, _⟩ => ⟨S1x32, .f32⟩
  | .hbm, ⟨26, _⟩ => ⟨S4x32, .f32⟩
  | .hbm, ⟨27, _⟩ => ⟨S4x32, .f32⟩
  | .hbm, ⟨28, _⟩ => ⟨S4x32, .f32⟩
  | .hbm, ⟨29, _⟩ => ⟨S4x32, .f32⟩
  | .hbm, ⟨30, _⟩ => ⟨S1x4x1x32, .f32⟩
  | .hbm, ⟨31, _⟩ => ⟨S4x32, .f32⟩
  | .hbm, ⟨32, _⟩ => ⟨S1x4x1x32, .f32⟩
  | .hbm, ⟨33, _⟩ => ⟨S128x4x8x32, .f32⟩
  | .hbm, ⟨34, _⟩ => ⟨S128x4x8x32, .f32⟩
  | .hbm, ⟨35, _⟩ => ⟨S128x4x8x32, .f32⟩
  | .hbm, ⟨36, _⟩ => ⟨S128x4x8x32, .f32⟩
  | .hbm, ⟨37, _⟩ => ⟨S128x4x8x32, .f32⟩
  | .hbm, ⟨38, _⟩ => ⟨S128x4x8x32, .f32⟩
  | .hbm, ⟨39, _⟩ => ⟨S128x4x8x32, .f32⟩
  | .hbm, ⟨40, _⟩ => ⟨S128x4x8x32, .f32⟩
  | .hbm, ⟨41, _⟩ => ⟨S128x4x8x32, .f32⟩
  | .hbm, ⟨42, _⟩ => ⟨S128x4x8x32, .f32⟩
  | .hbm, ⟨43, _⟩ => ⟨S128x4x8x32, .f32⟩
  | .hbm, ⟨44, _⟩ => ⟨S128x4x8x32, .f32⟩
  | .hbm, ⟨45, _⟩ => ⟨S128x4x8x64, .f32⟩
  | .hbm, ⟨46, _⟩ => ⟨S128x4x1x8x64, .f32⟩
  | .hbm, ⟨47, _⟩ => ⟨S128x4x8x64, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S4, .f32⟩
  | .hbm, ⟨57, _⟩ => ⟨S4x1, .f32⟩
  | .hbm, ⟨58, _⟩ => ⟨S1x32, .f32⟩
  | .hbm, ⟨59, _⟩ => ⟨S4x32, .f32⟩
  | .hbm, ⟨60, _⟩ => ⟨S4x32, .f32⟩
  | .hbm, ⟨61, _⟩ => ⟨S4x32, .f32⟩
  | .hbm, ⟨62, _⟩ => ⟨S4x32, .f32⟩
  | .hbm, ⟨63, _⟩ => ⟨S1x4x1x32, .f32⟩
  | .hbm, ⟨64, _⟩ => ⟨S4x32, .f32⟩
  | .hbm, ⟨65, _⟩ => ⟨S1x4x1x32, .f32⟩
  | .hbm, ⟨66, _⟩ => ⟨S128x4x8x32, .f32⟩
  | .hbm, ⟨67, _⟩ => ⟨S128x4x8x32, .f32⟩
  | .hbm, ⟨68, _⟩ => ⟨S128x4x8x32, .f32⟩
  | .hbm, ⟨69, _⟩ => ⟨S128x4x8x32, .f32⟩
  | .hbm, ⟨70, _⟩ => ⟨S128x4x8x32, .f32⟩
  | .hbm, ⟨71, _⟩ => ⟨S128x4x8x32, .f32⟩
  | .hbm, ⟨72, _⟩ => ⟨S128x4x8x32, .f32⟩
  | .hbm, ⟨73, _⟩ => ⟨S128x4x8x32, .f32⟩
  | .hbm, ⟨74, _⟩ => ⟨S128x4x8x32, .f32⟩
  | .hbm, ⟨75, _⟩ => ⟨S128x4x8x32, .f32⟩
  | .hbm, ⟨76, _⟩ => ⟨S128x4x8x32, .f32⟩
  | .hbm, ⟨77, _⟩ => ⟨S128x4x8x32, .f32⟩
  | .hbm, ⟨78, _⟩ => ⟨S128x4x8x64, .f32⟩
  | .hbm, ⟨79, _⟩ => ⟨S128x4x1x8x64, .f32⟩
  | .hbm, ⟨80, _⟩ => ⟨S128x4x8x64, .f32⟩
  | .hbm, ⟨81, _⟩ => ⟨S128x4x512, .f32⟩
  | .hbm, ⟨82, _⟩ => ⟨S128x4x512, .f32⟩
  | .hbm, ⟨83, _⟩ => ⟨S128x4x512, .f32⟩
  | .hbm, ⟨84, _⟩ => ⟨S_, .f32⟩
  | .hbm, ⟨85, _⟩ => ⟨S128x4x488, .f32⟩
  | .hbm, ⟨86, _⟩ => ⟨S128x4x6144, .f32⟩
  | .hbm, ⟨87, _⟩ => ⟨S512x6144, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst_1 : Ref sig .tc := ⟨.hbm, 50, rfl⟩
abbrev main_v45 : Ref sig .tc := ⟨.hbm, 51, rfl⟩
abbrev main_v46 : Ref sig .tc := ⟨.hbm, 52, rfl⟩
abbrev main_cst_2 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_cst_3 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩

abbrev nD : Nat := 1
abbrev τ : Topo := Topo.v7x

variable {F : FTy → Type} [FloatOps F]
-- ==== Proof.Chunk.lean ====
/- One grid point of the recurrence kernel, written once as functions of the head, lane block and group number, over
   whatever its loads return. The three cases of the frame (first, middle and last chunk of a sequence) are this with
   the loads filled in. -/
module

public import proofs.«01_k».proof.Proof.Gen.KernelIdeal.Skeleton

@[expose] public section

set_option maxRecDepth 16384

noncomputable section

namespace Cert.KernelIdeal.Chunk

open Idealize.ShloMosaic Idealize.SL.Sem Cert.KernelIdeal.Gen

variable {F : FTy → Type} [FloatOps F]

/-- What the body loads at a grid point. -/
structure Loads (F : FTy → Type) where
  buf : (r blk : ℕ) → r + 128 ≤ 136 → blk < 20 → Vec F S128x128 .f32
  cb : (blk : ℕ) → blk < 20 → Vec F S1x128 .f32
  cw : (tap blk : ℕ) → tap < 4 → blk < 20 → Vec F S1x128 .f32
  dtr : Vec F S128x128 .f32
  dtb : Vec F S1x128 .f32
  av : Vec F S1x128 .f32
  hin : (g : Fin 4) → Vec F S384x128 .f32
  dsk : (p : ℕ) → p < 12 → Vec F S1x128 .f32
  ng : (p : ℕ) → p < 12 → Vec F S1x128 .f32
  z : Fin 3 → Vec F S128x512 .f32

theorem slices_col (h : ℕ) (hh : h < 128) : S128x128.Slices ![0, h] S128x1 :=
  ⟨rfl, fun a => by fin_cases a <;> simp [S128x128, S128x1] <;> omega⟩

theorem slices_row (h : ℕ) (hh : h < 128) : S128x128.Slices ![h, 0] S1x128 :=
  ⟨rfl, fun a => by fin_cases a <;> simp [S128x128, S1x128] <;> omega⟩

theorem slices_ent (h : ℕ) (hh : h < 128) : S1x128.Slices ![0, h] S1x1 :=
  ⟨rfl, fun a => by fin_cases a <;> simp [S1x128, S1x1] <;> omega⟩

theorem slices_off (k : ℕ) (hk : k < 3) : S128x384.Slices ![0, 128 * k] S128x128 :=
  ⟨rfl, fun a => by fin_cases a <;> simp [S128x384, S128x128] <;> omega⟩

theorem slices_z (k : ℕ) (hk : k < 4) : S128x512.Slices ![0, 128 * k] S128x128 :=
  ⟨rfl, fun a => by fin_cases a <;> simp [S128x512, S128x128] <;> omega⟩

/-- A row of lanes over all rows. -/
def rows (v : Vec F S1x128 .f32) : FVec F S128x128 .f32 := broadcastTo S128x128 v broadcasts_S1x128_S128x128

/-- A row of lanes over all rows, through a cast that changes nothing. -/
def rowsC (v : Vec F S1x128 .f32) : FVec F S128x128 .f32 :=
  broadcastTo S128x128 (shapeCast S1x128 v shapeCasts_S1x128_S1x128) broadcasts_S1x128_S128x128

/-- Column `h` over all lanes. -/
def col (X : FVec F S128x128 .f32) (h : ℕ) (hh : h < 128) : FVec F S128x128 .f32 :=
  broadcastTo S128x128 (shapeCast S128x1 (extractStridedSlice S128x1 ![0, h] X (slices_col h hh)) shapeCasts_S128x1_S128x1)
    broadcasts_S128x1_S128x128

/-- Row `h` over all rows. -/
def rowOf (X : FVec F S128x128 .f32) (h : ℕ) (hh : h < 128) : FVec F S128x128 .f32 :=
  broadcastTo S128x128 (extractStridedSlice S1x128 ![h, 0] X (slices_row h hh)) broadcasts_S1x128_S128x128

/-- Columns `h` and `h + 1`, each over its half of the lanes. -/
def pair (X : FVec F S128x128 .f32) (h : ℕ) (hh : h + 1 < 128) : FVec F S128x128 .f32 :=
  select (k0_pay57) (col X h (by omega)) (col X (h + 1) hh)

def silu (x : FVec F S128x128 .f32) : FVec F S128x128 .f32 :=
  divf x (addf (broadcast S128x128 (Scalar.ofBits .f32 0x3F800000#32 : F .f32))
    (exp (subf (broadcast S128x128 (Scalar.ofBits .f32 0x00000000#32 : F .f32)) x)))

/-- The convolution of lane block `blk`. -/
def conv (L : Loads F) (blk : ℕ) (hb : blk < 20) : FVec F S128x128 .f32 :=
  addf (addf (addf (addf (rowsC (L.cb blk hb))
    (mulf (L.buf 5 blk (by omega) hb) (rows (L.cw 0 blk (by omega) hb))))
    (mulf (L.buf 6 blk (by omega) hb) (rows (L.cw 1 blk (by omega) hb))))
    (mulf (L.buf 7 blk (by omega) hb) (rows (L.cw 2 blk (by omega) hb))))
    (mulf (L.buf 8 blk (by omega) hb) (rows (L.cw 3 blk (by omega) hb)))

def act (L : Loads F) (blk : ℕ) (hb : blk < 20) : FVec F S128x128 .f32 := silu (conv L blk hb)

def dtv (L : Loads F) : FVec F S128x128 .f32 := k0_pay49 L.dtr L.dtb
def acs (L : Loads F) : FVec F S128x128 .f32 := k0_pay50 L.dtr L.dtb L.av
def acsT (L : Loads F) : FVec F S128x128 .f32 := k0_pay51 L.dtr L.dtb L.av
def eacs (L : Loads F) : FVec F S128x128 .f32 := k0_pay52 L.dtr L.dtb L.av
def last (L : Loads F) : FVec F S1x128 .f32 := k0_pay53 L.dtr L.dtb L.av
def dte (L : Loads F) : FVec F S128x128 .f32 := k0_pay54 (acs L) (last L)
def cdec (L : Loads F) : FVec F S1x128 .f32 := k0_pay55 (last L)

def bmb (L : Loads F) (g : Fin 4) : FVec F S128x128 .bf16 := truncf .bf16 (act L (12 + g) (by omega)) bitsLt_bf16_f32
def cmb (L : Loads F) (g : Fin 4) : FVec F S128x128 .bf16 := truncf .bf16 (act L (16 + g) (by omega)) bitsLt_bf16_f32

def cbm (L : Loads F) (g : Fin 4) : FVec F S128x128 .f32 :=
  matmul dot_S128x128_S128x128_S128x128_1_1_0_0_n_n none (cmb L g) (bmb L g) (constant S128x128 .f32 0x00000000#32)

def yoff (L : Loads F) (g : Fin 4) : FVec F S128x384 .f32 :=
  matmul dot_S128x128_S384x128_S128x384_1_1_0_0_n_n none (cmb L g) (truncf .bf16 (L.hin g) bitsLt_bf16_f32)
    (constant S128x384 .f32 0x00000000#32)

/-- `x · dt` of lane block `p` (heads `2p`, `2p + 1`). -/
def xdt (L : Loads F) (p : ℕ) (hp : p < 12) : FVec F S128x128 .f32 :=
  mulf (act L p (by omega)) (pair (dtv L) (2 * p) (by omega))

def xdte (L : Loads F) (p : ℕ) (hp : p < 12) : FVec F S128x128 .f32 :=
  mulf (xdt L p hp) (pair (dte L) (2 * p) (by omega))

/-- The weights of head `h` inside the chunk. -/
def mh (L : Loads F) (g : Fin 4) (h : ℕ) (hh : h < 24) : FVec F S128x128 .bf16 :=
  truncf .bf16 (mulf (cbm L g) (exp (select (k0_pay56)
    (subf (col (acs L) h (by omega)) (rowOf (acsT L) h (by omega)))
    (broadcast S128x128 (Scalar.ofBits .f32 0xFF800000#32 : F .f32))))) bitsLt_bf16_f32

def keepLo (x : FVec F S128x128 .f32) : FVec F S128x128 .bf16 :=
  truncf .bf16 (select (k0_pay57) x (broadcast S128x128 (Scalar.ofBits .f32 0x00000000#32 : F .f32))) bitsLt_bf16_f32

def keepHi (x : FVec F S128x128 .f32) : FVec F S128x128 .bf16 :=
  truncf .bf16 (select (xori (k0_pay57) (constantI S128x128 1 1#1)) x
    (broadcast S128x128 (Scalar.ofBits .f32 0x00000000#32 : F .f32))) bitsLt_bf16_f32

/-- The scan's output for lane block `3g + k`, with the skip. -/
def ypre (L : Loads F) (g : Fin 4) (k : Fin 3) : FVec F S128x128 .f32 :=
  addf (addf (addf
    (matmul dot_S128x128_S128x128_S128x128_1_0_0_1_n_n none (mh L g (2 * (3 * g + k)) (by omega))
      (keepLo (xdt L (3 * g + k) (by omega))) (constant S128x128 .f32 0x00000000#32))
    (matmul dot_S128x128_S128x128_S128x128_1_0_0_1_n_n none (mh L g (2 * (3 * g + k) + 1) (by omega))
      (keepHi (xdt L (3 * g + k) (by omega))) (constant S128x128 .f32 0x00000000#32)))
    (mulf (extractStridedSlice S128x128 ![0, 128 * (k : ℕ)] (yoff L g) (slices_off k (by omega)))
      (pair (eacs L) (2 * (3 * g + k)) (by omega))))
    (mulf (act L (3 * g + k) (by omega)) (rowsC (L.dsk (3 * g + k) (by omega))))

/-- One head's decay over its rows of the state. -/
def ent (L : Loads F) (h : ℕ) (hh : h < 24) : FVec F S64x128 .f32 :=
  broadcastTo S64x128 (shapeCast S1x1 (extractStridedSlice S1x1 ![0, h] (cdec L) (slices_ent h (by omega))) shapeCasts_S1x1_S1x1)
    broadcasts_S1x1_S64x128

/-- The state of group `g` after the chunk. -/
def hout (L : Loads F) (g : Fin 4) : FVec F S384x128 .f32 :=
  shapeCast S384x128 (addf
    (mulf (concatenate S384x128 0 [⟨S64x128, ent L (6 * g) (by omega)⟩, ⟨S64x128, ent L (6 * g + 1) (by omega)⟩,
        ⟨S64x128, ent L (6 * g + 2) (by omega)⟩, ⟨S64x128, ent L (6 * g + 3) (by omega)⟩,
        ⟨S64x128, ent L (6 * g + 4) (by omega)⟩, ⟨S64x128, ent L (6 * g + 5) (by omega)⟩]
        concatenates_S64x128_S64x128_S64x128_S64x128_S64x128_S64x128_S384x128_d0) (L.hin g))
    (matmul dot_S128x384_S128x128_S384x128_0_0_1_1_n_n none
      (truncf .bf16 (concatenate S128x384 1 [⟨S128x128, xdte L (3 * g) (by omega)⟩, ⟨S128x128, xdte L (3 * g + 1) (by omega)⟩,
        ⟨S128x128, xdte L (3 * g + 2) (by omega)⟩] concatenates_S128x128_S128x128_S128x128_S128x384_d1) bitsLt_bf16_f32)
      (bmb L g) (constant S384x128 .f32 0x00000000#32)))
    shapeCasts_S384x128_S384x128

def zp (L : Loads F) (p : Fin 12) : FVec F S128x128 .f32 :=
  extractStridedSlice S128x128 ![0, 128 * (p % 4 : ℕ)] (L.z ⟨p / 4, by omega⟩) (slices_z (p % 4) (by omega))

def gated (L : Loads F) (g : Fin 4) (k : Fin 3) : FVec F S128x128 .f32 :=
  mulf (ypre L g k) (silu (zp L ⟨3 * g + k, by omega⟩))

def sq (L : Loads F) (g : Fin 4) (k : Fin 3) : FVec F S128x1 .f32 :=
  shapeCast S128x1 (multiReduction .add [1] S128 (mulf (gated L g k) (gated L g k)) 0x00000000#32 reduces_S128x128_S128
    (.inl rfl) rfl) shapeCasts_S128_S128x1

def scale (L : Loads F) (g : Fin 4) : FVec F S128x1 .f32 :=
  rsqrt (addf (divf (addf (addf (addf (broadcast S128x1 (Scalar.ofBits .f32 0x00000000#32 : F .f32)) (sq L g 0)) (sq L g 1)) (sq L g 2))
    (broadcast S128x1 (Scalar.ofBits .f32 0x43C00000#32 : F .f32))) (broadcast S128x1 (Scalar.ofBits .f32 0x3727C5AC#32 : F .f32)))

/-- What the kernel stores into lane block `3g + k` of its first result. -/
def yout (L : Loads F) (g : Fin 4) (k : Fin 3) : FVec F S128x128 .f32 :=
  mulf (mulf (gated L g k) (broadcastTo S128x128 (scale L g) broadcasts_S128x1_S128x128))
    (rowsC (L.ng (3 * g + k) (by omega)))

theorem inb_y (p : ℕ) (hp : p < 12) : ∀ a, (![0, 128 * p] : Fin 2 → ℕ) a + S128x128.size a ≤ S128x1536.size a :=
  fun a => by fin_cases a <;> simp [S128x1536, S128x128] <;> omega

theorem inb_h (g : ℕ) (hg : g < 4) : ∀ a, (![384 * g, 0] : Fin 2 → ℕ) a + S384x128.size a ≤ S1536x128.size a :=
  fun a => by fin_cases a <;> simp [S1536x128, S384x128] <;> omega

/-- The block the kernel stores at lane block `3g + k`. -/
def ypiece (L : Loads F) (g : Fin 4) (k : Fin 3) : View.Piece (Elt F) S128x1536 .f32 :=
  ⟨Rect.unit ![0, 128 * (3 * g + k : ℕ)] S128x128.size (inb_y _ (by omega)), yout L g k⟩

/-- The block the kernel stores into the state at group `g`. -/
def hpiece (L : Loads F) (g : Fin 4) : View.Piece (Elt F) S1536x128 .f32 :=
  ⟨Rect.unit ![384 * (g : ℕ), 0] S384x128.size (inb_h _ (by omega)), hout L g⟩

def ypieces (L : Loads F) : List (View.Piece (Elt F) S128x1536 .f32) :=
  [ypiece L 3 2, ypiece L 3 1, ypiece L 3 0, ypiece L 2 2, ypiece L 2 1, ypiece L 2 0,
   ypiece L 1 2, ypiece L 1 1, ypiece L 1 0, ypiece L 0 2, ypiece L 0 1, ypiece L 0 0]

def hpieces (L : Loads F) (base : List (View.Piece (Elt F) S1536x128 .f32)) : List (View.Piece (Elt F) S1536x128 .f32) :=
  hpiece L 3 :: hpiece L 2 :: hpiece L 1 :: hpiece L 0 :: base

end Cert.KernelIdeal.Chunk
-- ==== Proof.Loads.lean ====
/- What the body loads, from the staging buffers' contents. -/
module

public import proofs.«01_k».proof.Proof.Chunk
public import proofs.«01_k».proof.Proof.Gen.KernelIdeal.Launch
public import Idealize.ShloMosaic.Lib.Pipeline.Value

@[expose] public section

set_option maxRecDepth 16384

noncomputable section

namespace Cert.KernelIdeal.Chunk

open Idealize.ShloMosaic Idealize.SL.Sem Cert.KernelIdeal.Gen

variable {F : FTy → Type} [FloatOps F]

theorem inb_buf (r blk : ℕ) (hr : r + 128 ≤ 136) (hb : blk < 20) :
    ∀ a, (![r, 128 * blk] : Fin 2 → ℕ) a + S128x128.size a ≤ S136x2560.size a :=
  fun a => by fin_cases a <;> simp [S136x2560, S128x128] <;> omega

theorem inb_cb (blk : ℕ) (hb : blk < 20) :
    ∀ a, (![0, 128 * blk] : Fin 2 → ℕ) a + S1x128.size a ≤ S1x2560.size a :=
  fun a => by fin_cases a <;> simp [S1x2560, S1x128] <;> omega

theorem inb_cw (tap blk : ℕ) (ht : tap < 4) (hb : blk < 20) :
    ∀ a, (![tap, 128 * blk] : Fin 2 → ℕ) a + S1x128.size a ≤ S4x2560.size a :=
  fun a => by fin_cases a <;> simp [S4x2560, S1x128] <;> omega

theorem inb_lane (p : ℕ) (hp : p < 12) :
    ∀ a, (![0, 128 * p] : Fin 2 → ℕ) a + S1x128.size a ≤ S1x1536.size a :=
  fun a => by fin_cases a <;> simp [S1x1536, S1x128] <;> omega

theorem inb_tile (j : ℕ) (hj : j < 5) :
    ∀ a, (![8, 512 * j] : Fin 2 → ℕ) a + S128x512.size a ≤ S136x2560.size a :=
  fun a => by fin_cases a <;> simp [S136x2560, S128x512] <;> omega

theorem inb0 (s : Shape) (h : s.rank = 2) : ∀ a, (fun _ => 0 : Fin s.rank → ℕ) a + s.size a ≤ s.size a := fun a => by simp

/-- The loads, the window buffer holding `fb` (below its halo rows also written as `fb8`) and the state read as `hin`. -/
def loadsOf
    (arg7 : Memref sig .tc .vmem S128x512 .f32) (harg7 : arg7.IsWhole) (arg8 : Memref sig .tc .vmem S128x512 .f32) (harg8 : arg8.IsWhole)
    (arg9 : Memref sig .tc .vmem S128x512 .f32) (harg9 : arg9.IsWhole) (arg10 : Memref sig .tc .vmem S128x128 .f32) (harg10 : arg10.IsWhole)
    (arg11 : Memref sig .tc .vmem S4x2560 .f32) (harg11 : arg11.IsWhole) (arg12 : Memref sig .tc .vmem S1x2560 .f32) (harg12 : arg12.IsWhole)
    (arg13 : Memref sig .tc .vmem S1x128 .f32) (harg13 : arg13.IsWhole) (arg14 : Memref sig .tc .vmem S1x128 .f32) (harg14 : arg14.IsWhole)
    (arg15 : Memref sig .tc .vmem S1x1536 .f32) (harg15 : arg15.IsWhole) (arg16 : Memref sig .tc .vmem S1x1536 .f32) (harg16 : arg16.IsWhole)
    (arg19 : Memref sig .tc .vmem S136x2560 .f32)
    (x5 x6 x7 : Vec F S128x512 .f32) (x8 : Vec F S128x128 .f32) (x9 : Vec F S4x2560 .f32) (x10 : Vec F S1x2560 .f32)
    (x11 x12 : Vec F S1x128 .f32) (x13 x14 : Vec F S1x1536 .f32)
    (fb fb8 : arg19.view.ty.Contents (Elt F)) (hin : Fin 4 → Vec F S384x128 .f32) : Loads F where
  buf r blk hr hb := View.readAt (Elt F) arg19.view (Rect.unit (s := S136x2560) ![r, 128 * blk] S128x128.size (inb_buf r blk hr hb)).toLoadRect (bif Nat.beq r 8 then fb8 else fb)
  cb blk hb := View.readAt (Elt F) arg12.view (Rect.unit (s := S1x2560) ![0, 128 * blk] S1x128.size (inb_cb blk hb)).toLoadRect (harg12.unread x10)
  cw tap blk ht hb := View.readAt (Elt F) arg11.view (Rect.unit (s := S4x2560) ![tap, 128 * blk] S1x128.size (inb_cw tap blk ht hb)).toLoadRect (harg11.unread x9)
  dtr := View.readAt (Elt F) arg10.view (Rect.unit ![0, 0] S128x128.size inb_S128x128_S128x128_0_0).toLoadRect (harg10.unread x8)
  dtb := View.readAt (Elt F) arg13.view (Rect.unit ![0, 0] S1x128.size inb_S1x128_S1x128_0_0).toLoadRect (harg13.unread x11)
  av := View.readAt (Elt F) arg14.view (Rect.unit ![0, 0] S1x128.size inb_S1x128_S1x128_0_0).toLoadRect (harg14.unread x12)
  hin := hin
  dsk p hp := View.readAt (Elt F) arg15.view (Rect.unit (s := S1x1536) ![0, 128 * p] S1x128.size (inb_lane p hp)).toLoadRect (harg15.unread x13)
  ng p hp := View.readAt (Elt F) arg16.view (Rect.unit (s := S1x1536) ![0, 128 * p] S1x128.size (inb_lane p hp)).toLoadRect (harg16.unread x14)
  z j := match j with
    | 0 => View.readAt (Elt F) arg7.view (Rect.unit ![0, 0] S128x512.size inb_S128x512_S128x512_0_0).toLoadRect (harg7.unread x5)
    | 1 => View.readAt (Elt F) arg8.view (Rect.unit ![0, 0] S128x512.size inb_S128x512_S128x512_0_0).toLoadRect (harg8.unread x6)
    | 2 => View.readAt (Elt F) arg9.view (Rect.unit ![0, 0] S128x512.size inb_S128x512_S128x512_0_0).toLoadRect (harg9.unread x7)

/-- The five column tiles as stored below the halo rows. -/
def tiles
    (arg2 : Memref sig .tc .vmem S128x512 .f32) (harg2 : arg2.IsWhole) (arg3 : Memref sig .tc .vmem S128x512 .f32) (harg3 : arg3.IsWhole)
    (arg4 : Memref sig .tc .vmem S128x512 .f32) (harg4 : arg4.IsWhole) (arg5 : Memref sig .tc .vmem S128x512 .f32) (harg5 : arg5.IsWhole)
    (arg6 : Memref sig .tc .vmem S128x512 .f32) (harg6 : arg6.IsWhole) (x0 x1 x2 x3 x4 : Vec F S128x512 .f32)
    (base : List (View.Piece (Elt F) S136x2560 .f32)) : List (View.Piece (Elt F) S136x2560 .f32) :=
  ⟨Rect.unit (s := S136x2560) ![8, 512 * 4] S128x512.size (inb_tile 4 (by omega)), k0_pay8 (View.readAt (Elt F) arg6.view (Rect.unit ![0, 0] S128x512.size inb_S128x512_S128x512_0_0).toLoadRect (harg6.unread x4))⟩ ::
  ⟨Rect.unit (s := S136x2560) ![8, 512 * 3] S128x512.size (inb_tile 3 (by omega)), k0_pay7 (View.readAt (Elt F) arg5.view (Rect.unit ![0, 0] S128x512.size inb_S128x512_S128x512_0_0).toLoadRect (harg5.unread x3))⟩ ::
  ⟨Rect.unit (s := S136x2560) ![8, 512 * 2] S128x512.size (inb_tile 2 (by omega)), k0_pay6 (View.readAt (Elt F) arg4.view (Rect.unit ![0, 0] S128x512.size inb_S128x512_S128x512_0_0).toLoadRect (harg4.unread x2))⟩ ::
  ⟨Rect.unit (s := S136x2560) ![8, 512 * 1] S128x512.size (inb_tile 1 (by omega)), k0_pay5 (View.readAt (Elt F) arg3.view (Rect.unit ![0, 0] S128x512.size inb_S128x512_S128x512_0_0).toLoadRect (harg3.unread x1))⟩ ::
  ⟨Rect.unit (s := S136x2560) ![8, 512 * 0] S128x512.size (inb_tile 0 (by omega)), k0_pay4 (View.readAt (Elt F) arg2.view (Rect.unit ![0, 0] S128x512.size inb_S128x512_S128x512_0_0).toLoadRect (harg2.unread x0))⟩ :: base

end Cert.KernelIdeal.Chunk
-- ==== Proof.Spec.lean ====
/- One chunk of the state-space recurrence in plain mathematics: 128 positions, 24 heads of 64 channels in four groups,
   128 state columns. Every array is a function of natural numbers, so that two readings of it agree as soon as their
   positions do. -/
module

public import Idealize.ShloMosaic.Lib.Pointwise

@[expose] public section

noncomputable section

namespace Cert.Spec

open Idealize.ShloMosaic

/-- What a chunk reads: the projection's columns over its 131 positions (three before the chunk), the gate, the raw
    step sizes, the weights, and the state it enters with. -/
structure In where
  u : ℕ → ℕ → EReal
  z : ℕ → ℕ → EReal
  dtr : ℕ → ℕ → EReal
  w : ℕ → ℕ → EReal
  cb : ℕ → EReal
  dtb : ℕ → EReal
  av : ℕ → EReal
  dsk : ℕ → EReal
  ng : ℕ → EReal
  hin : ℕ → ℕ → EReal

def sil (x : EReal) : EReal := Ideal.div x (1 + Ideal.exp (0 - x))

def softplus (x : EReal) : EReal := max x 0 + Ideal.log1p (Ideal.exp (0 - FloatOps.absf (F := Ideal) (φ := .f32) x))

variable (I : In)

def conv (l c : ℕ) : EReal :=
  I.cb c + I.u l c * I.w 0 c + I.u (l + 1) c * I.w 1 c + I.u (l + 2) c * I.w 2 c + I.u (l + 3) c * I.w 3 c

def act (l c : ℕ) : EReal := sil (conv I l c)

def dt (l h : ℕ) : EReal := softplus (I.dtr l h + I.dtb h)

/-- The running sum of `dt · a` up to position `l`. -/
def acs (l h : ℕ) : EReal := ∑ s : Fin 128, if (s : ℕ) ≤ l then dt I s h * I.av h else 0

def xdt (l c : ℕ) : EReal := act I l c * dt I l (c / 64)

def cbm (g l s : ℕ) : EReal := ∑ n : Fin 128, act I l (2048 + 128 * g + n) * act I s (1536 + 128 * g + n)

def decay (h l s : ℕ) : EReal :=
  Ideal.exp (if s ≤ l then acs I l h - acs I s h else Ideal.ofBits .f32 0xFF800000#32)

def ydiag (l c : ℕ) : EReal := ∑ s : Fin 128, cbm I (c / 384) l s * decay I (c / 64) l s * xdt I s c

def yoff (l c : ℕ) : EReal :=
  (∑ n : Fin 128, act I l (2048 + 128 * (c / 384) + n) * I.hin c n) * Ideal.exp (acs I l (c / 64))

def ypre (l c : ℕ) : EReal := ydiag I l c + yoff I l c + act I l c * I.dsk c

/-- What the chunk adds to the state. -/
def stat (c n : ℕ) : EReal :=
  ∑ s : Fin 128, xdt I s c * Ideal.exp (acs I 127 (c / 64) - acs I s (c / 64)) * act I s (1536 + 128 * (c / 384) + n)

/-- The state the chunk leaves. -/
def hout (c n : ℕ) : EReal := Ideal.exp (acs I 127 (c / 64)) * I.hin c n + stat I c n

def gated (l c : ℕ) : EReal := ypre I l c * sil (I.z l c)

def ssq (l g : ℕ) : EReal := ∑ t : Fin 384, gated I l (384 * g + t) * gated I l (384 * g + t)

def rs (x : EReal) : EReal :=
  Ideal.rsqrt (Ideal.div x (Ideal.ofBits .f32 0x43C00000#32) + Ideal.ofBits .f32 0x3727C5AC#32)

/-- The chunk's result. -/
def yout (l c : ℕ) : EReal := gated I l c * rs (ssq I l (c / 384)) * I.ng c

/-- The call's arguments: the projection, the convolution's weights, the raw step bias, the decay's logarithm, the skip
    and the norm's scale. -/
structure Args where
  p : ℕ → ℕ → EReal
  w : ℕ → ℕ → EReal
  cb : ℕ → EReal
  dtb : ℕ → EReal
  alog : ℕ → EReal
  dsk : ℕ → EReal
  ng : ℕ → EReal

/-- A vector, and a matrix, at natural numbers (zero outside). -/
def nat1 {n : ℕ} (v : (⟨1, ![n]⟩ : Shape).Idx → EReal) (i : ℕ) : EReal := if h : i < n then v (ix1 ⟨i, h⟩) else 0

def nat2 {n k : ℕ} (v : (⟨2, ![n, k]⟩ : Shape).Idx → EReal) (i j : ℕ) : EReal :=
  if h : i < n ∧ j < k then v (ix2 ⟨i, h.1⟩ ⟨j, h.2⟩) else 0

theorem nat1_at {n : ℕ} (v : (⟨1, ![n]⟩ : Shape).Idx → EReal) (i : Fin n) (i' : ℕ) (h : i' = i) : nat1 v i' = v (ix1 i) := by
  subst h
  exact dif_pos i.2

theorem nat2_at {n k : ℕ} (v : (⟨2, ![n, k]⟩ : Shape).Idx → EReal) (i : Fin n) (j : Fin k) (i' j' : ℕ) (hi : i' = i) (hj : j' = j) :
    nat2 v i' j' = v (ix2 i j) := by
  subst hi hj
  exact dif_pos ⟨i.2, j.2⟩

theorem nat2_of {n k : ℕ} (v : (⟨2, ![n, k]⟩ : Shape).Idx → EReal) (y : (⟨2, ![n, k]⟩ : Shape).Idx) (i j : ℕ)
    (hi : i = (y 0).val) (hj : j = (y 1).val) : v y = nat2 v i j := by
  rw [nat2_at v (y 0) (y 1) i j hi hj]
  congr 1
  funext a
  fin_cases a <;> rfl

theorem idx2_of {n k : ℕ} (y : (⟨2, ![n, k]⟩ : Shape).Idx) (i : Fin n) (j : Fin k) (hi : (y 0).val = i) (hj : (y 1).val = j) : y = ix2 i j := by
  funext a
  apply Fin.ext
  fin_cases a
  · exact hi
  · exact hj

def args (v0 : (⟨2, ![16384, 6144]⟩ : Shape).Idx → EReal) (v1 : (⟨2, ![4, 2560]⟩ : Shape).Idx → EReal)
    (v2 : (⟨1, ![2560]⟩ : Shape).Idx → EReal) (v3 v4 v5 : (⟨1, ![24]⟩ : Shape).Idx → EReal) (v6 : (⟨1, ![1536]⟩ : Shape).Idx → EReal) : Args where
  p := nat2 v0
  w := nat2 v1
  cb := nat1 v2
  dtb := nat1 v3
  alog := nat1 v4
  dsk := nat1 v5
  ng := nat1 v6

/-- What chunk `k` of sequence `b` reads, entering with state `h`. -/
def inAt (A : Args) (b k : ℕ) (h : ℕ → ℕ → EReal) : In where
  u l c := if 128 * k + l < 3 then 0 else A.p (8192 * b + 128 * k + l - 3) (1536 + c)
  z l c := A.p (8192 * b + 128 * k + l) c
  dtr l i := A.p (8192 * b + 128 * k + l) (5632 + i)
  w := A.w
  cb := A.cb
  dtb i := if i < 24 then A.dtb i else 0
  av i := if i < 24 then -Ideal.exp (A.alog i) else 0
  dsk c := A.dsk (c / 64)
  ng := A.ng
  hin := h

/-- The state entering chunk `k` of sequence `b`. -/
def state (A : Args) (b : ℕ) : ℕ → ℕ → ℕ → EReal
  | 0 => fun _ _ => 0
  | k + 1 => hout (inAt A b k (state A b k))

/-- The first result at position `r` of sequence `b`. -/
def outY (A : Args) (b r c : ℕ) : EReal := yout (inAt A b (r / 128) (state A b (r / 128))) (r % 128) c

end Cert.Spec
-- ==== Proof.ChunkAt.lean ====
/- The chunk's vectors at an index are the specification's numbers. -/
module

public import proofs.«01_k».proof.Proof.Chunk
public import proofs.«01_k».proof.Proof.Spec
public import Idealize.ShloMosaic.Lib.WordCmp

@[expose] public section

set_option maxRecDepth 16384

noncomputable section

namespace Cert.KernelIdeal.Chunk

open Idealize.ShloMosaic Idealize.SL.Sem Cert.KernelIdeal.Gen Idealize.ShloMosaic.Pointwise

/-- The loads hold the specification's arrays. -/
structure Rel (L : Loads Ideal) (I : Cert.Spec.In) : Prop where
  buf : ∀ t (ht : t < 4) blk (hb : blk < 20) (l j : Fin 128), L.buf (5 + t) blk (by omega) hb (ix2 l j) = I.u (l + t) (128 * blk + j)
  cb : ∀ blk (hb : blk < 20) (j : Fin 128), L.cb blk hb (ix2 0 j) = I.cb (128 * blk + j)
  cw : ∀ t (ht : t < 4) blk (hb : blk < 20) (j : Fin 128), L.cw t blk ht hb (ix2 0 j) = I.w t (128 * blk + j)
  dtr : ∀ l j : Fin 128, L.dtr (ix2 l j) = I.dtr l j
  dtb : ∀ j : Fin 128, L.dtb (ix2 0 j) = I.dtb j
  av : ∀ j : Fin 128, L.av (ix2 0 j) = I.av j
  hin : ∀ (g : Fin 4) (r : Fin 384) (n : Fin 128), L.hin g (ix2 r n) = I.hin (384 * g + r) n
  dsk : ∀ p (hp : p < 12) (j : Fin 128), L.dsk p hp (ix2 0 j) = I.dsk (128 * p + j)
  ng : ∀ p (hp : p < 12) (j : Fin 128), L.ng p hp (ix2 0 j) = I.ng (128 * p + j)
  z : ∀ (q : Fin 3) (l : Fin 128) (j : Fin 512), L.z q (ix2 l j) = I.z l (512 * q + j)

variable {L : Loads Ideal} {I : Cert.Spec.In} (R : Rel L I)

theorem lo_at (l j : Fin 128) : k0_pay57 (ix2 l j) = BitVec.ofBool (decide ((j : ℕ) < 64)) := by
  unfold k0_pay57
  pointwise []
  rw [WordCmp.cmpi_slt_ofNat (by omega) (by omega)]

theorem causal_at (l j : Fin 128) : k0_pay56 (ix2 l j) = BitVec.ofBool (decide ((j : ℕ) ≤ l)) := by
  unfold k0_pay56
  pointwise []
  rw [WordCmp.cmpi_sge_ofNat (by omega) (by omega)]

include R

theorem act_at (blk : ℕ) (hb : blk < 20) (l j : Fin 128) : act L blk hb (ix2 l j) = Cert.Spec.act I l (128 * blk + j) := by
  pointwise [act, silu, conv, rows, rowsC]
  have h0 := R.buf 0 (by omega) blk hb l j
  have h1 := R.buf 1 (by omega) blk hb l j
  have h2 := R.buf 2 (by omega) blk hb l j
  have h3 := R.buf 3 (by omega) blk hb l j
  simp only [Nat.add_zero, Nat.reduceAdd] at h0 h1 h2 h3
  rw [h0, h1, h2, h3, R.cb, R.cw, R.cw, R.cw, R.cw]
  rfl

theorem dtv_at (l j : Fin 128) : dtv L (ix2 l j) = Cert.Spec.dt I l j := by
  unfold dtv k0_pay49
  pointwise []
  rw [R.dtr, R.dtb]
  rfl

theorem acs_at (l j : Fin 128) : acs L (ix2 l j) = Cert.Spec.acs I l j := by
  have h : ∀ x : Fin 128, k0_pay49 L.dtr L.dtb (ix2 x j) = Cert.Spec.dt I x j := fun x => dtv_at R x j
  unfold acs k0_pay50
  pointwise []
  unfold Cert.Spec.acs
  refine Finset.sum_congr rfl fun x _ => ?_
  rw [WordCmp.cmpi_sge_ofNat (by omega) (by omega), WordCmp.select_ofBool, h, R.av]
  simp

theorem acsT_at (l j : Fin 128) : acsT L (ix2 l j) = Cert.Spec.acs I j l := by
  rw [← acs_at R]
  unfold acsT k0_pay51
  pointwise []
  rfl

theorem eacs_at (l j : Fin 128) : eacs L (ix2 l j) = Ideal.exp (Cert.Spec.acs I l j) := by
  rw [← acs_at R]
  unfold eacs k0_pay52
  pointwise []
  rfl

theorem last_at (j : Fin 128) : last L (ix2 0 j) = Cert.Spec.acs I 127 j := by
  have h := acs_at R 127 j
  unfold acs at h
  unfold last k0_pay53
  pointwise []
  exact h

theorem dte_at (l j : Fin 128) : dte L (ix2 l j) = Ideal.exp (Cert.Spec.acs I 127 j - Cert.Spec.acs I l j) := by
  unfold dte k0_pay54
  pointwise []
  rw [acs_at R, last_at R]

theorem cdec_at (j : Fin 128) : cdec L (ix2 0 j) = Ideal.exp (Cert.Spec.acs I 127 j) := by
  unfold cdec k0_pay55
  pointwise []
  rw [last_at R]

omit R in
theorem pair_at (X : FVec Ideal S128x128 .f32) (f : ℕ → ℕ → EReal) (hX : ∀ l j : Fin 128, X (ix2 l j) = f l j)
    (h : ℕ) (hh : h + 1 < 128) (l j : Fin 128) : pair X h hh (ix2 l j) = f l (h + j / 64) := by
  pointwise [pair, col]
  rw [lo_at, WordCmp.select_ofBool, hX, hX]
  by_cases hj : (j : ℕ) < 64
  · simp [hj, show (j : ℕ) / 64 = 0 by omega]
  · simp [hj, show (j : ℕ) / 64 = 1 by omega]

theorem xdt_at (p : ℕ) (hp : p < 12) (l j : Fin 128) : xdt L p hp (ix2 l j) = Cert.Spec.xdt I l (128 * p + j) := by
  unfold xdt
  pointwise []
  rw [act_at R, pair_at _ _ (dtv_at R)]
  unfold Cert.Spec.xdt
  rw [show (128 * p + (j : ℕ)) / 64 = 2 * p + j / 64 by omega]

theorem xdte_at (p : ℕ) (hp : p < 12) (l j : Fin 128) :
    xdte L p hp (ix2 l j) = Cert.Spec.xdt I l (128 * p + j) *
      Ideal.exp (Cert.Spec.acs I 127 ((128 * p + j) / 64) - Cert.Spec.acs I l ((128 * p + j) / 64)) := by
  unfold xdte
  pointwise []
  rw [xdt_at R, pair_at _ (fun l j => Ideal.exp (Cert.Spec.acs I 127 j - Cert.Spec.acs I l j)) (dte_at R)]
  rw [show (128 * p + (j : ℕ)) / 64 = 2 * p + j / 64 by omega]

theorem xdte_nat (p : ℕ) (hp : p < 12) (l : Fin 128) {q : ℕ} (hq : q < 128) (c : ℕ) (hc : 128 * p + q = c) :
    xdte L p hp (ix2 l ⟨q, hq⟩) = Cert.Spec.xdt I l c * Ideal.exp (Cert.Spec.acs I 127 (c / 64) - Cert.Spec.acs I l (c / 64)) := by
  rw [xdte_at R, ← hc]

theorem bmb_at (g : Fin 4) (l j : Fin 128) : bmb L g (ix2 l j) = Cert.Spec.act I l (1536 + 128 * g + j) := by
  unfold bmb
  pointwise []
  rw [act_at R]
  congr 1
  omega

theorem cmb_at (g : Fin 4) (l j : Fin 128) : cmb L g (ix2 l j) = Cert.Spec.act I l (2048 + 128 * g + j) := by
  unfold cmb
  pointwise []
  rw [act_at R]
  congr 1
  omega

theorem cbm_at (g : Fin 4) (l j : Fin 128) : cbm L g (ix2 l j) = Cert.Spec.cbm I g l j := by
  unfold cbm
  pointwise []
  unfold Cert.Spec.cbm
  refine Finset.sum_congr rfl fun x _ => ?_
  rw [bmb_at R, cmb_at R]

theorem mh_at (g : Fin 4) (h : ℕ) (hh : h < 24) (l j : Fin 128) :
    mh L g h hh (ix2 l j) = Cert.Spec.cbm I g l j * Cert.Spec.decay I h l j := by
  pointwise [mh, col, rowOf]
  rw [cbm_at R, causal_at, WordCmp.select_ofBool, acs_at R, acsT_at R]
  unfold Cert.Spec.decay
  simp

theorem ypre_at (g : Fin 4) (k : Fin 3) (l j : Fin 128) : ypre L g k (ix2 l j) = Cert.Spec.ypre I l (128 * (3 * g + k) + j) := by
  pointwise [ypre, keepLo, keepHi, yoff, rowsC]
  have hd : (∑ x : Fin 128, Scalar.select (k0_pay57 (ix2 x j)) (mh L g (2 * (3 * ↑g + ↑k)) (by omega) (ix2 l x) * xdt L (3 * ↑g + ↑k) (by omega) (ix2 x j)) 0) +
      (∑ x : Fin 128, Scalar.select (IntOp.xori (k0_pay57 (ix2 x j)) 1#1)
        (mh L g (2 * (3 * ↑g + ↑k) + 1) (by omega) (ix2 l x) * xdt L (3 * ↑g + ↑k) (by omega) (ix2 x j)) 0)
      = Cert.Spec.ydiag I l (128 * (3 * g + k) + j) := by
    have hx : ∀ x : Fin 128, IntOp.xori (k0_pay57 (ix2 x j)) 1#1 = BitVec.ofBool (!decide ((j : ℕ) < 64)) := by
      intro x
      rw [lo_at]
      by_cases hj : (j : ℕ) < 64 <;> simp [hj] <;> decide
    simp only [hx]
    simp only [lo_at, WordCmp.select_ofBool, mh_at R, xdt_at R]
    unfold Cert.Spec.ydiag
    rw [show (128 * (3 * (g : ℕ) + k) + (j : ℕ)) / 384 = g by omega]
    by_cases hj : (j : ℕ) < 64
    · rw [show (128 * (3 * (g : ℕ) + k) + (j : ℕ)) / 64 = 2 * (3 * g + k) by omega]
      simp [hj]
    · rw [show (128 * (3 * (g : ℕ) + k) + (j : ℕ)) / 64 = 2 * (3 * g + k) + 1 by omega]
      simp [hj]
  rw [hd, act_at R, R.dsk, pair_at _ (fun l j => Ideal.exp (Cert.Spec.acs I l j)) (eacs_at R)]
  unfold Cert.Spec.ypre Cert.Spec.yoff
  rw [show (128 * (3 * (g : ℕ) + k) + (j : ℕ)) / 384 = g by omega,
    show (128 * (3 * (g : ℕ) + k) + (j : ℕ)) / 64 = 2 * (3 * g + k) + j / 64 by omega]
  simp only [cmb_at R, R.hin]
  rw [show 384 * (g : ℕ) + (128 * (k : ℕ) + j) = 128 * (3 * g + k) + j by omega]

theorem zp_at (p : Fin 12) (l j : Fin 128) : zp L p (ix2 l j) = I.z l (128 * p + j) := by
  pointwise [zp]
  rw [R.z]
  congr 1
  show 512 * ((p : ℕ) / 4) + (128 * ((p : ℕ) % 4) + j) = _
  omega

theorem gated_at (g : Fin 4) (k : Fin 3) (l j : Fin 128) : gated L g k (ix2 l j) = Cert.Spec.gated I l (128 * (3 * g + k) + j) := by
  pointwise [gated, silu]
  rw [ypre_at R, zp_at R]
  rfl

omit R in
theorem sum384 (f : ℕ → EReal) : (∑ t : Fin 384, f t) =
    (∑ x : Fin 128, f x) + (∑ x : Fin 128, f (128 + x)) + ∑ x : Fin 128, f (256 + x) := by
  have h : ∀ n, (∑ t : Fin n, f t) = ∑ t ∈ Finset.range n, f t := fun n => (Finset.sum_range f).symm
  rw [h, show 384 = 128 + 128 + 128 from rfl, Finset.sum_range_add, Finset.sum_range_add, Finset.sum_range, Finset.sum_range,
    Finset.sum_range]

theorem sq_at (g : Fin 4) (k : Fin 3) (l : Fin 128) (o : Fin 1) : sq L g k (ix2 l o) =
    ∑ x : Fin 128, Cert.Spec.gated I l (128 * (3 * g + k) + x) * Cert.Spec.gated I l (128 * (3 * g + k) + x) := by
  have h : ∀ x : Fin 128, gated L g k (ix2 l x) = _ := fun x => gated_at R g k l x
  unfold sq
  pointwise []
  simp only [h]

theorem yout_at (g : Fin 4) (k : Fin 3) (l j : Fin 128) : yout L g k (ix2 l j) = Cert.Spec.yout I l (128 * (3 * g + k) + j) := by
  unfold yout rowsC scale
  pointwise []
  simp only [sq_at R, gated_at R, R.ng]
  unfold Cert.Spec.yout Cert.Spec.rs Cert.Spec.ssq
  rw [show (128 * (3 * (g : ℕ) + k) + (j : ℕ)) / 384 = g by omega,
    sum384 (fun t => Cert.Spec.gated I l (384 * g + t) * Cert.Spec.gated I l (384 * g + t))]
  have h0 : ∀ x : ℕ, 128 * (3 * (g : ℕ) + ((0 : Fin 3) : ℕ)) + x = 384 * g + x := fun x => by show 128 * (3 * (g : ℕ) + 0) + x = _; omega
  have h1 : ∀ x : ℕ, 128 * (3 * (g : ℕ) + ((1 : Fin 3) : ℕ)) + x = 384 * g + (128 + x) := fun x => by show 128 * (3 * (g : ℕ) + 1) + x = _; omega
  have h2 : ∀ x : ℕ, 128 * (3 * (g : ℕ) + ((2 : Fin 3) : ℕ)) + x = 384 * g + (256 + x) := fun x => by show 128 * (3 * (g : ℕ) + 2) + x = _; omega
  simp only [h0, h1, h2]

theorem hout_at (g : Fin 4) (r : Fin 384) (n : Fin 128) : hout L g (ix2 r n) = Cert.Spec.hout I (384 * g + r) n := by
  unfold hout ent
  pointwise []
  simp only [bmb_at R, R.hin, cdec_at R]
  unfold Cert.Spec.hout Cert.Spec.stat
  rw [show (384 * (g : ℕ) + (r : ℕ)) / 384 = g by omega]
  congr 1
  · congr 1
    split_ifs <;> (congr 2; omega)
  · refine Finset.sum_congr rfl fun x _ => ?_
    congr 1
    by_cases h1 : (r : ℕ) < 128
    · rw [dif_pos h1]
      exact xdte_nat R _ _ _ h1 _ (by omega)
    · rw [dif_neg h1]
      by_cases h2 : (r : ℕ) - 128 < 128
      · rw [dif_pos h2]
        exact xdte_nat R _ _ _ h2 _ (by omega)
      · rw [dif_neg h2]
        exact xdte_nat R _ _ _ _ _ (by omega)

end Cert.KernelIdeal.Chunk
-- ==== Proof.Reads.lean ====
/- What the loads of one grid point read, at an index. -/
module

public import proofs.«01_k».proof.Proof.Loads
public import proofs.«01_k».proof.Proof.ChunkAt
public import Idealize.ShloMosaic.Lib.WritesUnit

@[expose] public section

set_option maxRecDepth 16384

noncomputable section

namespace Cert.KernelIdeal.Chunk

open Idealize.ShloMosaic Idealize.SL.Sem Cert.KernelIdeal.Gen Idealize.ShloMosaic.Pointwise

section

variable {κ : Kind} {sp : Space} {R C r c : ℕ} {e : EltTy} {F : FTy → Type} [FloatOps F]

/-- A load of an `r × c` box at `(o, p)` reads the contents there. -/
theorem readAt_at (v : View sig κ sp (⟨2, ![R, C]⟩ : Shape) e) (f : v.ty.Contents (Elt F)) (o p : ℕ)
    (inb : ∀ a, (![o, p] : Fin 2 → ℕ) a + (![r, c] : Fin 2 → ℕ) a ≤ (![R, C] : Fin 2 → ℕ) a) (i : Fin r) (j : Fin c)
    (i' : Fin R) (j' : Fin C) (hi : (i' : ℕ) = o + i) (hj : (j' : ℕ) = p + j) :
    v.readAt (Elt F) (Rect.unit (s := (⟨2, ![R, C]⟩ : Shape)) ![o, p] ![r, c] inb).toLoadRect f (ix2 i j) = v.read (Elt F) f (ix2 i' j') := by
  show v.read (Elt F) f ((Rect.unit (s := (⟨2, ![R, C]⟩ : Shape)) ![o, p] ![r, c] inb).idx (ix2 i j)) = _
  congr 1
  funext a
  apply Fin.ext
  fin_cases a
  · show o + 1 * (i : ℕ) = i'
    omega
  · show p + 1 * (j : ℕ) = j'
    omega

/-- The newest piece, an `r × c` box at `(o, p)`, read inside the box; -/
theorem read_hit (v : View sig κ sp (⟨2, ![R, C]⟩ : Shape) e) (f : v.ty.Contents (Elt F)) (o p : ℕ)
    (inb : ∀ a, (![o, p] : Fin 2 → ℕ) a + (![r, c] : Fin 2 → ℕ) a ≤ (![R, C] : Fin 2 → ℕ) a)
    (w : (⟨2, ![r, c]⟩ : Shape).Idx → Elt F e) (L : List (View.Piece (Elt F) (⟨2, ![R, C]⟩ : Shape) e)) (i : Fin r) (j : Fin c)
    (i' : Fin R) (j' : Fin C) (hi : (i' : ℕ) = o + i) (hj : (j' : ℕ) = p + j) :
    v.read (Elt F) (v.writes (Elt F) f (⟨Rect.unit (s := (⟨2, ![R, C]⟩ : Shape)) ![o, p] ![r, c] inb, w⟩ :: L)) (ix2 i' j') = w (ix2 i j) :=
  View.read_writes_cons_unit_of_mem v f inb w L (ix2 i' j') (ix2 i j) rfl (Fin.forall_fin_two.mpr ⟨hi, hj⟩)

/-- and outside it. -/
theorem read_miss (v : View sig κ sp (⟨2, ![R, C]⟩ : Shape) e) (f : v.ty.Contents (Elt F)) (o p : ℕ)
    (inb : ∀ a, (![o, p] : Fin 2 → ℕ) a + (![r, c] : Fin 2 → ℕ) a ≤ (![R, C] : Fin 2 → ℕ) a)
    (w : (⟨2, ![r, c]⟩ : Shape).Idx → Elt F e) (L : List (View.Piece (Elt F) (⟨2, ![R, C]⟩ : Shape) e))
    (i' : Fin R) (j' : Fin C) (h : (i' : ℕ) < o ∨ o + r ≤ i' ∨ (j' : ℕ) < p ∨ p + c ≤ j') :
    v.read (Elt F) (v.writes (Elt F) f (⟨Rect.unit (s := (⟨2, ![R, C]⟩ : Shape)) ![o, p] ![r, c] inb, w⟩ :: L)) (ix2 i' j')
      = v.read (Elt F) (v.writes (Elt F) f L) (ix2 i' j') := by
  rcases h with h | h | h | h
  · exact View.read_writes_cons_unit_of_not_mem v f inb w L (ix2 i' j') rfl 0 (.inl h)
  · exact View.read_writes_cons_unit_of_not_mem v f inb w L (ix2 i' j') rfl 0 (.inr h)
  · exact View.read_writes_cons_unit_of_not_mem v f inb w L (ix2 i' j') rfl 1 (.inl h)
  · exact View.read_writes_cons_unit_of_not_mem v f inb w L (ix2 i' j') rfl 1 (.inr h)

/-- A load of an `r × c` box at `(o, p)` of a buffer holding `x` reads `x` there. -/
theorem readAt_unread_at (M : Memref sig κ sp (⟨2, ![R, C]⟩ : Shape) e) (h : M.IsWhole) (x : (⟨2, ![R, C]⟩ : Shape).Idx → Elt F e) (o p : ℕ)
    (inb : ∀ a, (![o, p] : Fin 2 → ℕ) a + (![r, c] : Fin 2 → ℕ) a ≤ (![R, C] : Fin 2 → ℕ) a) (i : Fin r) (j : Fin c)
    (i' : Fin R) (j' : Fin C) (hi : (i' : ℕ) = o + i) (hj : (j' : ℕ) = p + j) :
    M.view.readAt (Elt F) (Rect.unit (s := (⟨2, ![R, C]⟩ : Shape)) ![o, p] ![r, c] inb).toLoadRect (h.unread x) (ix2 i j) = x (ix2 i' j') := by
  rw [readAt_at M.view (h.unread x) o p inb i j i' j' hi hj, h.read_unread]

end

/-- The blocks a grid point is given are the specification's arrays. -/
structure Blocks (x0 x1 x2 x3 x4 x5 x6 x7 : Vec Ideal S128x512 .f32) (x8 : Vec Ideal S128x128 .f32) (x9 : Vec Ideal S4x2560 .f32)
    (x10 : Vec Ideal S1x2560 .f32) (x11 x12 : Vec Ideal S1x128 .f32) (x13 x14 : Vec Ideal S1x1536 .f32) (I : Cert.Spec.In) : Prop where
  t0 : ∀ (l : Fin 128) (q : Fin 512), x0 (ix2 l q) = I.u (l + 3) q
  t1 : ∀ (l : Fin 128) (q : Fin 512), x1 (ix2 l q) = I.u (l + 3) (512 + q)
  t2 : ∀ (l : Fin 128) (q : Fin 512), x2 (ix2 l q) = I.u (l + 3) (1024 + q)
  t3 : ∀ (l : Fin 128) (q : Fin 512), x3 (ix2 l q) = I.u (l + 3) (1536 + q)
  t4 : ∀ (l : Fin 128) (q : Fin 512), x4 (ix2 l q) = I.u (l + 3) (2048 + q)
  z0 : ∀ (l : Fin 128) (q : Fin 512), x5 (ix2 l q) = I.z l q
  z1 : ∀ (l : Fin 128) (q : Fin 512), x6 (ix2 l q) = I.z l (512 + q)
  z2 : ∀ (l : Fin 128) (q : Fin 512), x7 (ix2 l q) = I.z l (1024 + q)
  dtr : ∀ l j : Fin 128, x8 (ix2 l j) = I.dtr l j
  cw : ∀ (t : Fin 4) (j : Fin 2560), x9 (ix2 t j) = I.w t j
  cb : ∀ (j : Fin 2560), x10 (ix2 0 j) = I.cb j
  dtb : ∀ (j : Fin 128), x11 (ix2 0 j) = I.dtb j
  av : ∀ (j : Fin 128), x12 (ix2 0 j) = I.av j
  dsk : ∀ (j : Fin 1536), x13 (ix2 0 j) = I.dsk j
  ng : ∀ (j : Fin 1536), x14 (ix2 0 j) = I.ng j

section

variable (arg2 : Memref sig .tc .vmem S128x512 .f32) (harg2 : arg2.IsWhole) (arg3 : Memref sig .tc .vmem S128x512 .f32) (harg3 : arg3.IsWhole)
    (arg4 : Memref sig .tc .vmem S128x512 .f32) (harg4 : arg4.IsWhole) (arg5 : Memref sig .tc .vmem S128x512 .f32) (harg5 : arg5.IsWhole)
    (arg6 : Memref sig .tc .vmem S128x512 .f32) (harg6 : arg6.IsWhole)
    (arg7 : Memref sig .tc .vmem S128x512 .f32) (harg7 : arg7.IsWhole) (arg8 : Memref sig .tc .vmem S128x512 .f32) (harg8 : arg8.IsWhole)
    (arg9 : Memref sig .tc .vmem S128x512 .f32) (harg9 : arg9.IsWhole) (arg10 : Memref sig .tc .vmem S128x128 .f32) (harg10 : arg10.IsWhole)
    (arg11 : Memref sig .tc .vmem S4x2560 .f32) (harg11 : arg11.IsWhole) (arg12 : Memref sig .tc .vmem S1x2560 .f32) (harg12 : arg12.IsWhole)
    (arg13 : Memref sig .tc .vmem S1x128 .f32) (harg13 : arg13.IsWhole) (arg14 : Memref sig .tc .vmem S1x128 .f32) (harg14 : arg14.IsWhole)
    (arg15 : Memref sig .tc .vmem S1x1536 .f32) (harg15 : arg15.IsWhole) (arg16 : Memref sig .tc .vmem S1x1536 .f32) (harg16 : arg16.IsWhole)
    (arg19 : Memref sig .tc .vmem S136x2560 .f32)
    {x0 x1 x2 x3 x4 x5 x6 x7 : Vec Ideal S128x512 .f32} {x8 : Vec Ideal S128x128 .f32} {x9 : Vec Ideal S4x2560 .f32}
    {x10 : Vec Ideal S1x2560 .f32} {x11 x12 : Vec Ideal S1x128 .f32} {x13 x14 : Vec Ideal S1x1536 .f32} {I : Cert.Spec.In}
    (B : Blocks x0 x1 x2 x3 x4 x5 x6 x7 x8 x9 x10 x11 x12 x13 x14 I)

include B

/-- Below the halo rows the window buffer holds the chunk's rows. -/
theorem tiles_hit {κ : Kind} {sp : Space} (v : View sig κ sp S136x2560 .f32) (f : v.ty.Contents (Elt Ideal))
    (base : List (View.Piece (Elt Ideal) S136x2560 .f32)) (i : Fin 136) (j : Fin 2560) (hi : 8 ≤ (i : ℕ)) :
    v.read (Elt Ideal) (v.writes (Elt Ideal) f (tiles arg2 harg2 arg3 harg3 arg4 harg4 arg5 harg5 arg6 harg6 x0 x1 x2 x3 x4 base)) (ix2 i j)
      = I.u (i - 5) j := by
  have hp4 : ∀ (x : Vec Ideal S128x512 .f32), k0_pay4 x = x := fun x => by unfold k0_pay4; exact shapeCast_self _ _
  have hp5 : ∀ (x : Vec Ideal S128x512 .f32), k0_pay5 x = x := fun x => by unfold k0_pay5; exact shapeCast_self _ _
  have hp6 : ∀ (x : Vec Ideal S128x512 .f32), k0_pay6 x = x := fun x => by unfold k0_pay6; exact shapeCast_self _ _
  have hp7 : ∀ (x : Vec Ideal S128x512 .f32), k0_pay7 x = x := fun x => by unfold k0_pay7; exact shapeCast_self _ _
  have hp8 : ∀ (x : Vec Ideal S128x512 .f32), k0_pay8 x = x := fun x => by unfold k0_pay8; exact shapeCast_self _ _
  have hr : ((i : ℕ) - 8) + 3 = i - 5 := by omega
  unfold tiles
  by_cases h4 : 2048 ≤ (j : ℕ)
  · refine (read_hit v f 8 (512 * 4) _ _ _ ⟨i - 8, by omega⟩ ⟨j - 512 * 4, by omega⟩ i j (by simp; omega) (by simp; omega)).trans ?_
    rw [hp8, readAt_unread_at arg6 harg6 x4 0 0 _ _ _ ⟨i - 8, by omega⟩ ⟨j - 512 * 4, by omega⟩ (by simp) (by simp), B.t4]
    congr 1; simp; omega
  refine (read_miss v f 8 (512 * 4) _ _ _ i j (by omega)).trans ?_
  by_cases h3 : 1536 ≤ (j : ℕ)
  · refine (read_hit v f 8 (512 * 3) _ _ _ ⟨i - 8, by omega⟩ ⟨j - 512 * 3, by omega⟩ i j (by simp; omega) (by simp; omega)).trans ?_
    rw [hp7, readAt_unread_at arg5 harg5 x3 0 0 _ _ _ ⟨i - 8, by omega⟩ ⟨j - 512 * 3, by omega⟩ (by simp) (by simp), B.t3]
    congr 1; simp; omega
  refine (read_miss v f 8 (512 * 3) _ _ _ i j (by omega)).trans ?_
  by_cases h2 : 1024 ≤ (j : ℕ)
  · refine (read_hit v f 8 (512 * 2) _ _ _ ⟨i - 8, by omega⟩ ⟨j - 512 * 2, by omega⟩ i j (by simp; omega) (by simp; omega)).trans ?_
    rw [hp6, readAt_unread_at arg4 harg4 x2 0 0 _ _ _ ⟨i - 8, by omega⟩ ⟨j - 512 * 2, by omega⟩ (by simp) (by simp), B.t2]
    congr 1; simp; omega
  refine (read_miss v f 8 (512 * 2) _ _ _ i j (by omega)).trans ?_
  by_cases h1 : 512 ≤ (j : ℕ)
  · refine (read_hit v f 8 (512 * 1) _ _ _ ⟨i - 8, by omega⟩ ⟨j - 512 * 1, by omega⟩ i j (by simp; omega) (by simp; omega)).trans ?_
    rw [hp5, readAt_unread_at arg3 harg3 x1 0 0 _ _ _ ⟨i - 8, by omega⟩ ⟨j - 512 * 1, by omega⟩ (by simp) (by simp), B.t1]
    congr 1; simp; omega
  refine (read_miss v f 8 (512 * 1) _ _ _ i j (by omega)).trans ?_
  refine (read_hit v f 8 (512 * 0) _ _ _ ⟨i - 8, by omega⟩ ⟨j, by omega⟩ i j (by simp; omega) (by simp)).trans ?_
  rw [hp4, readAt_unread_at arg2 harg2 x0 0 0 _ _ _ ⟨i - 8, by omega⟩ ⟨j, by omega⟩ (by simp) (by simp), B.t0]
  congr 1

omit B in
/-- The halo rows are what was there before. -/
theorem tiles_miss {κ : Kind} {sp : Space} (v : View sig κ sp S136x2560 .f32) (f : v.ty.Contents (Elt Ideal))
    (base : List (View.Piece (Elt Ideal) S136x2560 .f32)) (i : Fin 136) (j : Fin 2560) (hi : (i : ℕ) < 8) :
    v.read (Elt Ideal) (v.writes (Elt Ideal) f (tiles arg2 harg2 arg3 harg3 arg4 harg4 arg5 harg5 arg6 harg6 x0 x1 x2 x3 x4 base)) (ix2 i j)
      = v.read (Elt Ideal) (v.writes (Elt Ideal) f base) (ix2 i j) := by
  unfold tiles
  refine (read_miss v f 8 (512 * 4) _ _ _ i j (by omega)).trans ?_
  refine (read_miss v f 8 (512 * 3) _ _ _ i j (by omega)).trans ?_
  refine (read_miss v f 8 (512 * 2) _ _ _ i j (by omega)).trans ?_
  refine (read_miss v f 8 (512 * 1) _ _ _ i j (by omega)).trans ?_
  exact read_miss v f 8 (512 * 0) _ _ _ i j (by omega)

/-- The loads read the specification's arrays, if the buffer's contents and the state do. -/
theorem rel_loadsOf (fb fb8 : arg19.view.ty.Contents (Elt Ideal)) (hin : Fin 4 → Vec Ideal S384x128 .f32)
    (hb : ∀ (i : Fin 136) (j : Fin 2560), 5 ≤ (i : ℕ) → arg19.view.read (Elt Ideal) fb (ix2 i j) = I.u (i - 5) j)
    (hb8 : ∀ (i : Fin 136) (j : Fin 2560), 8 ≤ (i : ℕ) → arg19.view.read (Elt Ideal) fb8 (ix2 i j) = I.u (i - 5) j)
    (hh : ∀ (g : Fin 4) (r : Fin 384) (n : Fin 128), hin g (ix2 r n) = I.hin (384 * g + r) n) :
    Rel (loadsOf arg7 harg7 arg8 harg8 arg9 harg9 arg10 harg10 arg11 harg11 arg12 harg12 arg13 harg13 arg14 harg14 arg15 harg15 arg16 harg16
      arg19 x5 x6 x7 x8 x9 x10 x11 x12 x13 x14 fb fb8 hin) I where
  buf t ht blk hbk l j := by
    refine (readAt_at arg19.view _ (5 + t) (128 * blk) _ l j ⟨5 + t + l, by omega⟩ ⟨128 * blk + j, by omega⟩ rfl rfl).trans ?_
    by_cases h3 : t = 3
    · subst h3
      exact (hb8 _ _ (by simp)).trans (by congr 1; simp; omega)
    · have : Nat.beq (5 + t) 8 = false := by
        have : t < 3 := by omega
        interval_cases t <;> rfl
      rw [this]
      exact (hb _ _ (by simp; omega)).trans (by congr 1; simp; omega)
  cb blk hbk j := (readAt_unread_at arg12 harg12 x10 0 (128 * blk) _ 0 j 0 ⟨128 * blk + j, by omega⟩ rfl rfl).trans (B.cb _)
  cw t ht blk hbk j := (readAt_unread_at arg11 harg11 x9 t (128 * blk) _ 0 j ⟨t, ht⟩ ⟨128 * blk + j, by omega⟩ rfl rfl).trans (B.cw _ _)
  dtr l j := (readAt_unread_at arg10 harg10 x8 0 0 _ l j l j (by simp) (by simp)).trans (B.dtr _ _)
  dtb j := (readAt_unread_at arg13 harg13 x11 0 0 _ 0 j 0 j (by simp) (by simp)).trans (B.dtb _)
  av j := (readAt_unread_at arg14 harg14 x12 0 0 _ 0 j 0 j (by simp) (by simp)).trans (B.av _)
  hin := hh
  dsk p hp j := (readAt_unread_at arg15 harg15 x13 0 (128 * p) _ 0 j 0 ⟨128 * p + j, by omega⟩ rfl rfl).trans (B.dsk _)
  ng p hp j := (readAt_unread_at arg16 harg16 x14 0 (128 * p) _ 0 j 0 ⟨128 * p + j, by omega⟩ rfl rfl).trans (B.ng _)
  z q l j := by
    fin_cases q
    · exact ((readAt_unread_at arg7 harg7 x5 0 0 _ l j l j (by simp) (by simp)).trans (B.z0 _ _)).trans (by simp)
    · exact ((readAt_unread_at arg8 harg8 x6 0 0 _ l j l j (by simp) (by simp)).trans (B.z1 _ _)).trans (by simp)
    · exact ((readAt_unread_at arg9 harg9 x7 0 0 _ l j l j (by simp) (by simp)).trans (B.z2 _ _)).trans (by simp)

end

end Cert.KernelIdeal.Chunk
-- ==== Proof.Words.lean ====
/- The values one grid point computes, in the order and grouping in which the body computes them, over what its loads
   return (`Loads`): `wN` is the N-th value that more than one later value reads. -/
module

public import proofs.«01_k».proof.Proof.Chunk

@[expose] public section

set_option maxRecDepth 16384

noncomputable section

namespace Cert.KernelIdeal.Chunk

open Idealize.ShloMosaic Idealize.SL.Sem Cert.KernelIdeal.Gen

variable {F : FTy → Type} [FloatOps F] (L : Loads F)

def w0 : FVec F S1x128 .f32 := k0_pay9 (L.cb 0 (by omega))
def w1 : FVec F S128x128 .f32 := k0_pay10 (w0 L) (L.buf 5 0 (by omega) (by omega)) (L.cw 0 0 (by omega) (by omega)) (L.buf 6 0 (by omega) (by omega)) (L.cw 1 0 (by omega) (by omega)) (L.buf 7 0 (by omega) (by omega)) (L.cw 2 0 (by omega) (by omega)) (L.buf 8 0 (by omega) (by omega)) (L.cw 3 0 (by omega) (by omega))
def w2 : FVec F S128x128 .f32 := k0_pay11 (L.cb 1 (by omega)) (L.buf 5 1 (by omega) (by omega)) (L.cw 0 1 (by omega) (by omega))
def w3 : FVec F S128x128 .f32 := k0_pay12 (w2 L) (L.buf 6 1 (by omega) (by omega)) (L.cw 1 1 (by omega) (by omega)) (L.buf 7 1 (by omega) (by omega)) (L.cw 2 1 (by omega) (by omega)) (L.buf 8 1 (by omega) (by omega)) (L.cw 3 1 (by omega) (by omega))
def w4 : FVec F S128x128 .f32 := k0_pay13 (L.cb 2 (by omega)) (L.buf 5 2 (by omega) (by omega)) (L.cw 0 2 (by omega) (by omega)) (L.buf 6 2 (by omega) (by omega)) (L.cw 1 2 (by omega) (by omega))
def w5 : Vec F S1x128 .f32 := L.cw 2 2 (by omega) (by omega)
def w6 : FVec F S128x128 .f32 := k0_pay14 (w4 L) (L.buf 7 2 (by omega) (by omega)) (w5 L) (L.buf 8 2 (by omega) (by omega)) (L.cw 3 2 (by omega) (by omega))
def w7 : FVec F S128x128 .f32 := k0_pay15 (L.cb 3 (by omega)) (L.buf 5 3 (by omega) (by omega)) (L.cw 0 3 (by omega) (by omega)) (L.buf 6 3 (by omega) (by omega)) (L.cw 1 3 (by omega) (by omega)) (L.buf 7 3 (by omega) (by omega)) (L.cw 2 3 (by omega) (by omega))
def w8 : FVec F S128x128 .f32 := k0_pay16 (L.buf 8 3 (by omega) (by omega)) (L.cw 3 3 (by omega) (by omega))
def w9 : FVec F S128x128 .f32 := k0_pay17 (w7 L) (w8 L)
def w10 : FVec F S128x128 .f32 := k0_pay18 (L.cb 4 (by omega)) (L.buf 5 4 (by omega) (by omega)) (L.cw 0 4 (by omega) (by omega)) (L.buf 6 4 (by omega) (by omega)) (L.cw 1 4 (by omega) (by omega)) (L.buf 7 4 (by omega) (by omega)) (L.cw 2 4 (by omega) (by omega)) (L.buf 8 4 (by omega) (by omega)) (L.cw 3 4 (by omega) (by omega))
def w11 : FVec F S128x128 .f32 := k0_pay19 (L.cb 5 (by omega)) (L.buf 5 5 (by omega) (by omega)) (L.cw 0 5 (by omega) (by omega)) (L.buf 6 5 (by omega) (by omega)) (L.cw 1 5 (by omega) (by omega)) (L.buf 7 5 (by omega) (by omega)) (L.cw 2 5 (by omega) (by omega)) (L.buf 8 5 (by omega) (by omega)) (L.cw 3 5 (by omega) (by omega))
def w12 : FVec F S128x128 .f32 := k0_pay20 (L.buf 5 6 (by omega) (by omega)) (L.cw 0 6 (by omega) (by omega))
def w13 : FVec F S128x128 .f32 := k0_pay21 (L.cb 6 (by omega))
def w14 : FVec F S128x128 .f32 := k0_pay22 (w12 L) (w13 L) (L.buf 6 6 (by omega) (by omega)) (L.cw 1 6 (by omega) (by omega)) (L.buf 7 6 (by omega) (by omega)) (L.cw 2 6 (by omega) (by omega)) (L.buf 8 6 (by omega) (by omega)) (L.cw 3 6 (by omega) (by omega))
def w15 : FVec F S128x128 .f32 := k0_pay23 (L.cb 7 (by omega)) (L.buf 5 7 (by omega) (by omega)) (L.cw 0 7 (by omega) (by omega)) (L.buf 6 7 (by omega) (by omega)) (L.cw 1 7 (by omega) (by omega))
def w16 : FVec F S128x128 .f32 := k0_pay24 (w15 L) (L.buf 7 7 (by omega) (by omega)) (L.cw 2 7 (by omega) (by omega)) (L.buf 8 7 (by omega) (by omega)) (L.cw 3 7 (by omega) (by omega))
def w17 : FVec F S128x128 .f32 := k0_pay25 (L.cb 8 (by omega)) (L.buf 5 8 (by omega) (by omega)) (L.cw 0 8 (by omega) (by omega)) (L.buf 6 8 (by omega) (by omega)) (L.cw 1 8 (by omega) (by omega)) (L.buf 7 8 (by omega) (by omega)) (L.cw 2 8 (by omega) (by omega))
def w18 : FVec F S128x128 .f32 := k0_pay26 (w17 L) (L.buf 8 8 (by omega) (by omega)) (L.cw 3 8 (by omega) (by omega))
def w19 : FVec F S128x128 .f32 := k0_pay27 (L.cb 9 (by omega)) (L.buf 5 9 (by omega) (by omega)) (L.cw 0 9 (by omega) (by omega)) (L.buf 6 9 (by omega) (by omega)) (L.cw 1 9 (by omega) (by omega)) (L.buf 7 9 (by omega) (by omega)) (L.cw 2 9 (by omega) (by omega)) (L.buf 8 9 (by omega) (by omega)) (L.cw 3 9 (by omega) (by omega))
def w20 : FVec F S128x128 .f32 := k0_pay28 (L.cb 9 (by omega)) (L.buf 5 9 (by omega) (by omega)) (L.cw 0 9 (by omega) (by omega)) (L.buf 6 9 (by omega) (by omega)) (L.cw 1 9 (by omega) (by omega)) (L.buf 7 9 (by omega) (by omega)) (L.cw 2 9 (by omega) (by omega)) (L.buf 8 9 (by omega) (by omega)) (L.cw 3 9 (by omega) (by omega))
def w21 : FVec F S128x128 .f32 := k0_pay29 (w19 L) (w20 L) (Scalar.ofBits .f32 0x3F800000#32 : F .f32)
def w22 : FVec F S128x128 .f32 := k0_pay30 (L.cb 10 (by omega)) (L.buf 5 10 (by omega) (by omega)) (L.cw 0 10 (by omega) (by omega)) (L.buf 6 10 (by omega) (by omega)) (L.cw 1 10 (by omega) (by omega)) (L.buf 7 10 (by omega) (by omega)) (L.cw 2 10 (by omega) (by omega)) (L.buf 8 10 (by omega) (by omega)) (L.cw 3 10 (by omega) (by omega))
def w23 : FVec F S1x128 .f32 := k0_pay31 (L.cb 11 (by omega))
def w24 : FVec F S128x128 .f32 := k0_pay32 (w23 L) (L.buf 5 11 (by omega) (by omega)) (L.cw 0 11 (by omega) (by omega)) (L.buf 6 11 (by omega) (by omega)) (L.cw 1 11 (by omega) (by omega)) (L.buf 7 11 (by omega) (by omega)) (L.cw 2 11 (by omega) (by omega)) (L.buf 8 11 (by omega) (by omega)) (L.cw 3 11 (by omega) (by omega))
def w25 : FVec F S128x128 .f32 := k0_pay33 (L.cb 12 (by omega)) (L.buf 5 12 (by omega) (by omega)) (L.cw 0 12 (by omega) (by omega))
def w26 : FVec F S128x128 .f32 := k0_pay34 (w25 L) (L.buf 6 12 (by omega) (by omega)) (L.cw 1 12 (by omega) (by omega)) (L.buf 7 12 (by omega) (by omega)) (L.cw 2 12 (by omega) (by omega)) (L.buf 8 12 (by omega) (by omega)) (L.cw 3 12 (by omega) (by omega))
def w27 : FVec F S128x128 .f32 := k0_pay35 (L.cb 13 (by omega)) (L.buf 5 13 (by omega) (by omega)) (L.cw 0 13 (by omega) (by omega)) (L.buf 6 13 (by omega) (by omega)) (L.cw 1 13 (by omega) (by omega))
def w28 : FVec F S128x128 .f32 := k0_pay36 (L.cw 2 13 (by omega) (by omega))
def w29 : FVec F S128x128 .f32 := k0_pay37 (w27 L) (L.buf 7 13 (by omega) (by omega)) (w28 L) (L.buf 8 13 (by omega) (by omega)) (L.cw 3 13 (by omega) (by omega))
def w30 : FVec F S128x128 .f32 := k0_pay38 (L.cb 14 (by omega)) (L.buf 5 14 (by omega) (by omega)) (L.cw 0 14 (by omega) (by omega)) (L.buf 6 14 (by omega) (by omega)) (L.cw 1 14 (by omega) (by omega)) (L.buf 7 14 (by omega) (by omega)) (L.cw 2 14 (by omega) (by omega)) (L.buf 8 14 (by omega) (by omega)) (L.cw 3 14 (by omega) (by omega))
def w31 : FVec F S128x128 .f32 := k0_pay39 (w30 L)
def w32 : FVec F S128x128 .f32 := k0_pay40 (L.cb 15 (by omega)) (L.buf 5 15 (by omega) (by omega)) (L.cw 0 15 (by omega) (by omega)) (L.buf 6 15 (by omega) (by omega)) (L.cw 1 15 (by omega) (by omega)) (L.buf 7 15 (by omega) (by omega)) (L.cw 2 15 (by omega) (by omega)) (L.buf 8 15 (by omega) (by omega)) (L.cw 3 15 (by omega) (by omega))
def w33 : Vec F S1x128 .f32 := L.cb 16 (by omega)
def w34 : FVec F S128x128 .f32 := k0_pay41 (w33 L) (L.buf 5 16 (by omega) (by omega)) (L.cw 0 16 (by omega) (by omega)) (L.buf 6 16 (by omega) (by omega)) (L.cw 1 16 (by omega) (by omega)) (L.buf 7 16 (by omega) (by omega)) (L.cw 2 16 (by omega) (by omega)) (L.buf 8 16 (by omega) (by omega)) (L.cw 3 16 (by omega) (by omega))
def w35 : FVec F S128x128 .f32 := k0_pay42 (L.cb 17 (by omega)) (L.buf 5 17 (by omega) (by omega)) (L.cw 0 17 (by omega) (by omega))
def w36 : FVec F S128x128 .f32 := k0_pay43 (w35 L) (L.buf 6 17 (by omega) (by omega)) (L.cw 1 17 (by omega) (by omega)) (L.buf 7 17 (by omega) (by omega)) (L.cw 2 17 (by omega) (by omega)) (L.buf 8 17 (by omega) (by omega)) (L.cw 3 17 (by omega) (by omega))
def w37 : FVec F S128x128 .f32 := k0_pay44 (L.cb 18 (by omega)) (L.buf 5 18 (by omega) (by omega)) (L.cw 0 18 (by omega) (by omega)) (L.buf 6 18 (by omega) (by omega)) (L.cw 1 18 (by omega) (by omega))
def w38 : FVec F S128x128 .f32 := k0_pay45 (w37 L) (L.buf 7 18 (by omega) (by omega)) (L.cw 2 18 (by omega) (by omega)) (L.buf 8 18 (by omega) (by omega)) (L.cw 3 18 (by omega) (by omega))
def w39 : FVec F S128x128 .f32 := k0_pay46 (L.cb 19 (by omega)) (L.buf 5 19 (by omega) (by omega)) (L.cw 0 19 (by omega) (by omega)) (L.buf 6 19 (by omega) (by omega)) (L.cw 1 19 (by omega) (by omega)) (L.buf 7 19 (by omega) (by omega)) (L.cw 2 19 (by omega) (by omega))
def w40 : FVec F S128x128 .f32 := k0_pay47 (w39 L) (L.buf 8 19 (by omega) (by omega)) (L.cw 3 19 (by omega) (by omega))
def w41 : FVec F S128x128 .f32 := k0_pay49 L.dtr L.dtb
def w42 : FVec F S128x128 .f32 := k0_pay50 L.dtr L.dtb L.av
def w43 : FVec F S128x128 .f32 := k0_pay51 L.dtr L.dtb L.av
def w44 : FVec F S128x128 .f32 := k0_pay52 L.dtr L.dtb L.av
def w45 : FVec F S1x128 .f32 := k0_pay53 L.dtr L.dtb L.av
def w46 : FVec F S128x128 .f32 := k0_pay54 (w42 L) (w45 L)
def w47 : FVec F S1x128 .f32 := k0_pay55 (w45 L)
def w48 : FVec F S128x128 .bf16 := k0_pay58 (w26 L)
def w49 : FVec F S128x128 .f32 := k0_pay60 (w26 L) (w34 L)
def w50 : Vec F S384x128 .f32 := L.hin 0
def w51 : FVec F S128x384 .f32 := k0_pay61 (w34 L) (L.hin 0)
def w52 : FVec F S128x128 .f32 := k0_pay62 (w1 L) (w41 L)
def w53 : FVec F S128x128 .f32 := k0_pay63 (w1 L) (w41 L) (w42 L) (w45 L)
def w54 : FVec F S128x128 .f32 := k0_pay64 (w1 L) (w26 L) (w34 L) (w41 L) (w42 L) (w43 L)
def w55 : FVec F S128x128 .f32 := k0_pay65 (w42 L)
def w56 : FVec F S128x128 .f32 := k0_pay66 (w43 L)
def w57 : FVec F S128x128 .f32 := k0_pay67 (w1 L) (w44 L) k0_pay56 k0_pay57 (w49 L) (w51 L) (w52 L) (w54 L) (w55 L) (w56 L) (L.dsk 0 (by omega))
def w58 : FVec F S128x128 .f32 := k0_pay68 (w3 L) (w41 L) k0_pay57
def w59 : FVec F S128x128 .f32 := k0_pay69 (w3 L) (w41 L) (w46 L) k0_pay57
def w60 : FVec F S128x128 .f32 := k0_pay70 (w42 L) (w43 L) k0_pay56 (w49 L)
def w61 : FVec F S128x128 .f32 := k0_pay71 (w3 L) (w42 L) (w43 L) (w44 L) k0_pay56 k0_pay57 (w49 L) (w51 L) (w58 L) (w60 L) (L.dsk 1 (by omega))
def w62 : FVec F S128x128 .f32 := k0_pay72 (w6 L) (w41 L) k0_pay57
def w63 : FVec F S128x128 .f32 := k0_pay73 (w46 L) k0_pay57
def w64 : FVec F S128x128 .f32 := k0_pay74 (w6 L) (w42 L) (w43 L) (w44 L) k0_pay56 k0_pay57 (w49 L) (w51 L) (w62 L) (L.dsk 2 (by omega))
def w65 : FVec F S128x384 .bf16 := k0_pay75 (w53 L) (w59 L) (w62 L) (w63 L)
def w66 : FVec F S128x128 .bf16 := k0_pay77 (w29 L)
def w67 : FVec F S128x128 .f32 := k0_pay79 (w29 L) (w36 L)
def w68 : FVec F S128x384 .f32 := k0_pay80 (w36 L) (L.hin 1)
def w69 : FVec F S128x128 .f32 := k0_pay81 (w9 L) (w41 L) k0_pay57
def w70 : FVec F S128x128 .f32 := k0_pay82 (w9 L) (w41 L) (w46 L) k0_pay57
def w71 : FVec F S128x128 .f32 := k0_pay83 (w42 L) (w43 L)
def w72 : FVec F S128x128 .f32 := k0_pay84 (w9 L) (w42 L) (w43 L) (w44 L) k0_pay56 k0_pay57 (w67 L) (w68 L) (w69 L) (w71 L) (L.dsk 3 (by omega))
def w73 : FVec F S128x128 .f32 := k0_pay85 (w10 L) (w41 L) k0_pay57
def w74 : FVec F S128x1 .f32 := k0_pay86 (w46 L)
def w75 : FVec F S128x128 .f32 := k0_pay87 (w46 L) k0_pay57 (w73 L) (w74 L)
def w76 : FVec F S128x128 .f32 := k0_pay88 (w42 L) (w43 L) (w44 L) k0_pay56 k0_pay57 (w67 L) (w68 L) (w73 L)
def w77 : FVec F S128x128 .f32 := k0_pay89 (L.dsk 4 (by omega))
def w78 : FVec F S128x128 .f32 := k0_pay90 (w10 L) (w76 L) (w77 L)
def w79 : FVec F S128x128 .f32 := k0_pay92 (w11 L) (w41 L) (w46 L) k0_pay57
def w80 : FVec F S128x128 .f32 := k0_pay93 (w11 L) (w41 L) (w42 L) (w43 L) k0_pay56 k0_pay57 (w67 L)
def w81 : FVec F S128x128 .f32 := k0_pay94 (w68 L)
def w82 : FVec F S128x1 .f32 := k0_pay95 (w44 L)
def w83 : FVec F S128x128 .f32 := k0_pay96 (w11 L) (w44 L) k0_pay57 (w80 L) (w81 L) (w82 L) (L.dsk 5 (by omega))
def w84 : FVec F S128x128 .bf16 := k0_pay98 (w31 L)
def w85 : FVec F S128x128 .f32 := k0_pay100 (w31 L) (w38 L)
def w86 : FVec F S128x384 .f32 := k0_pay101 (w38 L) (L.hin 2)
def w87 : FVec F S128x128 .f32 := k0_pay102 (w41 L)
def w88 : FVec F S128x1 .f32 := k0_pay103 (w41 L)
def w89 : FVec F S128x128 .f32 := k0_pay105 (w14 L) (w46 L) k0_pay57 (w87 L) (w88 L)
def w90 : FVec F S128x128 .f32 := k0_pay106 (w14 L) (w42 L) (w43 L) (w44 L) k0_pay56 k0_pay57 (w85 L) (w86 L) (w87 L) (w88 L)
def w91 : FVec F S128x128 .f32 := k0_pay107 (w14 L) (w90 L) (L.dsk 6 (by omega))
def w92 : FVec F S128x128 .f32 := k0_pay109 (w16 L) (w41 L) (w46 L) k0_pay57
def w93 : FVec F S128x128 .f32 := k0_pay110 (w16 L) (w41 L) (w42 L) (w43 L) k0_pay56 k0_pay57 (w85 L)
def w94 : FVec F S128x128 .bf16 := k0_pay111 (w42 L) (w43 L) k0_pay56 (w85 L)
def w95 : FVec F S128x128 .bf16 := k0_pay112 (w16 L) (w41 L) k0_pay57
def w96 : FVec F S128x128 .f32 := k0_pay113 (w16 L) (w44 L) k0_pay57 (w86 L) (w93 L) (w94 L) (w95 L) (constant S128x128 .f32 0x00000000#32) (L.dsk 7 (by omega))
def w97 : FVec F S128x128 .f32 := k0_pay114 (w18 L) (w41 L) k0_pay57
def w98 : FVec F S128x128 .f32 := k0_pay115 (w18 L) (w41 L) (w46 L) k0_pay57
def w99 : FVec F S128x128 .f32 := k0_pay116 (w18 L) (w41 L) (w42 L) (w43 L) k0_pay56 k0_pay57 (w85 L)
def w100 : FVec F S128x128 .f32 := k0_pay117 (w42 L) (w43 L)
def w101 : FVec F S128x128 .f32 := k0_pay118 (w18 L) (w44 L) k0_pay56 k0_pay57 (w85 L) (w86 L) (w97 L) (w99 L) (w100 L) (Scalar.ofBits .f32 0xFF800000#32 : F .f32) (L.dsk 8 (by omega))
def w102 : FVec F S384x128 .f32 := k0_pay119 (w47 L) (w84 L) (L.hin 2) (w89 L) (w92 L) (w98 L)
def w103 : FVec F S128x128 .bf16 := k0_pay121 (w32 L)
def w104 : FVec F S128x128 .f32 := k0_pay123 (w32 L) (w40 L)
def w105 : FVec F S128x384 .f32 := k0_pay124 (w40 L) (L.hin 3)
def w106 : FVec F S128x128 .f32 := k0_pay125 (w21 L) (w41 L) k0_pay57
def w107 : FVec F S128x128 .f32 := k0_pay126 (w21 L) (w41 L) (w46 L) k0_pay57
def w108 : FVec F S128x128 .f32 := k0_pay127 (w21 L) (w32 L) (w40 L) (w41 L) (w42 L) (w43 L) k0_pay56 k0_pay57
def w109 : FVec F S128x128 .bf16 := k0_pay128 (w32 L) (w40 L) (w42 L) (w43 L) k0_pay56
def w110 : FVec F S128x128 .f32 := k0_pay130 (w21 L) (w44 L) k0_pay57 (w105 L) (w106 L) (w108 L) (w109 L) (k0_pay129 k0_pay57) (L.dsk 9 (by omega))
def w111 : FVec F S128x128 .f32 := k0_pay131 (w22 L) (w41 L) k0_pay57
def w112 : FVec F S128x128 .f32 := k0_pay132 (w22 L) (w41 L) (w46 L) k0_pay57
def w113 : FVec F S128x128 .f32 := k0_pay133 (w22 L) (w41 L) (w42 L) (w43 L) k0_pay56 k0_pay57 (w104 L)
def w114 : FVec F S128x1 .f32 := k0_pay134 (w42 L)
def w115 : FVec F S128x128 .f32 := k0_pay135 (w22 L) (w43 L) (w44 L) k0_pay56 k0_pay57 (w104 L) (w105 L) (w111 L) (w113 L) (w114 L) (L.dsk 10 (by omega))
def w116 : FVec F S128x128 .f32 := k0_pay136 (w24 L) (w41 L) k0_pay57
def w117 : FVec F S128x128 .f32 := k0_pay137 (w24 L) (w41 L) (w46 L) k0_pay57
def w118 : FVec F S128x128 .f32 := k0_pay138 (w42 L) (w43 L)
def w119 : FVec F S128x128 .f32 := k0_pay140 (w24 L) (w42 L) (w43 L) (w44 L) k0_pay56 k0_pay57 (w104 L) (w105 L) (w116 L) (w118 L) k0_pay139 (L.dsk 11 (by omega))
def w120 : FVec F S384x128 .f32 := k0_pay141 (w103 L) (w107 L) (w112 L) (w117 L)
def w121 : FVec F S64x128 .f32 := k0_pay142 (w47 L)
def w122 : FVec F S64x128 .f32 := k0_pay143 (w47 L)
def w123 : FVec F S1x1 .f32 := k0_pay144 (w47 L)
def w124 : FVec F S128x128 .f32 := k0_pay146 (L.z 0)
def w125 : FVec F S128x128 .f32 := k0_pay147 (L.z 0)
def w126 : FVec F S128x128 .f32 := k0_pay148 (L.z 1)
def w127 : FVec F S128x128 .f32 := k0_pay149 (L.z 1)
def w128 : FVec F S128x128 .f32 := k0_pay150 (L.z 1)
def w129 : FVec F S128x128 .f32 := k0_pay151 (L.z 1)
def w130 : FVec F S128x128 .f32 := k0_pay152 (L.z 2)
def w131 : FVec F S128x128 .f32 := k0_pay153 (L.z 2)
def w132 : FVec F S128x128 .f32 := k0_pay154 (L.z 2)
def w133 : FVec F S128x128 .f32 := k0_pay155 (L.z 2)
def w134 : FVec F S128x128 .f32 := k0_pay156 (w57 L) (L.z 0)
def w135 : FVec F S128x128 .f32 := k0_pay157 (w61 L) (L.z 0)
def w136 : FVec F S128x128 .f32 := k0_pay161 (w64 L) (w124 L) (w134 L) (w135 L) k0_pay158 (L.ng 0 (by omega))
def w137 : FVec F S128x128 .f32 := k0_pay162 (w64 L) (w124 L) (w134 L) (w135 L) k0_pay158 (L.ng 1 (by omega))
def w138 : FVec F S128x128 .f32 := k0_pay163 (w64 L) (w124 L) (w134 L) (w135 L) k0_pay158 (L.ng 2 (by omega))
def w139 : FVec F S128x128 .f32 := k0_pay164 (w125 L)
def w140 : FVec F S128x128 .f32 := k0_pay167 (w83 L) (w127 L)
def w141 : FVec F S128x1 .f32 := k0_pay168 (w72 L) (w78 L) (w83 L) (w125 L) (w126 L) (w127 L) (w139 L) (Scalar.ofBits .f32 0x3F800000#32 : F .f32)
def w142 : FVec F S128x128 .f32 := k0_pay169 (w72 L) (w78 L) (w83 L) (w125 L) (w126 L) (w127 L) (w139 L) (Scalar.ofBits .f32 0x3F800000#32 : F .f32) (L.ng 3 (by omega))
def w143 : FVec F S128x128 .f32 := k0_pay170 (w72 L) (w78 L) (w83 L) (w125 L) (w126 L) (w127 L) (w139 L) (Scalar.ofBits .f32 0x3F800000#32 : F .f32)
def w144 : FVec F S1x128 .f32 := k0_pay171 (L.ng 4 (by omega))
def w145 : FVec F S128x128 .f32 := k0_pay172 (w143 L) (w144 L)
def w146 : FVec F S128x128 .f32 := k0_pay173 (w140 L) (w141 L) (L.ng 5 (by omega))
def w147 : FVec F S128x128 .f32 := k0_pay174 (w91 L) (w128 L)
def w148 : FVec F S128x128 .f32 := k0_pay175 (w96 L) (w129 L)
def w149 : FVec F S128x128 .f32 := k0_pay176 (w101 L) (w130 L)
def w150 : FVec F S128x1 .f32 := k0_pay177 (w91 L) (w96 L) (w101 L) (w128 L) (w129 L) (w130 L)
def w151 : FVec F S128x128 .f32 := k0_pay179 (w147 L) (w150 L) (L.ng 6 (by omega))
def w152 : FVec F S128x128 .f32 := k0_pay180 (w148 L) (w150 L) (L.ng 7 (by omega))
def w153 : FVec F S128x128 .f32 := k0_pay181 (w149 L) (w150 L) (L.ng 8 (by omega))
def w154 : FVec F S128x128 .f32 := k0_pay182 (w110 L) (w131 L)
def w155 : FVec F S128x128 .f32 := k0_pay183 (w115 L) (w132 L)
def w156 : FVec F S128x128 .f32 := k0_pay184 (w119 L) (w133 L)
def w157 : FVec F S128x1 .f32 := k0_pay185 (w110 L) (w131 L)
def w158 : FVec F S128x128 .f32 := k0_pay186 (w115 L) (w132 L)
def w159 : FVec F S128x128 .f32 := k0_pay188 (w154 L) (w156 L) (w157 L) (w158 L) (L.ng 9 (by omega))
def w160 : FVec F S128x128 .f32 := k0_pay189 (w155 L) (w156 L) (w157 L) (w158 L) (L.ng 10 (by omega))
def w161 : FVec F S128x128 .f32 := k0_pay190 (w156 L) (w157 L) (w158 L) (L.ng 11 (by omega))

def hout0 : FVec F S384x128 .f32 := k0_pay76 (w47 L) (w48 L) (L.hin 0) (w65 L) (constant S384x128 .f32 0x00000000#32)
def hout1 : FVec F S384x128 .f32 := k0_pay97 (w47 L) (w66 L) (L.hin 1) (w70 L) (w75 L) (w79 L)
def hout2 : FVec F S384x128 .f32 := k0_pay120 (w102 L)
def hout3 : FVec F S384x128 .f32 := k0_pay145 (w47 L) (L.hin 3) (w120 L) (w121 L) (w122 L) (w123 L)

/-- The blocks the body stores into its first result, last first. -/
def yws : List (View.Piece (Elt F) S128x1536 .f32) :=
  [⟨Rect.unit ![0, 1408] S128x128.size inb_S128x1536_S128x128_0_1408, w161 L⟩,
   ⟨Rect.unit ![0, 1280] S128x128.size inb_S128x1536_S128x128_0_1280, w160 L⟩,
   ⟨Rect.unit ![0, 1152] S128x128.size inb_S128x1536_S128x128_0_1152, w159 L⟩,
   ⟨Rect.unit ![0, 1024] S128x128.size inb_S128x1536_S128x128_0_1024, w153 L⟩,
   ⟨Rect.unit ![0, 896] S128x128.size inb_S128x1536_S128x128_0_896, w152 L⟩,
   ⟨Rect.unit ![0, 768] S128x128.size inb_S128x1536_S128x128_0_768, w151 L⟩,
   ⟨Rect.unit ![0, 640] S128x128.size inb_S128x1536_S128x128_0_640, w146 L⟩,
   ⟨Rect.unit ![0, 512] S128x128.size inb_S128x1536_S128x128_0_512, w145 L⟩,
   ⟨Rect.unit ![0, 384] S128x128.size inb_S128x1536_S128x128_0_384, w142 L⟩,
   ⟨Rect.unit ![0, 256] S128x128.size inb_S128x1536_S128x128_0_256, w138 L⟩,
   ⟨Rect.unit ![0, 128] S128x128.size inb_S128x1536_S128x128_0_128, w137 L⟩,
   ⟨Rect.unit ![0, 0] S128x128.size inb_S128x1536_S128x128_0_0, w136 L⟩]

/-- The blocks the body stores into the state, last first, over `base`. -/
def hws (base : List (View.Piece (Elt F) S1536x128 .f32)) : List (View.Piece (Elt F) S1536x128 .f32) :=
  ⟨Rect.unit ![1152, 0] S384x128.size inb_S1536x128_S384x128_1152_0, hout3 L⟩ ::
  ⟨Rect.unit ![768, 0] S384x128.size inb_S1536x128_S384x128_768_0, hout2 L⟩ ::
  ⟨Rect.unit ![384, 0] S384x128.size inb_S1536x128_S384x128_384_0, hout1 L⟩ ::
  ⟨Rect.unit ![0, 0] S384x128.size inb_S1536x128_S384x128_0_0, hout0 L⟩ :: base

end Cert.KernelIdeal.Chunk
-- ==== Proof.Match.lean ====
/- The blocks that each case of the body leaves are the chunk's values over that case's loads. -/
module

public import proofs.«01_k».proof.Proof.Gen.KernelIdeal.Frame.RunC
public import proofs.«01_k».proof.Proof.Loads
public import proofs.«01_k».proof.Proof.Words

@[expose] public section

set_option maxRecDepth 16384

noncomputable section

namespace Cert.KernelIdeal.Chunk

open Idealize.ShloMosaic Idealize.ShloMosaic.Tactic Idealize.SL.Sem Cert.KernelIdeal.Gen

variable {F : FTy → Type} [FloatOps F]

/-- The zero halo rows, as stored at a sequence's first chunk. -/
def zeroHalo : List (View.Piece (Elt F) S136x2560 .f32) := [⟨Rect.unit ![0, 0] S8x2560.size inb_S136x2560_S8x2560_0_0, k0_pay2⟩]

/-- The zero state, as stored at a sequence's first chunk. -/
def zeroState : List (View.Piece (Elt F) S1536x128 .f32) := [⟨Rect.unit ![0, 0] S1536x128.size inb_S1536x128_S1536x128_0_0, k0_pay3⟩]

def hpiece0 (L : Loads F) : View.Piece (Elt F) S1536x128 .f32 := ⟨Rect.unit ![0, 0] S384x128.size inb_S1536x128_S384x128_0_0, hout0 L⟩
def hpiece1 (L : Loads F) : View.Piece (Elt F) S1536x128 .f32 := ⟨Rect.unit ![384, 0] S384x128.size inb_S1536x128_S384x128_384_0, hout1 L⟩
def hpiece2 (L : Loads F) : View.Piece (Elt F) S1536x128 .f32 := ⟨Rect.unit ![768, 0] S384x128.size inb_S1536x128_S384x128_768_0, hout2 L⟩

/-- The loads with group `g`'s state replaced. -/
def Loads.setHin (L : Loads F) (g : ℕ) (v : Vec F S384x128 .f32) : Loads F :=
  { L with hin := fun i => bif Nat.beq i.1 g then v else L.hin i }

/-- What a load of group `g`'s rows reads after the writes `P`. -/
def hread {κ : Kind} {sp : Space} (v : View sig κ sp S1536x128 .f32) (g : ℕ) (hg : g < 4) (P : List (View.Piece (Elt F) S1536x128 .f32)) :
    Vec F S384x128 .f32 :=
  View.readAt (Elt F) v (Rect.unit (s := S1536x128) ![384 * g, 0] S384x128.size (inb_h g hg)).toLoadRect (v.writes (Elt F) v.junk P)

theorem runA (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x128 .f32) (harg10 : arg10.IsWhole) (arg11 : Memref sig .tc .vmem S4x2560 .f32) (harg11 : arg11.IsWhole) (arg12 : Memref sig .tc .vmem S1x2560 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x1536 .f32) (harg15 : arg15.IsWhole) (arg16 : Memref sig .tc .vmem S1x1536 .f32) (harg16 : arg16.IsWhole) (arg17 : Memref sig .tc .vmem S128x1536 .f32) (harg17 : arg17.IsWhole) (arg18 : Memref sig .tc .vmem S1x1536x128 .f32) (harg18 : arg18.IsWhole) (arg19 : Memref sig .tc .vmem S136x2560 .f32) (harg19 : arg19.IsWhole) (arg20 : Memref sig .tc .vmem S1536x128 .f32) (harg20 : arg20.IsWhole) (hc0 : cond0_0 i) (hc1 : ¬cond0_1 i)
    (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32) (x7 : Vec F S128x512 .f32) (x8 : Vec F S128x128 .f32) (x9 : Vec F S4x2560 .f32) (x10 : Vec F S1x2560 .f32) (x11 : Vec F S1x128 .f32) (x12 : Vec F S1x128 .f32) (x13 : Vec F S1x1536 .f32) (x14 : Vec F S1x1536 .f32) :
    ∃ L0 L1 L2 L : Loads F,
    L0 = loadsOf arg7 harg7 arg8 harg8 arg9 harg9 arg10 harg10 arg11 harg11 arg12 harg12 arg13 harg13 arg14 harg14 arg15 harg15 arg16 harg16 arg19 x5 x6 x7 x8 x9 x10 x11 x12 x13 x14
      (arg19.view.writes (Elt F) arg19.view.junk (tiles arg2 harg2 arg3 harg3 arg4 harg4 arg5 harg5 arg6 harg6 x0 x1 x2 x3 x4 zeroHalo)) (arg19.view.writes (Elt F) arg19.view.junk (tiles arg2 harg2 arg3 harg3 arg4 harg4 arg5 harg5 arg6 harg6 x0 x1 x2 x3 x4 zeroHalo)) (fun _ => hread arg20.view 0 (by omega) zeroState) ∧
    L1 = L0.setHin 1 (hread arg20.view 1 (by omega) (hpiece0 L0 :: zeroState)) ∧
    L2 = L1.setHin 2 (hread arg20.view 2 (by omega) (hpiece1 L1 :: hpiece0 L0 :: zeroState)) ∧
    L = L2.setHin 3 (hread arg20.view 3 (by omega) (hpiece2 L2 :: hpiece1 L1 :: hpiece0 L0 :: zeroState)) ∧
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14).1 = yws L ∧
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14).2.2.1 = ⟨Rect.unit ![0, 0] S8x2560.size inb_S136x2560_S8x2560_0_0, k0_pay48 (View.readAt (Elt F) arg19.view
      (Rect.unit (s := S136x2560) ![128, 0] S8x2560.size inb_S136x2560_S8x2560_128_0).toLoadRect (arg19.view.writes (Elt F) arg19.view.junk (tiles arg2 harg2 arg3 harg3 arg4 harg4 arg5 harg5 arg6 harg6 x0 x1 x2 x3 x4 zeroHalo)))⟩ :: (tiles arg2 harg2 arg3 harg3 arg4 harg4 arg5 harg5 arg6 harg6 x0 x1 x2 x3 x4 zeroHalo) ∧
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14).2.2.2.1 = hws L zeroState := by
  refine ⟨_, _, _, _, rfl, rfl, rfl, rfl, ?_, ?_, ?_⟩ <;> unfold kernelRun0_A <;> dsimp only <;> sl_kernel_rfl

theorem runB (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x128 .f32) (harg10 : arg10.IsWhole) (arg11 : Memref sig .tc .vmem S4x2560 .f32) (harg11 : arg11.IsWhole) (arg12 : Memref sig .tc .vmem S1x2560 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x1536 .f32) (harg15 : arg15.IsWhole) (arg16 : Memref sig .tc .vmem S1x1536 .f32) (harg16 : arg16.IsWhole) (arg17 : Memref sig .tc .vmem S128x1536 .f32) (harg17 : arg17.IsWhole) (arg18 : Memref sig .tc .vmem S1x1536x128 .f32) (harg18 : arg18.IsWhole) (arg19 : Memref sig .tc .vmem S136x2560 .f32) (harg19 : arg19.IsWhole) (arg20 : Memref sig .tc .vmem S1536x128 .f32) (harg20 : arg20.IsWhole) (hc0 : ¬cond0_0 i) (hc1 : ¬cond0_1 i)
    (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32) (x7 : Vec F S128x512 .f32) (x8 : Vec F S128x128 .f32) (x9 : Vec F S4x2560 .f32) (x10 : Vec F S1x2560 .f32) (x11 : Vec F S1x128 .f32) (x12 : Vec F S1x128 .f32) (x13 : Vec F S1x1536 .f32) (x14 : Vec F S1x1536 .f32) (xs0 : Vec F S136x2560 .f32) (xs1 : Vec F S1536x128 .f32) :
    ∃ L : Loads F, L = (loadsOf arg7 harg7 arg8 harg8 arg9 harg9 arg10 harg10 arg11 harg11 arg12 harg12 arg13 harg13 arg14 harg14 arg15 harg15 arg16 harg16 arg19 x5 x6 x7 x8 x9 x10 x11 x12 x13 x14
      (arg19.view.writes (Elt F) (harg19.unread xs0) (tiles arg2 harg2 arg3 harg3 arg4 harg4 arg5 harg5 arg6 harg6 x0 x1 x2 x3 x4 [])) (arg19.view.writes (Elt F) arg19.view.junk (tiles arg2 harg2 arg3 harg3 arg4 harg4 arg5 harg5 arg6 harg6 x0 x1 x2 x3 x4 []))
      (fun g => View.readAt (Elt F) arg20.view (Rect.unit (s := S1536x128) ![384 * (g : ℕ), 0] S384x128.size (inb_h _ g.2)).toLoadRect (harg20.unread xs1))) ∧
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 xs0 xs1).1 = yws L ∧
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 xs0 xs1).2.2.1 = ⟨Rect.unit ![0, 0] S8x2560.size inb_S136x2560_S8x2560_0_0, k0_pay48 (View.readAt (Elt F) arg19.view
      (Rect.unit (s := S136x2560) ![128, 0] S8x2560.size inb_S136x2560_S8x2560_128_0).toLoadRect (arg19.view.writes (Elt F) arg19.view.junk (tiles arg2 harg2 arg3 harg3 arg4 harg4 arg5 harg5 arg6 harg6 x0 x1 x2 x3 x4 [])))⟩ :: (tiles arg2 harg2 arg3 harg3 arg4 harg4 arg5 harg5 arg6 harg6 x0 x1 x2 x3 x4 []) ∧
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 xs0 xs1).2.2.2.1 = hws L [] ∧
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 xs0 xs1).2.1 = [] := by
  refine ⟨_, rfl, ?_, ?_, ?_, ?_⟩ <;> unfold kernelRun0_B <;> dsimp only <;> sl_kernel_rfl

theorem runC (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x128 .f32) (harg10 : arg10.IsWhole) (arg11 : Memref sig .tc .vmem S4x2560 .f32) (harg11 : arg11.IsWhole) (arg12 : Memref sig .tc .vmem S1x2560 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x1536 .f32) (harg15 : arg15.IsWhole) (arg16 : Memref sig .tc .vmem S1x1536 .f32) (harg16 : arg16.IsWhole) (arg17 : Memref sig .tc .vmem S128x1536 .f32) (harg17 : arg17.IsWhole) (arg18 : Memref sig .tc .vmem S1x1536x128 .f32) (harg18 : arg18.IsWhole) (arg19 : Memref sig .tc .vmem S136x2560 .f32) (harg19 : arg19.IsWhole) (arg20 : Memref sig .tc .vmem S1536x128 .f32) (harg20 : arg20.IsWhole) (hc0 : ¬cond0_0 i) (hc1 : cond0_1 i)
    (x0 : Vec F S128x512 .f32) (x1 : Vec F S128x512 .f32) (x2 : Vec F S128x512 .f32) (x3 : Vec F S128x512 .f32) (x4 : Vec F S128x512 .f32) (x5 : Vec F S128x512 .f32) (x6 : Vec F S128x512 .f32) (x7 : Vec F S128x512 .f32) (x8 : Vec F S128x128 .f32) (x9 : Vec F S4x2560 .f32) (x10 : Vec F S1x2560 .f32) (x11 : Vec F S1x128 .f32) (x12 : Vec F S1x128 .f32) (x13 : Vec F S1x1536 .f32) (x14 : Vec F S1x1536 .f32) (xs0 : Vec F S136x2560 .f32) (xs1 : Vec F S1536x128 .f32) :
    ∃ L : Loads F, L = (loadsOf arg7 harg7 arg8 harg8 arg9 harg9 arg10 harg10 arg11 harg11 arg12 harg12 arg13 harg13 arg14 harg14 arg15 harg15 arg16 harg16 arg19 x5 x6 x7 x8 x9 x10 x11 x12 x13 x14
      (arg19.view.writes (Elt F) (harg19.unread xs0) (tiles arg2 harg2 arg3 harg3 arg4 harg4 arg5 harg5 arg6 harg6 x0 x1 x2 x3 x4 [])) (arg19.view.writes (Elt F) arg19.view.junk (tiles arg2 harg2 arg3 harg3 arg4 harg4 arg5 harg5 arg6 harg6 x0 x1 x2 x3 x4 []))
      (fun g => View.readAt (Elt F) arg20.view (Rect.unit (s := S1536x128) ![384 * (g : ℕ), 0] S384x128.size (inb_h _ g.2)).toLoadRect (harg20.unread xs1))) ∧
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 xs0 xs1).1 = yws L ∧
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 xs0 xs1).2.2.1 = ⟨Rect.unit ![0, 0] S8x2560.size inb_S136x2560_S8x2560_0_0, k0_pay48 (View.readAt (Elt F) arg19.view
      (Rect.unit (s := S136x2560) ![128, 0] S8x2560.size inb_S136x2560_S8x2560_128_0).toLoadRect (arg19.view.writes (Elt F) arg19.view.junk (tiles arg2 harg2 arg3 harg3 arg4 harg4 arg5 harg5 arg6 harg6 x0 x1 x2 x3 x4 [])))⟩ :: (tiles arg2 harg2 arg3 harg3 arg4 harg4 arg5 harg5 arg6 harg6 x0 x1 x2 x3 x4 []) ∧
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 xs0 xs1).2.2.2.1 = hws L [] ∧
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 xs0 xs1).2.1 = [⟨Rect.unit ![0, 0, 0] S1x1536x128.size inb_S1x1536x128_S1x1536x128_0_0_0, k0_pay1 (View.readAt (Elt F) arg20.view
      (Rect.unit (s := S1536x128) ![0, 0] S1536x128.size inb_S1536x128_S1536x128_0_0).toLoadRect (arg20.view.writes (Elt F) arg20.view.junk (hws L [])))⟩] := by
  refine ⟨_, rfl, ?_, ?_, ?_, ?_⟩ <;> unfold kernelRun0_C <;> dsimp only <;> sl_kernel_rfl

end Cert.KernelIdeal.Chunk
-- ==== Proof.WordsEq.lean ====
/- The values of `Words.lean` are the chunk's functions of `Chunk.lean`. -/
module

public import proofs.«01_k».proof.Proof.Words
public import Idealize.ShloMosaic.Lib.Tactic

@[expose] public section

set_option maxRecDepth 16384

noncomputable section

namespace Cert.KernelIdeal.Chunk

open Idealize.ShloMosaic Idealize.ShloMosaic.Tactic Idealize.SL.Sem Cert.KernelIdeal.Gen

variable {F : FTy → Type} [FloatOps F] (L : Loads F)

theorem hout_eq : hout0 L = hout L 0 ∧ hout1 L = hout L 1 ∧ hout2 L = hout L 2 ∧ hout3 L = hout L 3 := by
  refine ⟨?_, ?_, ?_, ?_⟩ <;> sl_kernel_rfl

theorem yws_eq : yws L = ypieces L := by sl_kernel_rfl

end Cert.KernelIdeal.Chunk
-- ==== Proof.Pieces.lean ====
/- What the buffers hold after one grid point's stores, at an index. -/
module

public import proofs.«01_k».proof.Proof.Reads
public import proofs.«01_k».proof.Proof.Match
public import proofs.«01_k».proof.Proof.WordsEq

@[expose] public section

set_option maxRecDepth 16384

noncomputable section

namespace Cert.KernelIdeal.Chunk

open Idealize.ShloMosaic Idealize.SL.Sem Cert.KernelIdeal.Gen Idealize.ShloMosaic.Pointwise

variable {L : Loads Ideal} {I : Cert.Spec.In} (R : Rel L I) {κ : Kind} {sp : Space}

theorem Rel.setHin {L : Loads Ideal} {I : Cert.Spec.In} (R : Rel L I) (g : ℕ) (v : Vec Ideal S384x128 .f32)
    (hv : ∀ (r : Fin 384) (n : Fin 128), v (ix2 r n) = I.hin (384 * g + r) n) : Rel (L.setHin g v) I where
  buf := R.buf
  cb := R.cb
  cw := R.cw
  dtr := R.dtr
  dtb := R.dtb
  av := R.av
  hin g' r n := by
    show (bif Nat.beq g'.1 g then v else L.hin g') (ix2 r n) = _
    by_cases h : g'.1 = g
    · rw [show Nat.beq g'.1 g = true from Nat.beq_eq.mpr h, h]
      exact hv r n
    · rw [show Nat.beq g'.1 g = false from Bool.eq_false_iff.mpr fun e => h (Nat.beq_eq.mp e)]
      exact R.hin g' r n
  dsk := R.dsk
  ng := R.ng
  z := R.z

theorem mem_box {R C r c : ℕ} (o p : ℕ) (inb : ∀ a, (![o, p] : Fin 2 → ℕ) a + (![r, c] : Fin 2 → ℕ) a ≤ (![R, C] : Fin 2 → ℕ) a)
    (i : Fin R) (j : Fin C) (h : o ≤ (i : ℕ) ∧ (i : ℕ) < o + r ∧ p ≤ (j : ℕ) ∧ (j : ℕ) < p + c) :
    (ix2 i j : (⟨2, ![R, C]⟩ : Shape).Idx) ∈ (Rect.unit (s := (⟨2, ![R, C]⟩ : Shape)) ![o, p] ![r, c] inb).set := by
  rw [Rect.mem_set_unit]
  exact Fin.forall_fin_two.mpr ⟨⟨h.1, h.2.1⟩, ⟨h.2.2.1, h.2.2.2⟩⟩

include R

theorem ypiece_at (g : Fin 4) (k : Fin 3) (x : (ypiece L g k).1.shape.Idx) :
    (ypiece L g k).2 x = (fun i : S128x1536.Idx => Cert.Spec.yout I (i 0) (i 1)) ((ypiece L g k).1.emb x) := by
  obtain ⟨l, j, rfl⟩ : ∃ (l j : Fin 128), x = ix2 l j := ⟨x 0, x 1, funext fun a => by fin_cases a <;> rfl⟩
  refine (yout_at R g k l j).trans ?_
  show _ = Cert.Spec.yout I (0 + 1 * (l : ℕ)) (128 * (3 * (g : ℕ) + k) + 1 * (j : ℕ))
  rw [Nat.zero_add, Nat.one_mul, Nat.one_mul]

/-- The first result's block. -/
theorem ypieces_at (v : View sig κ sp S128x1536 .f32) (f : v.ty.Contents (Elt Ideal)) (l : Fin 128) (j : Fin 1536) :
    v.read (Elt Ideal) (v.writes (Elt Ideal) f (yws L)) (ix2 l j) = Cert.Spec.yout I l j := by
  rw [yws_eq]
  refine View.read_writes_apply_of_pieces v f (fun i : S128x1536.Idx => Cert.Spec.yout I (i 0) (i 1)) (ypieces L) ?_ (ix2 l j) ?_
  · simp only [ypieces, List.forall_mem_cons]
    refine ⟨?_, ?_, ?_, ?_, ?_, ?_, ?_, ?_, ?_, ?_, ?_, ?_, by simp⟩ <;> exact ypiece_at R _ _
  · refine ⟨ypiece L ⟨j / 384, by omega⟩ ⟨j / 128 % 3, by omega⟩, ?_, ?_⟩
    · have hm : ∀ (g : Fin 4) (k : Fin 3), ypiece L g k ∈ ypieces L := fun g k => by
        fin_cases g <;> fin_cases k <;> simp [ypieces]
      exact hm _ _
    · refine mem_box _ _ (inb_y _ (by simp only []; omega)) _ _ ⟨by omega, by omega, ?_, ?_⟩ <;> (simp only []; omega)

theorem hpiece_at (g : Fin 4) (x : (hpiece L g).1.shape.Idx) :
    (hpiece L g).2 x = (fun i : S1536x128.Idx => Cert.Spec.hout I (i 0) (i 1)) ((hpiece L g).1.emb x) := by
  obtain ⟨r, n, rfl⟩ : ∃ (r : Fin 384) (n : Fin 128), x = ix2 r n := ⟨x 0, x 1, funext fun a => by fin_cases a <;> rfl⟩
  refine (hout_at R g r n).trans ?_
  show _ = Cert.Spec.hout I (384 * (g : ℕ) + 1 * (r : ℕ)) (0 + 1 * (n : ℕ))
  rw [Nat.zero_add, Nat.one_mul, Nat.one_mul]

/-- The state the point leaves. -/
theorem hpieces_at (v : View sig κ sp S1536x128 .f32) (f : v.ty.Contents (Elt Ideal)) (base : List (View.Piece (Elt Ideal) S1536x128 .f32))
    (r : Fin 1536) (n : Fin 128) :
    v.read (Elt Ideal) (v.writes (Elt Ideal) f (hws L base)) (ix2 r n) = Cert.Spec.hout I r n := by
  have e : hws L base = [hpiece L 3, hpiece L 2, hpiece L 1, hpiece L 0] ++ base := by
    obtain ⟨h0, h1, h2, h3⟩ := hout_eq L
    unfold hws
    rw [h0, h1, h2, h3]
    rfl
  have hw : v.writes (Elt Ideal) f (hws L base) = v.writes (Elt Ideal) (v.writes (Elt Ideal) f base) [hpiece L 3, hpiece L 2, hpiece L 1, hpiece L 0] := by
    rw [e]
    rfl
  rw [hw]
  refine View.read_writes_apply_of_pieces (Val := Elt Ideal) v _ (fun i : S1536x128.Idx => Cert.Spec.hout I (i 0) (i 1)) _ ?_ (ix2 r n) ?_
  · simp only [List.forall_mem_cons]
    refine ⟨?_, ?_, ?_, ?_, by simp⟩ <;> exact hpiece_at R _
  · refine ⟨hpiece L ⟨r / 384, by omega⟩, ?_, ?_⟩
    · have hm : ∀ g : Fin 4, hpiece L g ∈ [hpiece L 3, hpiece L 2, hpiece L 1, hpiece L 0] := fun g => by
        fin_cases g <;> simp
      exact hm _
    · refine mem_box _ _ (inb_h _ (by simp only []; omega)) _ _ ⟨?_, ?_, by omega, by omega⟩ <;> (simp only []; omega)

omit R

/-- The halo rows a point leaves for the next: the last eight rows of its buffer. -/
theorem halo_at (v v' : View sig κ sp S136x2560 .f32) (f : v.ty.Contents (Elt Ideal)) (f' : v'.ty.Contents (Elt Ideal))
    (T : List (View.Piece (Elt Ideal) S136x2560 .f32)) (i : Fin 136) (j : Fin 2560) (hi : (i : ℕ) < 8) :
    v.read (Elt Ideal) (v.writes (Elt Ideal) f (⟨Rect.unit ![0, 0] S8x2560.size inb_S136x2560_S8x2560_0_0, k0_pay48 (View.readAt (Elt Ideal) v'
      (Rect.unit (s := S136x2560) ![128, 0] S8x2560.size inb_S136x2560_S8x2560_128_0).toLoadRect f')⟩ :: T)) (ix2 i j)
      = v'.read (Elt Ideal) f' (ix2 ⟨128 + i, by omega⟩ j) := by
  have hp : ∀ (x : Vec Ideal S8x2560 .f32), k0_pay48 x = x := fun x => by unfold k0_pay48; exact shapeCast_self _ _
  refine (read_hit v f 0 0 _ _ _ ⟨i, hi⟩ j i j (by simp) (by simp)).trans ?_
  rw [hp]
  exact readAt_at v' f' 128 0 _ ⟨i, hi⟩ j ⟨128 + i, by omega⟩ j rfl (by simp)

/-- The zero halo. -/
theorem zeroHalo_at (v : View sig κ sp S136x2560 .f32) (f : v.ty.Contents (Elt Ideal)) (i : Fin 136) (j : Fin 2560) (hi : (i : ℕ) < 8) :
    v.read (Elt Ideal) (v.writes (Elt Ideal) f zeroHalo) (ix2 i j) = (0 : EReal) := by
  unfold zeroHalo
  refine (read_hit v f 0 0 _ _ _ ⟨i, hi⟩ j i j (by simp) (by simp)).trans ?_
  unfold k0_pay2
  pointwise []

/-- The zero state, under stores to other groups' rows. -/
theorem zeroState_at (v : View sig κ sp S1536x128 .f32) (f : v.ty.Contents (Elt Ideal)) (r : Fin 1536) (n : Fin 128) :
    v.read (Elt Ideal) (v.writes (Elt Ideal) f zeroState) (ix2 r n) = (0 : EReal) := by
  unfold zeroState
  refine (read_hit v f 0 0 _ _ _ r n r n (by simp) (by simp)).trans ?_
  unfold k0_pay3
  pointwise []

theorem hread_at (v : View sig κ sp S1536x128 .f32) (g : ℕ) (hg : g < 4) (P : List (View.Piece (Elt Ideal) S1536x128 .f32))
    (hP : ∀ (r : Fin 1536) (n : Fin 128), 384 * g ≤ (r : ℕ) → (v.read (Elt Ideal) (v.writes (Elt Ideal) v.junk P) (ix2 r n) : EReal) = 0)
    (r : Fin 384) (n : Fin 128) : hread (F := Ideal) v g hg P (ix2 r n) = (0 : EReal) :=
  (readAt_at v _ (384 * g) 0 _ r n ⟨384 * g + r, by omega⟩ n rfl (by simp)).trans (hP _ _ (by simp))

theorem hread0_at (v : View sig κ sp S1536x128 .f32) (g : ℕ) (hg : g < 4) (r : Fin 384) (n : Fin 128) : hread (F := Ideal) v g hg zeroState (ix2 r n) = (0 : EReal) :=
  hread_at v g hg _ (fun r n _ => zeroState_at v _ r n) r n

theorem hread1_at (v : View sig κ sp S1536x128 .f32) (L0 : Loads Ideal) (r : Fin 384) (n : Fin 128) :
    hread v 1 (by omega) (hpiece0 L0 :: zeroState) (ix2 r n) = (0 : EReal) :=
  hread_at v 1 _ _ (fun r n h => (read_miss v _ 0 0 _ _ _ r n (by omega)).trans (zeroState_at v _ r n)) r n

theorem hread2_at (v : View sig κ sp S1536x128 .f32) (L0 L1 : Loads Ideal) (r : Fin 384) (n : Fin 128) :
    hread v 2 (by omega) (hpiece1 L1 :: hpiece0 L0 :: zeroState) (ix2 r n) = (0 : EReal) :=
  hread_at v 2 _ _ (fun r n h => (read_miss v _ 384 0 _ _ _ r n (by omega)).trans
    ((read_miss v _ 0 0 _ _ _ r n (by omega)).trans (zeroState_at v _ r n))) r n

theorem hread3_at (v : View sig κ sp S1536x128 .f32) (L0 L1 L2 : Loads Ideal) (r : Fin 384) (n : Fin 128) :
    hread v 3 (by omega) (hpiece2 L2 :: hpiece1 L1 :: hpiece0 L0 :: zeroState) (ix2 r n) = (0 : EReal) :=
  hread_at v 3 _ _ (fun r n h => (read_miss v _ 768 0 _ _ _ r n (by omega)).trans ((read_miss v _ 384 0 _ _ _ r n (by omega)).trans
    ((read_miss v _ 0 0 _ _ _ r n (by omega)).trans (zeroState_at v _ r n)))) r n

end Cert.KernelIdeal.Chunk
-- ==== Proof.Case.lean ====
/- One grid point of the kernel, in each of its three cases, is one chunk of the specification. -/
module

public import proofs.«01_k».proof.Proof.Pieces
public import proofs.«01_k».proof.Proof.Gen.KernelIdeal.Frame

@[expose] public section

set_option maxRecDepth 16384

noncomputable section

namespace Cert.KernelIdeal.Chunk

open Idealize.ShloMosaic Idealize.SL.Sem Cert.KernelIdeal.Gen Idealize.ShloMosaic.Pointwise

/-- The contents `y`, `buf`, `h` are a chunk's result, window buffer and state. -/
structure Done (y : Vec Ideal S128x1536 .f32) (buf : Vec Ideal S136x2560 .f32) (h : Vec Ideal S1536x128 .f32) (I : Cert.Spec.In) : Prop where
  y : ∀ (l : Fin 128) (j : Fin 1536), y (ix2 l j) = Cert.Spec.yout I l j
  buf : ∀ (i : Fin 136) (j : Fin 2560), 5 ≤ (i : ℕ) → (i : ℕ) < 8 → buf (ix2 i j) = I.u (123 + i) j
  h : ∀ (r : Fin 1536) (n : Fin 128), h (ix2 r n) = Cert.Spec.hout I r n

/-- The window buffer, its halo rows holding the three rows before the chunk, holds the chunk's rows. -/
theorem buf_at (arg2 : Memref sig .tc .vmem S128x512 .f32) (harg2 : arg2.IsWhole) (arg3 : Memref sig .tc .vmem S128x512 .f32) (harg3 : arg3.IsWhole)
    (arg4 : Memref sig .tc .vmem S128x512 .f32) (harg4 : arg4.IsWhole) (arg5 : Memref sig .tc .vmem S128x512 .f32) (harg5 : arg5.IsWhole)
    (arg6 : Memref sig .tc .vmem S128x512 .f32) (harg6 : arg6.IsWhole)
    {x0 x1 x2 x3 x4 x5 x6 x7 : Vec Ideal S128x512 .f32} {x8 : Vec Ideal S128x128 .f32} {x9 : Vec Ideal S4x2560 .f32}
    {x10 : Vec Ideal S1x2560 .f32} {x11 x12 : Vec Ideal S1x128 .f32} {x13 x14 : Vec Ideal S1x1536 .f32} {I : Cert.Spec.In}
    (B : Blocks x0 x1 x2 x3 x4 x5 x6 x7 x8 x9 x10 x11 x12 x13 x14 I) {κ : Kind} {sp : Space}
    (v : View sig κ sp S136x2560 .f32) (f : v.ty.Contents (Elt Ideal)) (base : List (View.Piece (Elt Ideal) S136x2560 .f32))
    (hf : ∀ (i : Fin 136) (j : Fin 2560), 5 ≤ (i : ℕ) → (i : ℕ) < 8 → v.read (Elt Ideal) (v.writes (Elt Ideal) f base) (ix2 i j) = I.u (i - 5) j)
    (i : Fin 136) (j : Fin 2560) (hi : 5 ≤ (i : ℕ)) :
    v.read (Elt Ideal) (v.writes (Elt Ideal) f (tiles arg2 harg2 arg3 harg3 arg4 harg4 arg5 harg5 arg6 harg6 x0 x1 x2 x3 x4 base)) (ix2 i j)
      = I.u (i - 5) j := by
  by_cases h : 8 ≤ (i : ℕ)
  · exact tiles_hit arg2 harg2 arg3 harg3 arg4 harg4 arg5 harg5 arg6 harg6 B v f base i j h
  · exact (tiles_miss arg2 harg2 arg3 harg3 arg4 harg4 arg5 harg5 arg6 harg6 v f base i j (by omega)).trans (hf i j hi (by omega))

/-- A sequence's first chunk. -/
theorem caseA (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x128 .f32) (harg10 : arg10.IsWhole) (arg11 : Memref sig .tc .vmem S4x2560 .f32) (harg11 : arg11.IsWhole) (arg12 : Memref sig .tc .vmem S1x2560 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x1536 .f32) (harg15 : arg15.IsWhole) (arg16 : Memref sig .tc .vmem S1x1536 .f32) (harg16 : arg16.IsWhole) (arg17 : Memref sig .tc .vmem S128x1536 .f32) (harg17 : arg17.IsWhole) (arg18 : Memref sig .tc .vmem S1x1536x128 .f32) (harg18 : arg18.IsWhole) (arg19 : Memref sig .tc .vmem S136x2560 .f32) (harg19 : arg19.IsWhole) (arg20 : Memref sig .tc .vmem S1536x128 .f32) (harg20 : arg20.IsWhole) (hc0 : cond0_0 i) (hc1 : ¬cond0_1 i)
    (x0 : Vec Ideal S128x512 .f32) (x1 : Vec Ideal S128x512 .f32) (x2 : Vec Ideal S128x512 .f32) (x3 : Vec Ideal S128x512 .f32) (x4 : Vec Ideal S128x512 .f32) (x5 : Vec Ideal S128x512 .f32) (x6 : Vec Ideal S128x512 .f32) (x7 : Vec Ideal S128x512 .f32) (x8 : Vec Ideal S128x128 .f32) (x9 : Vec Ideal S4x2560 .f32) (x10 : Vec Ideal S1x2560 .f32) (x11 : Vec Ideal S1x128 .f32) (x12 : Vec Ideal S1x128 .f32) (x13 : Vec Ideal S1x1536 .f32) (x14 : Vec Ideal S1x1536 .f32)
    {I : Cert.Spec.In} (B : Blocks x0 x1 x2 x3 x4 x5 x6 x7 x8 x9 x10 x11 x12 x13 x14 I)
    (hu : ∀ i j, i < 3 → I.u i j = 0) (hh : ∀ r n, I.hin r n = 0) :
    Done (out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14) (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14) (sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14) I := by
  obtain ⟨L0, L1, L2, L, e0, e1, e2, e3, hy, hb, hs⟩ := runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14
  have hf := buf_at arg2 harg2 arg3 harg3 arg4 harg4 arg5 harg5 arg6 harg6 B arg19.view arg19.view.junk zeroHalo
    (fun i j h5 h8 => (zeroHalo_at arg19.view _ i j h8).trans (hu _ _ (by omega)).symm)
  have R0 : Rel L0 I := e0 ▸ rel_loadsOf arg7 harg7 arg8 harg8 arg9 harg9 arg10 harg10 arg11 harg11 arg12 harg12 arg13 harg13 arg14 harg14 arg15 harg15 arg16 harg16 arg19 B _ _ _ hf
    (fun i j h => hf i j (by omega)) (fun g r n => (hread0_at _ _ _ r n).trans (hh _ _).symm)
  have R1 : Rel L1 I := e1 ▸ R0.setHin 1 _ (fun r n => (hread1_at _ _ r n).trans (hh _ _).symm)
  have R2 : Rel L2 I := e2 ▸ R1.setHin 2 _ (fun r n => (hread2_at _ _ _ r n).trans (hh _ _).symm)
  have R : Rel L I := e3 ▸ R2.setHin 3 _ (fun r n => (hread3_at _ _ _ _ r n).trans (hh _ _).symm)
  refine ⟨fun l j => ?_, fun i j h5 h8 => ?_, fun r n => ?_⟩
  · unfold out0_A_15
    rw [hy]
    exact ypieces_at R VO0_15 _ l j
  · unfold sout0_A_0
    rw [hb]
    refine (halo_at VS0_0 arg19.view _ _ _ i j h8).trans ((hf _ _ (by simp only []; omega)).trans ?_)
    congr 1
    simp only []
    omega
  · unfold sout0_A_1
    rw [hs]
    exact hpieces_at R VS0_1 _ _ r n

/-- A chunk inside a sequence. -/
theorem caseB (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x128 .f32) (harg10 : arg10.IsWhole) (arg11 : Memref sig .tc .vmem S4x2560 .f32) (harg11 : arg11.IsWhole) (arg12 : Memref sig .tc .vmem S1x2560 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x1536 .f32) (harg15 : arg15.IsWhole) (arg16 : Memref sig .tc .vmem S1x1536 .f32) (harg16 : arg16.IsWhole) (arg17 : Memref sig .tc .vmem S128x1536 .f32) (harg17 : arg17.IsWhole) (arg18 : Memref sig .tc .vmem S1x1536x128 .f32) (harg18 : arg18.IsWhole) (arg19 : Memref sig .tc .vmem S136x2560 .f32) (harg19 : arg19.IsWhole) (arg20 : Memref sig .tc .vmem S1536x128 .f32) (harg20 : arg20.IsWhole) (hc0 : ¬cond0_0 i) (hc1 : ¬cond0_1 i)
    (x0 : Vec Ideal S128x512 .f32) (x1 : Vec Ideal S128x512 .f32) (x2 : Vec Ideal S128x512 .f32) (x3 : Vec Ideal S128x512 .f32) (x4 : Vec Ideal S128x512 .f32) (x5 : Vec Ideal S128x512 .f32) (x6 : Vec Ideal S128x512 .f32) (x7 : Vec Ideal S128x512 .f32) (x8 : Vec Ideal S128x128 .f32) (x9 : Vec Ideal S4x2560 .f32) (x10 : Vec Ideal S1x2560 .f32) (x11 : Vec Ideal S1x128 .f32) (x12 : Vec Ideal S1x128 .f32) (x13 : Vec Ideal S1x1536 .f32) (x14 : Vec Ideal S1x1536 .f32) (xs0 : Vec Ideal S136x2560 .f32) (xs1 : Vec Ideal S1536x128 .f32)
    {I : Cert.Spec.In} (B : Blocks x0 x1 x2 x3 x4 x5 x6 x7 x8 x9 x10 x11 x12 x13 x14 I)
    (hu : ∀ (i : Fin 136) (j : Fin 2560), 5 ≤ (i : ℕ) → (i : ℕ) < 8 → xs0 (ix2 i j) = I.u (i - 5) j)
    (hh : ∀ (r : Fin 1536) (n : Fin 128), xs1 (ix2 r n) = I.hin r n) :
    Done (out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 xs0 xs1) (sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 xs0 xs1) (sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 xs0 xs1) I := by
  obtain ⟨L, e, hy, hb, hs, ho⟩ := runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 xs0 xs1
  have hf := buf_at arg2 harg2 arg3 harg3 arg4 harg4 arg5 harg5 arg6 harg6 B arg19.view (harg19.unread xs0) []
    (fun i j h5 h8 => (congrFun (harg19.read_unread xs0) _).trans (hu i j h5 h8))
  have hf8 := tiles_hit arg2 harg2 arg3 harg3 arg4 harg4 arg5 harg5 arg6 harg6 B arg19.view arg19.view.junk []
  have R : Rel L I := e ▸ rel_loadsOf arg7 harg7 arg8 harg8 arg9 harg9 arg10 harg10 arg11 harg11 arg12 harg12 arg13 harg13 arg14 harg14 arg15 harg15 arg16 harg16 arg19 B _ _ _ hf hf8
    (fun g r n => (readAt_unread_at arg20 harg20 xs1 (384 * g) 0 _ r n ⟨384 * g + r, by omega⟩ n rfl (by simp)).trans (hh _ _))
  refine ⟨fun l j => ?_, fun i j h5 h8 => ?_, fun r n => ?_⟩
  · unfold out0_B_15
    rw [hy]
    exact ypieces_at R VO0_15 _ l j
  · unfold sout0_B_0
    rw [hb]
    refine (halo_at VS0_0 arg19.view _ _ _ i j h8).trans ((hf8 _ _ (by simp only []; omega)).trans ?_)
    congr 1
    simp only []
    omega
  · unfold sout0_B_1
    rw [hs]
    exact hpieces_at R VS0_1 _ _ r n

/-- A sequence's last chunk, which also writes the state out. -/
theorem caseC (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x128 .f32) (harg10 : arg10.IsWhole) (arg11 : Memref sig .tc .vmem S4x2560 .f32) (harg11 : arg11.IsWhole) (arg12 : Memref sig .tc .vmem S1x2560 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x1536 .f32) (harg15 : arg15.IsWhole) (arg16 : Memref sig .tc .vmem S1x1536 .f32) (harg16 : arg16.IsWhole) (arg17 : Memref sig .tc .vmem S128x1536 .f32) (harg17 : arg17.IsWhole) (arg18 : Memref sig .tc .vmem S1x1536x128 .f32) (harg18 : arg18.IsWhole) (arg19 : Memref sig .tc .vmem S136x2560 .f32) (harg19 : arg19.IsWhole) (arg20 : Memref sig .tc .vmem S1536x128 .f32) (harg20 : arg20.IsWhole) (hc0 : ¬cond0_0 i) (hc1 : cond0_1 i)
    (x0 : Vec Ideal S128x512 .f32) (x1 : Vec Ideal S128x512 .f32) (x2 : Vec Ideal S128x512 .f32) (x3 : Vec Ideal S128x512 .f32) (x4 : Vec Ideal S128x512 .f32) (x5 : Vec Ideal S128x512 .f32) (x6 : Vec Ideal S128x512 .f32) (x7 : Vec Ideal S128x512 .f32) (x8 : Vec Ideal S128x128 .f32) (x9 : Vec Ideal S4x2560 .f32) (x10 : Vec Ideal S1x2560 .f32) (x11 : Vec Ideal S1x128 .f32) (x12 : Vec Ideal S1x128 .f32) (x13 : Vec Ideal S1x1536 .f32) (x14 : Vec Ideal S1x1536 .f32) (xs0 : Vec Ideal S136x2560 .f32) (xs1 : Vec Ideal S1536x128 .f32)
    {I : Cert.Spec.In} (B : Blocks x0 x1 x2 x3 x4 x5 x6 x7 x8 x9 x10 x11 x12 x13 x14 I)
    (hu : ∀ (i : Fin 136) (j : Fin 2560), 5 ≤ (i : ℕ) → (i : ℕ) < 8 → xs0 (ix2 i j) = I.u (i - 5) j)
    (hh : ∀ (r : Fin 1536) (n : Fin 128), xs1 (ix2 r n) = I.hin r n) :
    Done (out0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 xs0 xs1) (sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 xs0 xs1) (sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 xs0 xs1) I ∧
    ∀ (r : Fin 1536) (n : Fin 128), out0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 xs0 xs1 (ix3 0 r n) = Cert.Spec.hout I r n := by
  obtain ⟨L, e, hy, hb, hs, ho⟩ := runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 xs0 xs1
  have hf := buf_at arg2 harg2 arg3 harg3 arg4 harg4 arg5 harg5 arg6 harg6 B arg19.view (harg19.unread xs0) []
    (fun i j h5 h8 => (congrFun (harg19.read_unread xs0) _).trans (hu i j h5 h8))
  have hf8 := tiles_hit arg2 harg2 arg3 harg3 arg4 harg4 arg5 harg5 arg6 harg6 B arg19.view arg19.view.junk []
  have R : Rel L I := e ▸ rel_loadsOf arg7 harg7 arg8 harg8 arg9 harg9 arg10 harg10 arg11 harg11 arg12 harg12 arg13 harg13 arg14 harg14 arg15 harg15 arg16 harg16 arg19 B _ _ _ hf hf8
    (fun g r n => (readAt_unread_at arg20 harg20 xs1 (384 * g) 0 _ r n ⟨384 * g + r, by omega⟩ n rfl (by simp)).trans (hh _ _))
  refine ⟨⟨fun l j => ?_, fun i j h5 h8 => ?_, fun r n => ?_⟩, fun r n => ?_⟩
  · unfold out0_C_15
    rw [hy]
    exact ypieces_at R VO0_15 _ l j
  · unfold sout0_C_0
    rw [hb]
    refine (halo_at VS0_0 arg19.view _ _ _ i j h8).trans ((hf8 _ _ (by simp only []; omega)).trans ?_)
    congr 1
    simp only []
    omega
  · unfold sout0_C_1
    rw [hs]
    exact hpieces_at R VS0_1 _ _ r n
  · unfold out0_C_16
    rw [ho]
    refine (View.read_writes_cons_unit_of_mem VO0_16 _ _ _ [] (ix3 0 r n) (ix3 0 r n) rfl (fun a => by fin_cases a <;> simp)).trans ?_
    unfold k0_pay1
    pointwise []
    exact (readAt_at arg20.view _ 0 0 _ r n r n (by simp) (by simp)).trans (hpieces_at R arg20.view _ [] r n)

end Cert.KernelIdeal.Chunk
-- ==== Proof.KernelBlocks.lean ====
/- The blocks each grid point is given are the specification's arrays. -/
module

public import proofs.«01_k».proof.Proof.Reads
public import proofs.«01_k».proof.Proof.Gen.KernelIdeal.Frame.Runs
public import Idealize.ShloMosaic.Lib.StableHlo.RunRead

@[expose] public section

set_option maxRecDepth 16384

noncomputable section

namespace Cert.KernelIdeal.Chunk

open Idealize.ShloMosaic Idealize.ShloMosaic.TcCoe Idealize.SL.Sem Cert.KernelIdeal.Gen Idealize.ShloMosaic.Pointwise

variable (m : (ℓ : Loc nD τ sig) → Buf (Elt Ideal) ℓ) (c : Dev nD)

/-- The call's arguments in memory `m`. -/
def argsOf : Cert.Spec.Args :=
  Cert.Spec.args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem index_facts : ∀ t : Fin cfg0.N, (win0_0.index t (0 : Fin 2) = t.val ∧ win0_0.index t (1 : Fin 2) = 3)
    ∧ (win0_1.index t (0 : Fin 2) = t.val ∧ win0_1.index t (1 : Fin 2) = 4)
    ∧ (win0_2.index t (0 : Fin 2) = t.val ∧ win0_2.index t (1 : Fin 2) = 5)
    ∧ (win0_3.index t (0 : Fin 2) = t.val ∧ win0_3.index t (1 : Fin 2) = 6)
    ∧ (win0_4.index t (0 : Fin 2) = t.val ∧ win0_4.index t (1 : Fin 2) = 7)
    ∧ (win0_5.index t (0 : Fin 2) = t.val ∧ win0_5.index t (1 : Fin 2) = 0)
    ∧ (win0_6.index t (0 : Fin 2) = t.val ∧ win0_6.index t (1 : Fin 2) = 1)
    ∧ (win0_7.index t (0 : Fin 2) = t.val ∧ win0_7.index t (1 : Fin 2) = 2)
    ∧ (win0_8.index t (0 : Fin 2) = t.val ∧ win0_8.index t (1 : Fin 2) = 44) :=
  (by decide +kernel : ∀ t : Fin grid0.N, _)

theorem index_const : ∀ t : Fin cfg0.N, (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

/-- The host's rows: a vector under a unit axis, the two step vectors padded to the lane width. -/
theorem V10 (j : Fin 2560) : V m c main_v10 (ix2 0 j) = (argsOf m c).cb j := by
  have e : V m c main_v10 = broadcastInDim S1x2560 ![1] bcast_S2560_S1x2560_1 (m ((c : Thread nD τ).loc main_arg2)) := by
    after_reads_simp
  rw [e]
  pointwise []
  exact (Cert.Spec.nat1_at _ j j rfl).symm

theorem V9 (j : Fin 1536) : V m c main_v9 (ix2 0 j) = (argsOf m c).ng j := by
  have e : V m c main_v9 = broadcastInDim S1x1536 ![1] bcast_S1536_S1x1536_1 (m ((c : Thread nD τ).loc main_arg6)) := by
    after_reads_simp
  rw [e]
  pointwise []
  exact (Cert.Spec.nat1_at _ j j rfl).symm

theorem V8 (j : Fin 1536) : V m c main_v8 (ix2 0 j) = (argsOf m c).dsk (j / 64) := by
  have e : V m c main_v8 = broadcastInDim S1x1536 ![1] bcast_S1536_S1x1536_1 (shapeCast S1536
      (broadcastInDim S24x64 ![0] bcast_S24_S24x64_0 (m ((c : Thread nD τ).loc main_arg5))) shapeCasts_S24x64_S1536) := by
    after_reads_simp
    rfl
  rw [e]
  pointwise []
  exact (Cert.Spec.nat1_at _ ⟨j / 64, by omega⟩ _ rfl).symm

theorem sitofp_zero : (FloatOps.sitofp (F := Ideal) .f32 (0#32 : BitVec 32) : EReal) = 0 := by
  simp [FloatOps.sitofp]

theorem V5 (j : Fin 128) : V m c main_v5 (ix2 0 j) = if (j : ℕ) < 24 then -Ideal.exp ((argsOf m c).alog j) else 0 := by
  have e : V m c main_v5 = broadcastInDim S1x128 ![1] bcast_S128_S1x128_1 (pad S128 ![0] ![104] ![0]
      (Host.negf (Host.exp (m ((c : Thread nD τ).loc main_arg4) : Vec Ideal S24 .f32))) (sitofp (F := Ideal) .f32 (constantI S_ 32 0#32))
      pads_S24_S128_01040 h_S_) := by
    after_reads_simp
    rfl
  rw [e]
  pointwise []
  by_cases h : (j : ℕ) < 24
  · rw [if_pos h, dif_pos (fun a => by fin_cases a; exact h)]
    exact congrArg (fun x => -Ideal.exp x) (Cert.Spec.nat1_at _ ⟨j, h⟩ _ rfl).symm
  · rw [if_neg h, dif_neg (fun e => h (e 0))]
    exact sitofp_zero

theorem V1 (j : Fin 128) : V m c main_v1 (ix2 0 j) = if (j : ℕ) < 24 then (argsOf m c).dtb j else 0 := by
  have e : V m c main_v1 = broadcastInDim S1x128 ![1] bcast_S128_S1x128_1 (pad S128 ![0] ![104] ![0]
      (id (m ((c : Thread nD τ).loc main_arg3)) : Vec Ideal S24 .f32) (sitofp (F := Ideal) .f32 (constantI S_ 32 0#32))
      pads_S24_S128_01040 h_S_) := by
    after_reads_simp
    rfl
  rw [e]
  pointwise []
  by_cases h : (j : ℕ) < 24
  · rw [if_pos h, dif_pos h]
    exact (Cert.Spec.nat1_at _ ⟨j, h⟩ _ rfl).symm
  · rw [if_neg h, dif_neg h]
    exact sitofp_zero

set_option maxHeartbeats 1600000 in
/-- The blocks of point `t` are chunk `t % 64` of sequence `t / 64`. -/
theorem blocks_at (t : Fin cfg0.N) (h : ℕ → ℕ → EReal) : Blocks (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) (iblk m c 12 t)
    (iblk m c 13 t) (iblk m c 14 t) (Cert.Spec.inAt (argsOf m c) (t.val / 64) (t.val % 64) h) := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩⟩ := index_facts t
  obtain ⟨⟨a9, b9⟩, ⟨a10, b10⟩, ⟨a11, b11⟩, ⟨a12, b12⟩, ⟨a13, b13⟩, ⟨a14, b14⟩⟩ := index_const t
  have hu : ∀ (l : Fin 128) (q : ℕ), (Cert.Spec.inAt (argsOf m c) (t.val / 64) (t.val % 64) h).u (l + 3) q
      = (argsOf m c).p (128 * t.val + l) (1536 + q) := fun l q => by
    show (if 128 * (t.val % 64) + ((l : ℕ) + 3) < 3 then (0 : EReal) else _) = _
    rw [if_neg (by omega)]
    exact congrArg (fun r => (argsOf m c).p r (1536 + q)) (by omega)
  have hz : ∀ l : Fin 128, 8192 * (t.val / 64) + 128 * (t.val % 64) + (l : ℕ) = 128 * t.val + l := fun l => by omega
  refine ⟨fun l q => ?_, fun l q => ?_, fun l q => ?_, fun l q => ?_, fun l q => ?_, fun l q => ?_, fun l q => ?_, fun l q => ?_, fun l q => ?_, fun l q => ?_, fun j => ?_, fun j => ?_, fun j => ?_, fun j => ?_, fun j => ?_⟩
  · rw [hu]
    unfold iblk
    rw [View.read_apply]
    show V m c main_arg0 _ = _
    rw [V_main_arg0]
    exact Cert.Spec.nat2_of _ _ _ _ (show _ = win0_0.index t (0 : Fin 2) * 128 + 1 * (l : ℕ) by omega)
      (show _ = win0_0.index t (1 : Fin 2) * 512 + 1 * (q : ℕ) by omega)
  · rw [hu]
    unfold iblk
    rw [View.read_apply]
    show V m c main_arg0 _ = _
    rw [V_main_arg0]
    exact Cert.Spec.nat2_of _ _ _ _ (show _ = win0_1.index t (0 : Fin 2) * 128 + 1 * (l : ℕ) by omega)
      (show _ = win0_1.index t (1 : Fin 2) * 512 + 1 * (q : ℕ) by omega)
  · rw [hu]
    unfold iblk
    rw [View.read_apply]
    show V m c main_arg0 _ = _
    rw [V_main_arg0]
    exact Cert.Spec.nat2_of _ _ _ _ (show _ = win0_2.index t (0 : Fin 2) * 128 + 1 * (l : ℕ) by omega)
      (show _ = win0_2.index t (1 : Fin 2) * 512 + 1 * (q : ℕ) by omega)
  · rw [hu]
    unfold iblk
    rw [View.read_apply]
    show V m c main_arg0 _ = _
    rw [V_main_arg0]
    exact Cert.Spec.nat2_of _ _ _ _ (show _ = win0_3.index t (0 : Fin 2) * 128 + 1 * (l : ℕ) by omega)
      (show _ = win0_3.index t (1 : Fin 2) * 512 + 1 * (q : ℕ) by omega)
  · rw [hu]
    unfold iblk
    rw [View.read_apply]
    show V m c main_arg0 _ = _
    rw [V_main_arg0]
    exact Cert.Spec.nat2_of _ _ _ _ (show _ = win0_4.index t (0 : Fin 2) * 128 + 1 * (l : ℕ) by omega)
      (show _ = win0_4.index t (1 : Fin 2) * 512 + 1 * (q : ℕ) by omega)
  · show _ = (argsOf m c).p _ _
    rw [hz]
    unfold iblk
    rw [View.read_apply]
    show V m c main_arg0 _ = _
    rw [V_main_arg0]
    exact Cert.Spec.nat2_of _ _ _ _ (show _ = win0_5.index t (0 : Fin 2) * 128 + 1 * (l : ℕ) by omega)
      (show _ = win0_5.index t (1 : Fin 2) * 512 + 1 * (q : ℕ) by omega)
  · show _ = (argsOf m c).p _ _
    rw [hz]
    unfold iblk
    rw [View.read_apply]
    show V m c main_arg0 _ = _
    rw [V_main_arg0]
    exact Cert.Spec.nat2_of _ _ _ _ (show _ = win0_6.index t (0 : Fin 2) * 128 + 1 * (l : ℕ) by omega)
      (show _ = win0_6.index t (1 : Fin 2) * 512 + 1 * (q : ℕ) by omega)
  · show _ = (argsOf m c).p _ _
    rw [hz]
    unfold iblk
    rw [View.read_apply]
    show V m c main_arg0 _ = _
    rw [V_main_arg0]
    exact Cert.Spec.nat2_of _ _ _ _ (show _ = win0_7.index t (0 : Fin 2) * 128 + 1 * (l : ℕ) by omega)
      (show _ = win0_7.index t (1 : Fin 2) * 512 + 1 * (q : ℕ) by omega)
  · show _ = (argsOf m c).p _ _
    rw [hz]
    unfold iblk
    rw [View.read_apply]
    show V m c main_arg0 _ = _
    rw [V_main_arg0]
    exact Cert.Spec.nat2_of _ _ _ _ (show _ = win0_8.index t (0 : Fin 2) * 128 + 1 * (l : ℕ) by omega)
      (show _ = win0_8.index t (1 : Fin 2) * 128 + 1 * (q : ℕ) by omega)
  · unfold iblk
    rw [View.read_apply]
    show V m c main_arg1 _ = _
    rw [V_main_arg1]
    exact Cert.Spec.nat2_of _ _ _ _ (show _ = win0_9.index t (0 : Fin 2) * 4 + 1 * (l : ℕ) by omega)
      (show _ = win0_9.index t (1 : Fin 2) * 2560 + 1 * (q : ℕ) by omega)
  · refine Eq.trans ?_ (V10 m c j)
    unfold iblk
    rw [View.read_apply]
    show V m c main_v10 _ = _
    congr 1
    exact Cert.Spec.idx2_of _ _ _ (show win0_10.index t (0 : Fin 2) * 1 + 1 * 0 = 0 by omega)
      (show win0_10.index t (1 : Fin 2) * 2560 + 1 * (j : ℕ) = j by omega)
  · refine Eq.trans ?_ (V1 m c j)
    unfold iblk
    rw [View.read_apply]
    show V m c main_v1 _ = _
    congr 1
    exact Cert.Spec.idx2_of _ _ _ (show win0_11.index t (0 : Fin 2) * 1 + 1 * 0 = 0 by omega)
      (show win0_11.index t (1 : Fin 2) * 128 + 1 * (j : ℕ) = j by omega)
  · refine Eq.trans ?_ (V5 m c j)
    unfold iblk
    rw [View.read_apply]
    show V m c main_v5 _ = _
    congr 1
    exact Cert.Spec.idx2_of _ _ _ (show win0_12.index t (0 : Fin 2) * 1 + 1 * 0 = 0 by omega)
      (show win0_12.index t (1 : Fin 2) * 128 + 1 * (j : ℕ) = j by omega)
  · refine Eq.trans ?_ (V8 m c j)
    unfold iblk
    rw [View.read_apply]
    show V m c main_v8 _ = _
    congr 1
    exact Cert.Spec.idx2_of _ _ _ (show win0_13.index t (0 : Fin 2) * 1 + 1 * 0 = 0 by omega)
      (show win0_13.index t (1 : Fin 2) * 1536 + 1 * (j : ℕ) = j by omega)
  · refine Eq.trans ?_ (V9 m c j)
    unfold iblk
    rw [View.read_apply]
    show V m c main_v9 _ = _
    congr 1
    exact Cert.Spec.idx2_of _ _ _ (show win0_14.index t (0 : Fin 2) * 1 + 1 * 0 = 0 by omega)
      (show win0_14.index t (1 : Fin 2) * 1536 + 1 * (j : ℕ) = j by omega)

end Cert.KernelIdeal.Chunk
-- ==== Proof.KernelRuns.lean ====
/- The kernel's two results are the specification's. -/
module

public import proofs.«01_k».proof.Proof.Case
public import proofs.«01_k».proof.Proof.KernelBlocks
public import proofs.«01_k».proof.Proof.Gen.KernelIdeal.Value

@[expose] public section

set_option maxRecDepth 16384

noncomputable section

namespace Cert.KernelIdeal.Chunk

open Idealize.ShloMosaic Idealize.ShloMosaic.TcCoe Idealize.SL.Sem Cert.KernelIdeal.Gen Cert.KernelIdeal.Value Idealize.ShloMosaic.Pointwise

variable (m : (ℓ : Loc nD τ sig) → Buf (Elt Ideal) ℓ) (c : Dev nD)

/-- What point `n` reads. -/
def pt (n : ℕ) : Cert.Spec.In :=
  Cert.Spec.inAt (argsOf m c) (n / 64) (n % 64) (Cert.Spec.state (argsOf m c) (n / 64) (n % 64))

/-- What holds after point `n`: its chunk is done, and at a sequence's last chunk the state is written out. -/
def Inv (n : ℕ) (s : Vec Ideal S128x1536 .f32 × Vec Ideal S1x1536x128 .f32 × Vec Ideal S136x2560 .f32 × Vec Ideal S1536x128 .f32) : Prop :=
  Done s.1 s.2.2.1 s.2.2.2 (pt m c n) ∧
    (n % 64 = 63 → ∀ (r : Fin 1536) (k : Fin 128), s.2.1 (ix3 0 r k) = Cert.Spec.hout (pt m c n) r k)

theorem pt_halo (n : ℕ) (h : ¬(n + 1) % 64 = 0) (i : Fin 136) (j : ℕ) (h5 : 5 ≤ (i : ℕ)) :
    (pt m c n).u (123 + i) j = (pt m c (n + 1)).u (i - 5) j := by
  show (if 128 * (n % 64) + (123 + (i : ℕ)) < 3 then (0 : EReal) else (argsOf m c).p _ _) =
    (if 128 * ((n + 1) % 64) + ((i : ℕ) - 5) < 3 then (0 : EReal) else (argsOf m c).p _ _)
  rw [if_neg (by omega), if_neg (by omega)]
  exact congrArg (fun r => (argsOf m c).p r (1536 + j)) (by omega)

theorem pt_hin (n : ℕ) (h : ¬(n + 1) % 64 = 0) (r k : ℕ) : Cert.Spec.hout (pt m c n) r k = (pt m c (n + 1)).hin r k := by
  show _ = Cert.Spec.state (argsOf m c) ((n + 1) / 64) ((n + 1) % 64) r k
  rw [show (n + 1) / 64 = n / 64 by omega, show (n + 1) % 64 = n % 64 + 1 by omega]
  rfl

theorem inv_of (n : ℕ) (s : Vec Ideal S128x1536 .f32 × Vec Ideal S1x1536x128 .f32 × Vec Ideal S136x2560 .f32 × Vec Ideal S1536x128 .f32)
    (y : Vec Ideal S128x1536 .f32) (o : Vec Ideal S1x1536x128 .f32) (b : Vec Ideal S136x2560 .f32) (h : Vec Ideal S1536x128 .f32)
    (e : s = (y, o, b, h)) (d : Done y b h (pt m c n))
    (ho : n % 64 = 63 → ∀ (r : Fin 1536) (k : Fin 128), o (ix3 0 r k) = Cert.Spec.hout (pt m c n) r k) : Inv m c n s :=
  e ▸ ⟨d, ho⟩

theorem inv_A (t : Fin cfg0.N) (acc : Vec Ideal S128x1536 .f32 × Vec Ideal S1x1536x128 .f32 × Vec Ideal S136x2560 .f32 × Vec Ideal S1536x128 .f32) (h0 : t.val % 64 = 0) (h1 : ¬t.val % 64 = 63) : Inv m c t (stAt0 m c t.val t.isLt acc) := by
  refine inv_of m c t _ _ _ _ _ (stAt0_A m c t acc h0 h1)
    (caseA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
      (blocks_at m c t (Cert.Spec.state (argsOf m c) (t.val / 64) (t.val % 64))) ?_ ?_) (fun h => absurd h h1)
  · intro i j hi
    show (if 128 * (t.val % 64) + i < 3 then (0 : EReal) else _) = 0
    rw [if_pos (by omega)]
  · intro r k
    show Cert.Spec.state (argsOf m c) (t.val / 64) (t.val % 64) r k = 0
    rw [h0]
    rfl

theorem inv_B (t : Fin cfg0.N) (acc : Vec Ideal S128x1536 .f32 × Vec Ideal S1x1536x128 .f32 × Vec Ideal S136x2560 .f32 × Vec Ideal S1536x128 .f32) (h0 : ¬t.val % 64 = 0) (h1 : ¬t.val % 64 = 63)
    (hu : ∀ (i : Fin 136) (j : Fin 2560), 5 ≤ (i : ℕ) → (i : ℕ) < 8 → acc.2.2.1 (ix2 i j) = (pt m c t).u (i - 5) j)
    (hh : ∀ (r : Fin 1536) (k : Fin 128), acc.2.2.2 (ix2 r k) = (pt m c t).hin r k) : Inv m c t (stAt0 m c t.val t.isLt acc) :=
  inv_of m c t _ _ _ _ _ (stAt0_B m c t acc h0 h1)
    (caseB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) acc.2.2.1 acc.2.2.2
      (blocks_at m c t (Cert.Spec.state (argsOf m c) (t.val / 64) (t.val % 64))) hu hh) (fun h => absurd h h1)

theorem inv_C (t : Fin cfg0.N) (acc : Vec Ideal S128x1536 .f32 × Vec Ideal S1x1536x128 .f32 × Vec Ideal S136x2560 .f32 × Vec Ideal S1536x128 .f32) (h0 : ¬t.val % 64 = 0) (h1 : t.val % 64 = 63)
    (hu : ∀ (i : Fin 136) (j : Fin 2560), 5 ≤ (i : ℕ) → (i : ℕ) < 8 → acc.2.2.1 (ix2 i j) = (pt m c t).u (i - 5) j)
    (hh : ∀ (r : Fin 1536) (k : Fin 128), acc.2.2.2 (ix2 r k) = (pt m c t).hin r k) : Inv m c t (stAt0 m c t.val t.isLt acc) :=
  have d := caseC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) acc.2.2.1 acc.2.2.2
      (blocks_at m c t (Cert.Spec.state (argsOf m c) (t.val / 64) (t.val % 64))) hu hh
  inv_of m c t _ _ _ _ _ (stAt0_C m c t acc h0 h1) d.1 (fun _ => d.2)

theorem inv_next (n : ℕ) (hn : n + 1 < cfg0.N) (h : ¬(n + 1) % 64 = 0) (acc : Vec Ideal S128x1536 .f32 × Vec Ideal S1x1536x128 .f32 × Vec Ideal S136x2560 .f32 × Vec Ideal S1536x128 .f32)
    (ha : Inv m c n acc) : Inv m c (n + 1) (stAt0 m c (n + 1) hn acc) := by
  have hu : ∀ (i : Fin 136) (j : Fin 2560), 5 ≤ (i : ℕ) → (i : ℕ) < 8 → acc.2.2.1 (ix2 i j) = (pt m c (n + 1)).u (i - 5) j :=
    fun i j h5 h8 => (ha.1.buf i j h5 h8).trans (pt_halo m c n h i j h5)
  have hh : ∀ (r : Fin 1536) (k : Fin 128), acc.2.2.2 (ix2 r k) = (pt m c (n + 1)).hin r k :=
    fun r k => (ha.1.h r k).trans (pt_hin m c n h r k)
  by_cases h1 : (n + 1) % 64 = 63
  · exact inv_C m c ⟨n + 1, hn⟩ acc h h1 hu hh
  · exact inv_B m c ⟨n + 1, hn⟩ acc h h1 hu hh

theorem inv_all : ∀ (n : ℕ) (hn : n < cfg0.N), Inv m c n (outsAt0 m c n hn)
  | 0, hn => by
    rw [outsAt0_zero]
    exact inv_A m c ⟨0, hn⟩ _ rfl (by show ¬0 % 64 = 63; decide)
  | n + 1, hn => by
    rw [outsAt0_succ]
    by_cases h : (n + 1) % 64 = 0
    · exact inv_A m c ⟨n + 1, hn⟩ _ h (by show ¬(n + 1) % 64 = 63; omega)
    · exact inv_next m c n hn h _ (inv_all n (by omega))

/-- The first result. -/
theorem G15_at (r : Fin 16384) (j : Fin 1536) : G15 m c (ix2 r j) = Cert.Spec.outY (argsOf m c) (r / 8192) (r % 8192) j := by
  have hN : cfg0.N = 128 := N_0
  have hp : pt15Of (ix2 r j) = r / 128 := by
    show 1 * ((r : ℕ) / 128 - 0) + 1 * ((j : ℕ) / 1536 - 0) = _
    omega
  have hl : loc15Of (ix2 r j) = ix2 ⟨r % 128, by omega⟩ j := by
    funext a
    apply Fin.ext
    fin_cases a
    · rfl
    · show (j : ℕ) % 1536 = j
      omega
  unfold G15
  rw [dif_pos (by rw [hp]; omega), ← outsAt0_sweep m c _ (by rw [hp]; omega), hl]
  refine ((inv_all m c _ _).1.y _ _).trans ?_
  rw [hp]
  unfold pt Cert.Spec.outY
  rw [show (r : ℕ) / 128 / 64 = r / 8192 by omega, show (r : ℕ) / 128 % 64 = r % 8192 / 128 by omega, show (r : ℕ) % 8192 % 128 = r % 128 by omega]

/-- The second result. -/
theorem G16_at (b : Fin 2) (r : Fin 1536) (k : Fin 128) : G16 m c (ix3 b r k) = Cert.Spec.state (argsOf m c) b 64 r k := by
  have hN : cfg0.N = 128 := N_0
  have hp : pt16Of (ix3 b r k) = 64 * b + 63 := by
    show 64 * (1 * ((b : ℕ) / 1 - 0) + 1 * ((r : ℕ) / 1536 - 0) + 1 * ((k : ℕ) / 128 - 0)) + 63 = _
    omega
  have hl : loc16Of (ix3 b r k) = ix3 0 r k := by
    funext a
    apply Fin.ext
    fin_cases a
    · show (b : ℕ) % 1 = 0
      omega
    · show (r : ℕ) % 1536 = r
      omega
    · show (k : ℕ) % 128 = k
      omega
  unfold G16
  rw [dif_pos (by rw [hp]; omega), ← outsAt0_sweep m c _ (by rw [hp]; omega), hl]
  refine ((inv_all m c _ _).2 (by rw [hp]; omega) _ _).trans ?_
  rw [hp]
  unfold pt
  rw [show (64 * (b : ℕ) + 63) / 64 = b by omega, show (64 * (b : ℕ) + 63) % 64 = 63 by omega]
  rfl

end Cert.KernelIdeal.Chunk
-- ==== Proof.RefPre.lean ====
/- What the reference holds between its stretches, and what each stretch before its loop writes. -/
module

public import proofs.«01_k».proof.Proof.Spec
public import proofs.«01_k».proof.Proof.Gen.ReferenceIdeal.Run
public import Idealize.ShloMosaic.Lib.StableHlo.ReadAt
public import Idealize.ShloMosaic.Lib.Pointwise
public import Idealize.ShloMosaic.Lib.WordCmp
public import Idealize.ShloMosaic.Lib.IdealHost
public import Idealize.ShloMosaic.Lib.ValueIdxRank6

@[expose] public section

set_option maxRecDepth 100000

noncomputable section

namespace Cert.ReferenceIdeal.Chunk

open Idealize.ShloMosaic Idealize.ShloMosaic.TcCoe Idealize.SL.Sem Cert.ReferenceIdeal Cert.ReferenceIdeal.Gen Cert.ReferenceIdeal.Value Idealize.ShloMosaic.StableHlo Idealize.ShloMosaic.Pointwise

abbrev Val := Valuation τ sig (Elt Ideal)

abbrev b1 (V : Val) : S2x8192x1536.Idx → EReal := V (Proc.devRef .tc main_v1)
abbrev b3 (V : Val) : S2x8192x24.Idx → EReal := V (Proc.devRef .tc main_v3)
abbrev b5 (V : Val) : S2x24x64x128.Idx → EReal := V (Proc.devRef .tc main_v5)
abbrev b6 (V : Val) : S2x8195x2560.Idx → EReal := V (Proc.devRef .tc main_v6)
abbrev b36 (V : Val) : S2x8192x2560.Idx → EReal := V (Proc.devRef .tc main_v36)
abbrev b37 (V : Val) : S2x8192x2560.Idx → EReal := V (Proc.devRef .tc main_v37)
abbrev b39 (V : Val) : S2x8192x24x64.Idx → EReal := V (Proc.devRef .tc main_v39)
abbrev b41 (V : Val) : S2x8192x4x128.Idx → EReal := V (Proc.devRef .tc main_v41)
abbrev b43 (V : Val) : S2x8192x4x128.Idx → EReal := V (Proc.devRef .tc main_v43)
abbrev b46 (V : Val) : S2x8192x24.Idx → EReal := V (Proc.devRef .tc main_v46)
abbrev b47 (V : Val) : S2x8192x24.Idx → EReal := V (Proc.devRef .tc main_v47)
abbrev b49 (V : Val) : S24.Idx → EReal := V (Proc.devRef .tc main_v49)
abbrev b50 (V : Val) : S2x64x128x4x6x64.Idx → EReal := V (Proc.devRef .tc main_v50)
abbrev b51 (V : Val) : S2x64x128x4x6.Idx → EReal := V (Proc.devRef .tc main_v51)
abbrev b52 (V : Val) : S2x64x128x4x128.Idx → EReal := V (Proc.devRef .tc main_v52)
abbrev b53 (V : Val) : S2x64x128x4x128.Idx → EReal := V (Proc.devRef .tc main_v53)
abbrev b57 (V : Val) : S2x64x128x4x6.Idx → EReal := V (Proc.devRef .tc main_v57)
abbrev b58 (V : Val) : S2x64x128x4x6.Idx → EReal := V (Proc.devRef .tc main_v58)
abbrev b61 (V : Val) : S2x64x128x4x6x64.Idx → EReal := V (Proc.devRef .tc main_v61)
abbrev b69 (V : Val) : S2x64x128x128x4x6.Idx → EReal := V (Proc.devRef .tc main_v69)
abbrev b70 (V : Val) : S2x64x128x128x4x6.Idx → EReal := V (Proc.devRef .tc main_v70)
abbrev b78 (V : Val) : S2x64x128x4x6x64.Idx → EReal := V (Proc.devRef .tc main_v78)
abbrev b86 (V : Val) : S2x64x4x6x64x128.Idx → EReal := V (Proc.devRef .tc main_v86)
abbrev b110 (V : Val) : S2x8192x1536.Idx → EReal := V (Proc.devRef .tc main_v110)
abbrev b111 (V : Val) : S2x8192x1536.Idx → EReal := V (Proc.devRef .tc main_v111)
abbrev b104 (V : Val) : S2x24x64x128.Idx → EReal := V (Proc.devRef .tc main_v104)
abbrev b113 (V : Val) : S2x8192x4x384.Idx → EReal := V (Proc.devRef .tc main_v113)
abbrev b128 (V : Val) : S16384x1536.Idx → EReal := V (Proc.devRef .tc main_v128)
abbrev b129 (V : Val) : S2x1536x128.Idx → EReal := V (Proc.devRef .tc main_v129)
abbrev b62 (V : Val) : IVec S128x128 1 := V (Proc.devRef .tc main_v62)
abbrev b63 (V : Val) : IVec S128x128 1 := V (Proc.devRef .tc main_v63)
abbrev b64 (V : Val) : IVec S128x128x1x1 1 := V (Proc.devRef .tc main_v64)
abbrev bneg (V : Val) : S_.Idx → EReal := V (Proc.devRef .tc main_cst_1)
abbrev q0 (V : Val) : S64x2x4x6.Idx → EReal := V (Proc.devRef .tc main_v94_0)
abbrev q1 (V : Val) : S64x2x4x6x64x128.Idx → EReal := V (Proc.devRef .tc main_v94_1)
abbrev q3 (V : Val) : S2x4x6x64x128.Idx → EReal := V (Proc.devRef .tc main_v94_3)
abbrev q4 (V : Val) : S64x2x4x6x64x128.Idx → EReal := V (Proc.devRef .tc main_v94_4)

variable (V : Val)

abbrev a1 (V : Val) : S4x2560.Idx → EReal := V (Proc.devRef .tc main_arg1)
abbrev a2 (V : Val) : S2560.Idx → EReal := V (Proc.devRef .tc main_arg2)

def A : Cert.Spec.Args :=
  Cert.Spec.args (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))

/-! ## What each stretch before the loop leaves, in terms of what it found -/

theorem v1_at (b : Fin 2) (r : Fin 8192) (c : Fin 1536) :
    b1 (after hostOps0 V) (ix3 b r c) = (A V).p (8192 * b + r) c := by
  after_reads_at
  exact (Cert.Spec.nat2_at _ ⟨b * 8192 + r, by omega⟩ ⟨c, by omega⟩ _ _ (by show _ = _ * _ + _; omega) rfl).symm

theorem v3_at (b : Fin 2) (r : Fin 8192) (h : Fin 24) :
    b3 (after hostOps0 V) (ix3 b r h) = (A V).p (8192 * b + r) (5632 + h) := by
  after_reads_at
  exact (Cert.Spec.nat2_at _ ⟨b * 8192 + r, by omega⟩ ⟨5632 + h, by omega⟩ _ _ (by show _ = _ * _ + _; omega) rfl).symm

theorem v5_at (b : Fin 2) (h : Fin 24) (p : Fin 64) (n : Fin 128) : b5 (after hostOps0 V) (ix4 b h p n) = 0 := by
  after_reads_at

set_option maxHeartbeats 1600000 in
theorem v6_at (b : Fin 2) (i : Fin 8195) (c : Fin 2560) :
    b6 (after hostOps0 V) (ix3 b i c) = if (i : ℕ) < 3 then 0 else (A V).p (8192 * b + i - 3) (1536 + c) := by
  after_reads_at
  by_cases h : (i : ℕ) < 3
  · exact (dif_pos h).trans (if_pos h).symm
  · refine (dif_neg h).trans (Eq.trans ?_ (if_neg h).symm)
    exact (Cert.Spec.nat2_at _ ⟨b * 8192 + (i - 3), by omega⟩ ⟨1536 + c, by omega⟩ _ _ (by show _ = _ * _ + _; omega) rfl).symm

set_option maxHeartbeats 1600000 in
theorem v36_raw (q : S2x8195x2560.Idx → EReal) (hq : b6 (after hostOps0 V) = q) (b : Fin 2) (r : Fin 8192) (c : Fin 2560) :
    b36 (after hostOps0 V) (ix3 b r c) =
      a2 V (ix1 c) + q (ix3 b ⟨r, by omega⟩ c) * a1 V (ix2 0 c) + q (ix3 b ⟨1 + r, by omega⟩ c) * a1 V (ix2 1 c)
        + q (ix3 b ⟨2 + r, by omega⟩ c) * a1 V (ix2 2 c) + q (ix3 b ⟨3 + r, by omega⟩ c) * a1 V (ix2 3 c) := by
  revert hq
  unfold b6 b36
  after_reads_simp
  generalize concatenate _ _ _ _ = x
  rintro rfl
  pointwise []

/-- The chunk that position `r` of sequence `b` lies in, entering with state zero. -/
abbrev I0 (B : Cert.Spec.Args) (b r : ℕ) : Cert.Spec.In := Cert.Spec.inAt B b (r / 128) (fun _ _ => 0)

theorem v36_at (b : Fin 2) (r : Fin 8192) (c : Fin 2560) :
    b36 (after hostOps0 V) (ix3 b r c) = Cert.Spec.conv (I0 (A V) b r) (r % 128) c := by
  have e : ∀ (d : ℕ) (h : d + r < 8195), d ≤ 3 → b6 (after hostOps0 V) (ix3 b ⟨d + r, h⟩ c) = (I0 (A V) b r).u (r % 128 + d) c := fun d h _ => by
    rw [v6_at]
    show (if d + (r : ℕ) < 3 then (0 : EReal) else (A V).p (8192 * b + (d + r) - 3) (1536 + c)) =
      if 128 * ((r : ℕ) / 128) + (r % 128 + d) < 3 then 0 else (A V).p (8192 * b + 128 * (r / 128) + (r % 128 + d) - 3) (1536 + c)
    rw [show 128 * ((r : ℕ) / 128) + (r % 128 + d) = d + r by omega,
      show 8192 * (b : ℕ) + 128 * ((r : ℕ) / 128) + (r % 128 + d) - 3 = 8192 * b + (d + r) - 3 by omega]
  have e0 : b6 (after hostOps0 V) (ix3 b ⟨r, by omega⟩ c) = (I0 (A V) b r).u (r % 128 + 0) c :=
    (congrArg (fun i => b6 (after hostOps0 V) (ix3 b i c)) (Fin.ext (Nat.zero_add _).symm)).trans (e 0 (by omega) (by omega))
  rw [v36_raw V _ rfl, e 1 (by omega) (by omega), e 2 (by omega) (by omega), e 3 (by omega) (by omega), e0,
    show a2 V (ix1 c) = (A V).cb c from (Cert.Spec.nat1_at _ c _ rfl).symm,
    show a1 V (ix2 0 c) = (A V).w 0 c from (Cert.Spec.nat2_at _ 0 c _ _ rfl rfl).symm,
    show a1 V (ix2 1 c) = (A V).w 1 c from (Cert.Spec.nat2_at _ 1 c _ _ rfl rfl).symm,
    show a1 V (ix2 2 c) = (A V).w 2 c from (Cert.Spec.nat2_at _ 2 c _ _ rfl rfl).symm,
    show a1 V (ix2 3 c) = (A V).w 3 c from (Cert.Spec.nat2_at _ 3 c _ _ rfl rfl).symm]
  rfl

theorem div_sil (x : EReal) : x * Ideal.div 1 (1 + Ideal.exp (-x)) = Cert.Spec.sil x := by
  unfold Cert.Spec.sil
  rw [zero_sub, Ideal.mul_one_div]
  have h : 0 ≤ Ideal.exp (-x) := by
    unfold Ideal.exp
    split
    · exact le_refl _
    · exact le_top
    · exact_mod_cast (Real.exp_pos _).le
  exact (lt_of_lt_of_le zero_lt_one (le_add_of_nonneg_right h)).ne'

theorem v37_at (b : Fin 2) (r : Fin 8192) (c : Fin 2560) :
    b37 (after hostOps0_1 V) (ix3 b r c) = Cert.Spec.sil (b36 V (ix3 b r c)) := by
  after_reads_at
  exact div_sil _

theorem v39_at (b : Fin 2) (r : Fin 8192) (h : Fin 24) (p : Fin 64) :
    b39 (after hostOps0_2 V) (ix4 b r h p) = b37 V (ix3 b r ⟨h * 64 + p, by omega⟩) := by
  after_reads_at

theorem v41_at (b : Fin 2) (r : Fin 8192) (g : Fin 4) (n : Fin 128) :
    b41 (after hostOps0_2 V) (ix4 b r g n) = b37 V (ix3 b r ⟨1536 + (g * 128 + n), by omega⟩) := by
  after_reads_at

theorem v43_at (b : Fin 2) (r : Fin 8192) (g : Fin 4) (n : Fin 128) :
    b43 (after hostOps0_2 V) (ix4 b r g n) = b37 V (ix3 b r ⟨2048 + (g * 128 + n), by omega⟩) := by
  after_reads_at

theorem v46_at (b : Fin 2) (r : Fin 8192) (h : Fin 24) :
    b46 (after hostOps0_2 V) (ix3 b r h) = b3 V (ix3 b r h) + (A V).dtb h := by
  after_reads_at
  exact congrArg (fun x : EReal => b3 V (ix3 b r h) + x) (Cert.Spec.nat1_at _ h _ rfl).symm

theorem v47_at (b : Fin 2) (r : Fin 8192) (h : Fin 24) :
    b47 (after hostOps0_3 V) (ix3 b r h) = Cert.Spec.softplus (b46 V (ix3 b r h)) := by
  after_reads_at
  rw [if_neg (fun h => h rfl)]
  unfold Cert.Spec.softplus
  rw [zero_sub]

theorem v50_at (b : Fin 2) (k : Fin 64) (l : Fin 128) (g : Fin 4) (j : Fin 6) (p : Fin 64) :
    b50 (after hostOps0_4 V) (ix6 b k l g j p) = b39 V (ix4 b ⟨k * 128 + l, by omega⟩ ⟨g * 6 + j, by omega⟩ p) := by
  after_reads_at

theorem v51_at (b : Fin 2) (k : Fin 64) (l : Fin 128) (g : Fin 4) (j : Fin 6) :
    b51 (after hostOps0_4 V) (ix5 b k l g j) = b47 V (ix3 b ⟨k * 128 + l, by omega⟩ ⟨g * 6 + j, by omega⟩) := by
  after_reads_at

theorem v52_at (b : Fin 2) (k : Fin 64) (l : Fin 128) (g : Fin 4) (n : Fin 128) :
    b52 (after hostOps0_4 V) (ix5 b k l g n) = b41 V (ix4 b ⟨k * 128 + l, by omega⟩ g n) := by
  after_reads_at

theorem v53_at (b : Fin 2) (k : Fin 64) (l : Fin 128) (g : Fin 4) (n : Fin 128) :
    b53 (after hostOps0_4 V) (ix5 b k l g n) = b43 V (ix4 b ⟨k * 128 + l, by omega⟩ g n) := by
  after_reads_at

theorem v57_at (b : Fin 2) (k : Fin 64) (l : Fin 128) (g : Fin 4) (j : Fin 6) :
    b57 (after hostOps0_4 V) (ix5 b k l g j) = b47 V (ix3 b ⟨k * 128 + l, by omega⟩ ⟨g * 6 + j, by omega⟩) * -Ideal.exp ((A V).alog (g * 6 + j)) := by
  after_reads_at
  exact congrArg (fun x => _ * -Ideal.exp x) (Cert.Spec.nat1_at _ ⟨g * 6 + j, by omega⟩ _ rfl).symm

theorem v61_at (b : Fin 2) (k : Fin 64) (l : Fin 128) (g : Fin 4) (j : Fin 6) (p : Fin 64) :
    b61 (after hostOps0_6 V) (ix6 b k l g j p) = b50 V (ix6 b k l g j p) * b51 V (ix5 b k l g j) := by
  after_reads_at

theorem v62_at (l s : Fin 128) : b62 (after hostOps0_6 V) (ix2 l s) = 1#1 := by
  after_reads_at

theorem v63_at (l s : Fin 128) (h : b62 V (ix2 l s) = 1#1) :
    b63 (after hostOps0_7 V) (ix2 l s) = if (s : ℕ) ≤ l then 1#1 else 0#1 := by
  after_reads_at
  rw [show (V (Proc.devRef .tc main_v62) : IVec S128x128 1) (ix2 l s) = 1#1 from h]
  rw [show IntOp.addi (BitVec.ofNat 32 (l : ℕ)) 0#32 = BitVec.ofNat 32 (l : ℕ) from by unfold IntOp.addi; simp,
    WordCmp.cmpi_sge_ofNat (by omega) (by omega)]
  by_cases h : (s : ℕ) ≤ l
  · rw [if_pos h, decide_eq_true h]; rfl
  · rw [if_neg h, decide_eq_false h]; rfl

theorem v64_at (l s : Fin 128) : b64 (after hostOps0_8 V) (ix4 l s 0 0) = b63 V (ix2 l s) := by
  after_reads_at

theorem neg_at : bneg (after hostOps0_8 V) ix0 = Ideal.ofBits .f32 0xFF800000#32 := by
  after_reads_at

set_option maxHeartbeats 1600000 in
theorem v69_at (b : Fin 2) (k : Fin 64) (l s : Fin 128) (g : Fin 4) (j : Fin 6) :
    b69 (after hostOps0_8 V) (ix6 b k l s g j) = b58 V (ix5 b k l g j) - b58 V (ix5 b k s g j) := by
  after_reads_at

set_option maxHeartbeats 1600000 in
theorem v70_at (b : Fin 2) (k : Fin 64) (l s : Fin 128) (g : Fin 4) (j : Fin 6) (h : b64 V (ix4 l s 0 0) = if (s : ℕ) ≤ l then 1#1 else 0#1) :
    b70 (after hostOps0_9 V) (ix6 b k l s g j) = if (s : ℕ) ≤ l then b69 V (ix6 b k l s g j) else bneg V ix0 := by
  after_reads_at
  rw [show (V (Proc.devRef .tc main_v64) : IVec S128x128x1x1 1) (ix4 l s 0 0) = _ from h]
  by_cases h : (s : ℕ) ≤ l
  · rw [if_pos h, if_pos h]; rfl
  · rw [if_neg h, if_neg h]; rfl

set_option maxHeartbeats 1600000 in
theorem v78_at (b : Fin 2) (k : Fin 64) (l : Fin 128) (g : Fin 4) (j : Fin 6) (p : Fin 64) :
    b78 (after hostOps0_10 V) (ix6 b k l g j p) = ∑ s : Fin 128, b61 V (ix6 b k s g j p) * ((∑ n : Fin 128, b52 V (ix5 b k s g n) * b53 V (ix5 b k l g n)) * Ideal.exp (b70 V (ix6 b k l s g j))) := by
  after_reads_at

theorem q0_at (b : Fin 2) (k : Fin 64) (g : Fin 4) (j : Fin 6) :
    q0 (after hostOps0_10 V) (ix4 k b g j) = Ideal.exp (b58 V (ix5 b k 127 g j)) := by
  after_reads_simp
  dsimp only [id_eq]
  pointwise []

set_option maxHeartbeats 1600000 in
theorem q1_at (b : Fin 2) (k : Fin 64) (g : Fin 4) (j : Fin 6) (p : Fin 64) (n : Fin 128) :
    q1 (after hostOps0_10 V) (ix6 k b g j p n) = ∑ s : Fin 128, (b61 V (ix6 b k s g j p) * Ideal.exp (b58 V (ix5 b k 127 g j) - b58 V (ix5 b k s g j))) * b52 V (ix5 b k s g n) := by
  after_reads_simp
  dsimp only [id_eq]
  pointwise []

theorem q3_at (b : Fin 2) (g : Fin 4) (j : Fin 6) (p : Fin 64) (n : Fin 128) :
    q3 (after hostOps0_10 V) (ix5 b g j p n) = b5 V (ix4 b ⟨g * 6 + j, by omega⟩ p n) := by
  after_reads_simp
  dsimp only [id_eq]
  pointwise []

end Cert.ReferenceIdeal.Chunk
-- ==== Proof.RefLoop.lean ====
/- One trip of the reference's loop, and what the loop leaves after any number of trips. -/
module

public import proofs.«01_k».proof.Proof.RefPre
public import Idealize.ShloMosaic.Lib.DynamicIndex

@[expose] public section

set_option maxRecDepth 100000

noncomputable section

namespace Cert.ReferenceIdeal.Chunk

open Idealize.ShloMosaic Idealize.ShloMosaic.TcCoe Idealize.SL.Sem Cert.ReferenceIdeal Cert.ReferenceIdeal.Gen Cert.ReferenceIdeal.Value Idealize.ShloMosaic.StableHlo Idealize.ShloMosaic.Pointwise

variable (V : Val)

/-- The trip counter is `k`. -/
def Ctr (k : ℕ) : Prop := (V (Proc.devRef .tc main_v94_2) : IVec S_ 32) = fun _ => BitVec.ofNat 32 k

theorem toInt_of (k : ℕ) (hk : k < 64) : (BitVec.ofNat 32 k).toInt = (k : ℤ) := by
  rw [BitVec.toInt_eq_toNat_of_lt (by rw [BitVec.toNat_ofNat]; omega), BitVec.toNat_ofNat, Nat.mod_eq_of_lt (by omega)]

/-- The next state, of the decays `d`, the chunks' own states `s`, the counter `c` and the state `h`. -/
def next (d : FVec Ideal S64x2x4x6 .f32) (s : FVec Ideal S64x2x4x6x64x128 .f32) (c : IVec S_ 32) (h : FVec Ideal S2x4x6x64x128 .f32) : FVec Ideal S2x4x6x64x128 .f32 :=
  (addf (mulf (broadcastInDim S2x4x6x64x128 ![0, 1, 2, 3, 4] bcast_S2x4x6x1x1_S2x4x6x64x128_0_1_2_3_4 (broadcastInDim S2x4x6x1x1 ![0, 1, 2] bcast_S2x4x6_S2x4x6x1x1_0_1_2 (shapeCast S2x4x6 (Host.dynamicSlice S1x2x4x6 (d) (fun k => (((![c, constantI S_ 32 0#32, constantI S_ 32 0#32, constantI S_ 32 0#32] : Fin 4 → (⟨S_, .i32⟩ : BufTy).Contents (Elt Ideal))) k (Shape.Idx.first h_S_)).toInt) sliceFits_S64x2x4x6_S1x2x4x6) shapeCasts_S1x2x4x6_S2x4x6))) (h)) (shapeCast S2x4x6x64x128 (Host.dynamicSlice S1x2x4x6x64x128 (s) (fun k => (((![c, constantI S_ 32 0#32, constantI S_ 32 0#32, constantI S_ 32 0#32, constantI S_ 32 0#32, constantI S_ 32 0#32] : Fin 6 → (⟨S_, .i32⟩ : BufTy).Contents (Elt Ideal))) k (Shape.Idx.first h_S_)).toInt) sliceFits_S64x2x4x6x64x128_S1x2x4x6x64x128) shapeCasts_S1x2x4x6x64x128_S2x4x6x64x128))

/-- The states so far, with the present one put in its row. -/
def put (c : IVec S_ 32) (h : S2x4x6x64x128.Idx → EReal) (o : S64x2x4x6x64x128.Idx → EReal) : S64x2x4x6x64x128.Idx → EReal :=
  (Host.dynamicUpdateSlice (o) (broadcastInDim S1x2x4x6x64x128 ![1, 2, 3, 4, 5] bcast_S2x4x6x64x128_S1x2x4x6x64x128_1_2_3_4_5 (h)) (fun k => (((![c, constantI S_ 32 0#32, constantI S_ 32 0#32, constantI S_ 32 0#32, constantI S_ 32 0#32, constantI S_ 32 0#32] : Fin 6 → (⟨S_, .i32⟩ : BufTy).Contents (Elt Ideal))) k (Shape.Idx.first h_S_)).toInt) updateFits_S64x2x4x6x64x128_S1x2x4x6x64x128)

theorem slices4 (k : ℕ) (hk : k < 64) : S64x2x4x6.Slices ![k, 0, 0, 0] S1x2x4x6 :=
  ⟨rfl, fun a => by fin_cases a <;> simp [S64x2x4x6, S1x2x4x6] <;> omega⟩

theorem slices6 (k : ℕ) (hk : k < 64) : S64x2x4x6x64x128.Slices ![k, 0, 0, 0, 0, 0] S1x2x4x6x64x128 :=
  ⟨rfl, fun a => by fin_cases a <;> simp [S64x2x4x6x64x128, S1x2x4x6x64x128] <;> omega⟩

set_option maxHeartbeats 1600000 in
theorem next_at (d : S64x2x4x6.Idx → EReal) (s : S64x2x4x6x64x128.Idx → EReal) (h : S2x4x6x64x128.Idx → EReal) (k : ℕ) (hk : k < 64)
    (b : Fin 2) (g : Fin 4) (j : Fin 6) (p : Fin 64) (n : Fin 128) :
    next d s (fun _ => BitVec.ofNat 32 k) h (ix5 b g j p n) = d (ix4 ⟨k, hk⟩ b g j) * h (ix5 b g j p n) + s (ix6 ⟨k, hk⟩ b g j p n) := by
  unfold next
  rw [Host.dynamicSlice_eq_extractStridedSlice S1x2x4x6 d _ ![k, 0, 0, 0] _ (slices4 k hk)
      (fun a => by
        fin_cases a
        · exact toInt_of k hk
        · rfl
        · rfl
        · rfl),
    Host.dynamicSlice_eq_extractStridedSlice S1x2x4x6x64x128 s _ ![k, 0, 0, 0, 0, 0] _ (slices6 k hk)
      (fun a => by
        fin_cases a
        · exact toInt_of k hk
        · rfl
        · rfl
        · rfl
        · rfl
        · rfl)]
  pointwise []

set_option maxHeartbeats 1600000 in
theorem put_at (h : S2x4x6x64x128.Idx → EReal) (o : S64x2x4x6x64x128.Idx → EReal) (k : ℕ) (hk : k < 64)
    (i : Fin 64) (b : Fin 2) (g : Fin 4) (j : Fin 6) (p : Fin 64) (n : Fin 128) :
    put (fun _ => BitVec.ofNat 32 k) h o (ix6 i b g j p n) = if (i : ℕ) = k then h (ix5 b g j p n) else o (ix6 i b g j p n) := by
  unfold put
  rw [Host.dynamicUpdateSlice_eq_updateSlice o _ _ _ ![k, 0, 0, 0, 0, 0]
      (fun a => by
        fin_cases a
        · show (min (max (BitVec.toInt (BitVec.ofNat 32 k)) 0) ((64 - 1 : ℕ) : ℤ)).toNat = k
          rw [toInt_of k hk]
          omega
        · rfl
        · rfl
        · rfl
        · rfl
        · rfl) (slices6 k hk)]
  by_cases e : (i : ℕ) = k
  · rw [if_pos e]
    refine (dif_pos (fun a => ?_)).trans ?_
    · fin_cases a
      · show k ≤ (i : ℕ) ∧ (i : ℕ) < k + 1
        omega
      · exact ⟨Nat.zero_le _, by show (b : ℕ) < 0 + 2; omega⟩
      · exact ⟨Nat.zero_le _, by show (g : ℕ) < 0 + 4; omega⟩
      · exact ⟨Nat.zero_le _, by show (j : ℕ) < 0 + 6; omega⟩
      · exact ⟨Nat.zero_le _, by show (p : ℕ) < 0 + 64; omega⟩
      · exact ⟨Nat.zero_le _, by show (n : ℕ) < 0 + 128; omega⟩
    · pointwise []
  · rw [if_neg e]
    refine dif_neg (fun hin => e ?_)
    have := hin 0
    change k ≤ (i : ℕ) ∧ (i : ℕ) < k + 1 at this
    omega

theorem step3_at (k : ℕ) (hk : k < 64) (hc : Ctr V k) (b : Fin 2) (g : Fin 4) (j : Fin 6) (p : Fin 64) (n : Fin 128) :
    q3 (STEP V) (ix5 b g j p n) = q0 V (ix4 ⟨k, hk⟩ b g j) * q3 V (ix5 b g j p n) + q1 V (ix6 ⟨k, hk⟩ b g j p n) := by
  refine (congrFun (STEP_main_v94_3 V) _).trans ?_
  refine Eq.trans (b := next (q0 V) (q1 V) (V (Proc.devRef .tc main_v94_2)) (q3 V) (ix5 b g j p n)) rfl ?_
  rw [show (V (Proc.devRef .tc main_v94_2) : IVec S_ 32) = fun _ => BitVec.ofNat 32 k from hc]
  exact next_at (q0 V) (q1 V) (q3 V) k hk b g j p n

theorem step4_at (k : ℕ) (hk : k < 64) (hc : Ctr V k) (i : Fin 64) (b : Fin 2) (g : Fin 4) (j : Fin 6) (p : Fin 64) (n : Fin 128) :
    q4 (STEP V) (ix6 i b g j p n) = if (i : ℕ) = k then q3 V (ix5 b g j p n) else q4 V (ix6 i b g j p n) := by
  refine (congrFun (STEP_main_v94_4 V) _).trans ?_
  refine Eq.trans (b := put (V (Proc.devRef .tc main_v94_2)) (q3 V) (q4 V) (ix6 i b g j p n)) rfl ?_
  rw [show (V (Proc.devRef .tc main_v94_2) : IVec S_ 32) = fun _ => BitVec.ofNat 32 k from hc]
  exact put_at (q3 V) (q4 V) k hk i b g j p n

theorem step_ctr (k : ℕ) (hc : Ctr V k) : Ctr (STEP V) (k + 1) := by
  refine (STEP_main_v94_2 V).trans ?_
  show addi (V (Proc.devRef .tc main_v94_2) : IVec S_ 32) (constantI S_ 32 1#32) = _
  rw [show (V (Proc.devRef .tc main_v94_2) : IVec S_ 32) = fun _ => BitVec.ofNat 32 k from hc]
  funext i
  show BitVec.ofNat 32 k + 1#32 = BitVec.ofNat 32 (k + 1)
  rw [BitVec.ofNat_add]

end Cert.ReferenceIdeal.Chunk
-- ==== Proof.RefSum.lean ====
/- The reference's running sum along a chunk is the sum over the positions up to and with this one. -/
module

public import proofs.«01_k».proof.Proof.RefPre
public import Idealize.ShloMosaic.Lib.IdealHost

@[expose] public section

set_option maxRecDepth 100000

noncomputable section

namespace Cert.ReferenceIdeal.Chunk

open Idealize.ShloMosaic Idealize.ShloMosaic.TcCoe Idealize.SL.Sem Cert.ReferenceIdeal Cert.ReferenceIdeal.Gen Cert.ReferenceIdeal.Value Idealize.ShloMosaic.StableHlo Idealize.ShloMosaic.Pointwise

/-- Adding up a list from a start is the start and the list's sum. -/
theorem foldl_add {α : Type} (f : α → EReal) (v : EReal) (l : List α) : l.foldl (fun a n => a + f n) v = v + (l.map f).sum := by
  induction l generalizing v with
  | nil => simp
  | cons a l ih => rw [List.foldl_cons, ih, List.map_cons, List.sum_cons, add_assoc]

/-- The window of the running sum. -/
abbrev Win : Shape := ⟨5, ![1, 1, 128, 1, 1]⟩

/-- The window's positions are those along the chunk. -/
def winEquiv : Win.Idx ≃ Fin 128 where
  toFun i := i 2
  invFun n := ix5 (0 : Fin 1) (0 : Fin 1) n (0 : Fin 1) (0 : Fin 1)
  left_inv i := by
    funext a
    match a with
    | ⟨0, _⟩ => exact (Subsingleton.elim (α := Fin 1) _ _)
    | ⟨1, _⟩ => exact (Subsingleton.elim (α := Fin 1) _ _)
    | ⟨2, _⟩ => rfl
    | ⟨3, _⟩ => exact (Subsingleton.elim (α := Fin 1) _ _)
    | ⟨4, _⟩ => exact (Subsingleton.elim (α := Fin 1) _ _)
  right_inv _ := rfl

/-- The entry of `f` 127 places before place `m`, or 0 where that is none of the chunk. -/
def back (f : Fin 128 → EReal) (m : ℕ) : EReal := if h : 127 ≤ m ∧ m - 127 < 128 then f ⟨m - 127, h.2⟩ else 0

/-- Turning the chunk round by `l + 1` lists the entries that the window at `l` reaches in order. -/
theorem sum_turn (f : Fin 128 → EReal) (l : Fin 128) :
    (∑ n : Fin 128, back f ((l : ℕ) + n)) = ∑ s : Fin 128, if s ≤ l then f s else 0 := by
  refine Fintype.sum_equiv (Equiv.addRight (l + 1)) _ _ fun n => ?_
  have e : ((n + (l + 1) : Fin 128) : ℕ) = (n + (l + 1) % 128) % 128 := by
    rw [Fin.val_add, Fin.val_add]
    rfl
  have hn := n.isLt
  have hl := l.isLt
  show _ = if n + (l + 1) ≤ l then f (n + (l + 1)) else 0
  unfold back
  by_cases h : 127 ≤ (l : ℕ) + n
  · rw [dif_pos ⟨h, by omega⟩, if_pos (Fin.le_def.mpr (by omega))]
    exact congrArg f (Fin.ext (by show (l : ℕ) + n - 127 = _; omega))
  · rw [dif_neg (fun q => h q.1), if_neg (fun q => h (by have := Fin.le_def.mp q; omega))]

set_option maxHeartbeats 1600000 in
theorem cumsum5 (x : FVec Ideal S2x64x128x4x6 .f32) (v : FVec Ideal S_ .f32) (hv : v ix0 = (0 : EReal))
    (h : S2x64x128x4x6.ReduceWindows ![1, 1, 128, 1, 1] ![1, 1, 1, 1, 1] ![0, 0, 127, 0, 0] ![0, 0, 0, 0, 0] S2x64x128x4x6) (hu : 0 < S_.numel)
    (b : Fin 2) (k : Fin 64) (l : Fin 128) (g : Fin 4) (j : Fin 6) :
    Host.reduceWindowAdd ![1, 1, 128, 1, 1] ![1, 1, 1, 1, 1] ![0, 0, 127, 0, 0] ![0, 0, 0, 0, 0] x v h hu (ix5 b k l g j)
      = ∑ s : Fin 128, if s ≤ l then (x (ix5 b k s g j) : EReal) else 0 := by
  have hv' : v (Shape.Idx.first hu) = (0 : EReal) := (congrArg v (Subsingleton.elim _ _)).trans hv
  have hb := b.isLt
  have hk := k.isLt
  have hg := g.isLt
  have hj := j.isLt
  have hl := l.isLt
  unfold Host.reduceWindowAdd
  rw [Ideal.hostReduceWindowAdd_def]
  unfold Ideal.hostReduceWindowAdd Host.reduceWindow
  refine (foldl_add _ _ _).trans ?_
  rw [hv', zero_add, ← Fin.sum_univ_def]
  refine Eq.trans (b := ∑ n, (fun i : Win.Idx => back (fun s => x (ix5 b k s g j)) ((l : ℕ) + (i 2 : Fin 128))) (Win.rowMajor.symm n)) (Finset.sum_congr rfl fun n _ => ?_) ?_
  · have h0 : ((Win.rowMajor.symm n 0 : Fin 1) : ℕ) = 0 := congrArg Fin.val (Subsingleton.elim (α := Fin 1) _ 0)
    have h1 : ((Win.rowMajor.symm n 1 : Fin 1) : ℕ) = 0 := congrArg Fin.val (Subsingleton.elim (α := Fin 1) _ 0)
    have h3 : ((Win.rowMajor.symm n 3 : Fin 1) : ℕ) = 0 := congrArg Fin.val (Subsingleton.elim (α := Fin 1) _ 0)
    have h4 : ((Win.rowMajor.symm n 4 : Fin 1) : ℕ) = 0 := congrArg Fin.val (Subsingleton.elim (α := Fin 1) _ 0)
    have h2 : ((Win.rowMajor.symm n 2 : Fin 128) : ℕ) < 128 := (Win.rowMajor.symm n 2 : Fin 128).isLt
    show _ = back (fun s => x (ix5 b k s g j)) ((l : ℕ) + (Win.rowMajor.symm n 2 : Fin 128))
    unfold back
    by_cases e : 127 ≤ (l : ℕ) + (Win.rowMajor.symm n 2 : Fin 128)
    · rw [dif_pos (show 127 ≤ (l : ℕ) + (Win.rowMajor.symm n 2 : Fin 128) ∧ (l : ℕ) + (Win.rowMajor.symm n 2 : Fin 128) - 127 < 128 from ⟨e, by omega⟩)]
      refine (dif_pos (fun a => ?_)).trans (congrArg x ?_)
      · match a with
        | ⟨0, _⟩ =>
          show 0 ≤ (b : ℕ) * 1 + ((Win.rowMajor.symm n 0 : Fin 1) : ℕ) ∧ (b : ℕ) * 1 + ((Win.rowMajor.symm n 0 : Fin 1) : ℕ) - 0 < 2
          omega
        | ⟨1, _⟩ =>
          show 0 ≤ (k : ℕ) * 1 + ((Win.rowMajor.symm n 1 : Fin 1) : ℕ) ∧ (k : ℕ) * 1 + ((Win.rowMajor.symm n 1 : Fin 1) : ℕ) - 0 < 64
          omega
        | ⟨2, _⟩ =>
          show 127 ≤ (l : ℕ) * 1 + ((Win.rowMajor.symm n 2 : Fin 128) : ℕ) ∧ (l : ℕ) * 1 + ((Win.rowMajor.symm n 2 : Fin 128) : ℕ) - 127 < 128
          omega
        | ⟨3, _⟩ =>
          show 0 ≤ (g : ℕ) * 1 + ((Win.rowMajor.symm n 3 : Fin 1) : ℕ) ∧ (g : ℕ) * 1 + ((Win.rowMajor.symm n 3 : Fin 1) : ℕ) - 0 < 4
          omega
        | ⟨4, _⟩ =>
          show 0 ≤ (j : ℕ) * 1 + ((Win.rowMajor.symm n 4 : Fin 1) : ℕ) ∧ (j : ℕ) * 1 + ((Win.rowMajor.symm n 4 : Fin 1) : ℕ) - 0 < 6
          omega
      · funext a
        refine Fin.ext ?_
        match a with
        | ⟨0, _⟩ =>
          show (b : ℕ) * 1 + ((Win.rowMajor.symm n 0 : Fin 1) : ℕ) - 0 = b
          omega
        | ⟨1, _⟩ =>
          show (k : ℕ) * 1 + ((Win.rowMajor.symm n 1 : Fin 1) : ℕ) - 0 = k
          omega
        | ⟨2, _⟩ =>
          show (l : ℕ) * 1 + ((Win.rowMajor.symm n 2 : Fin 128) : ℕ) - 127 = (l : ℕ) + (Win.rowMajor.symm n 2 : Fin 128) - 127
          omega
        | ⟨3, _⟩ =>
          show (g : ℕ) * 1 + ((Win.rowMajor.symm n 3 : Fin 1) : ℕ) - 0 = g
          omega
        | ⟨4, _⟩ =>
          show (j : ℕ) * 1 + ((Win.rowMajor.symm n 4 : Fin 1) : ℕ) - 0 = j
          omega
    · rw [dif_neg (show ¬ (127 ≤ (l : ℕ) + (Win.rowMajor.symm n 2 : Fin 128) ∧ (l : ℕ) + (Win.rowMajor.symm n 2 : Fin 128) - 127 < 128) from fun q => e q.1)]
      refine dif_neg (fun q => e ?_)
      have q2 : 127 ≤ (l : ℕ) * 1 + ((Win.rowMajor.symm n 2 : Fin 128) : ℕ) := (q 2).1
      omega
  · rw [Equiv.sum_comp Win.rowMajor.symm (fun i : Win.Idx => back (fun s => x (ix5 b k s g j)) ((l : ℕ) + (i 2 : Fin 128)))]
    exact (Fintype.sum_equiv winEquiv _ (fun n : Fin 128 => back (fun s => x (ix5 b k s g j)) ((l : ℕ) + n)) fun i => rfl).trans
      (sum_turn (fun s => x (ix5 b k s g j)) l)

theorem v58_at (V : Val) (b : Fin 2) (k : Fin 64) (l : Fin 128) (g : Fin 4) (j : Fin 6) :
    b58 (after hostOps0_5 V) (ix5 b k l g j) = ∑ s : Fin 128, if s ≤ l then b57 V (ix5 b k s g j) else 0 := by
  unfold b58 b57
  after_reads_simp
  refine cumsum5 _ _ ?_ _ _ b k l g j
  exact Ideal.ofBits_zero_f32

end Cert.ReferenceIdeal.Chunk
-- ==== Proof.RefEntry.lean ====
/- What the reference's loop finds: every buffer it or the rest reads, in terms of the arguments. -/
module

public import proofs.«01_k».proof.Proof.RefPre
public import proofs.«01_k».proof.Proof.RefSum

@[expose] public section

set_option maxRecDepth 100000

noncomputable section

namespace Cert.ReferenceIdeal.Chunk

open Idealize.ShloMosaic Idealize.ShloMosaic.TcCoe Idealize.SL.Sem Cert.ReferenceIdeal Cert.ReferenceIdeal.Gen Cert.ReferenceIdeal.Value Idealize.ShloMosaic.StableHlo Idealize.ShloMosaic.Pointwise

variable (V : Val)

/-! The contents after each stretch. -/

def e1 : Val := after hostOps0 V
def e2 : Val := after hostOps0_1 (e1 V)
def e3 : Val := after hostOps0_2 (e2 V)
def e4 : Val := after hostOps0_3 (e3 V)
def e5 : Val := after hostOps0_4 (e4 V)
def e6 : Val := after hostOps0_5 (e5 V)
def e7 : Val := after hostOps0_6 (e6 V)
def e8 : Val := after hostOps0_7 (e7 V)
def e9 : Val := after hostOps0_8 (e8 V)
def e10 : Val := after hostOps0_9 (e9 V)
def e11 : Val := after hostOps0_10 (e10 V)

/-! A buffer that a stretch does not write is as before it. -/

section Keep
variable {r : Ref sig .tc}

theorem kept1 (h : r ∉ hostOps0_W) : e1 V (Proc.devRef .tc r) = V (Proc.devRef .tc r) := after_of_writes_sub _ _ hostOps0_writes h
theorem kept2 (h : r ∉ hostOps0_1_W) : e2 V (Proc.devRef .tc r) = e1 V (Proc.devRef .tc r) := after_of_writes_sub _ _ hostOps0_1_writes h
theorem kept3 (h : r ∉ hostOps0_2_W) : e3 V (Proc.devRef .tc r) = e2 V (Proc.devRef .tc r) := after_of_writes_sub _ _ hostOps0_2_writes h
theorem kept4 (h : r ∉ hostOps0_3_W) : e4 V (Proc.devRef .tc r) = e3 V (Proc.devRef .tc r) := after_of_writes_sub _ _ hostOps0_3_writes h
theorem kept5 (h : r ∉ hostOps0_4_W) : e5 V (Proc.devRef .tc r) = e4 V (Proc.devRef .tc r) := after_of_writes_sub _ _ hostOps0_4_writes h
theorem kept6 (h : r ∉ hostOps0_5_W) : e6 V (Proc.devRef .tc r) = e5 V (Proc.devRef .tc r) := after_of_writes_sub _ _ hostOps0_5_writes h
theorem kept7 (h : r ∉ hostOps0_6_W) : e7 V (Proc.devRef .tc r) = e6 V (Proc.devRef .tc r) := after_of_writes_sub _ _ hostOps0_6_writes h
theorem kept8 (h : r ∉ hostOps0_7_W) : e8 V (Proc.devRef .tc r) = e7 V (Proc.devRef .tc r) := after_of_writes_sub _ _ hostOps0_7_writes h
theorem kept9 (h : r ∉ hostOps0_8_W) : e9 V (Proc.devRef .tc r) = e8 V (Proc.devRef .tc r) := after_of_writes_sub _ _ hostOps0_8_writes h
theorem kept10 (h : r ∉ hostOps0_9_W) : e10 V (Proc.devRef .tc r) = e9 V (Proc.devRef .tc r) := after_of_writes_sub _ _ hostOps0_9_writes h
theorem kept11 (h : r ∉ hostOps0_10_W) : e11 V (Proc.devRef .tc r) = e10 V (Proc.devRef .tc r) := after_of_writes_sub _ _ hostOps0_10_writes h

/-- From the fifth stretch's end to the loop. -/
theorem kept_5_10 (h6 : r ∉ hostOps0_5_W) (h7 : r ∉ hostOps0_6_W) (h8 : r ∉ hostOps0_7_W) (h9 : r ∉ hostOps0_8_W) (h10 : r ∉ hostOps0_9_W) :
    e10 V (Proc.devRef .tc r) = e5 V (Proc.devRef .tc r) :=
  (kept10 V h10).trans ((kept9 V h9).trans ((kept8 V h8).trans ((kept7 V h7).trans (kept6 V h6))))

/-- From the first stretch's end to the fourth's. -/
theorem kept_1_5 (h2 : r ∉ hostOps0_1_W) (h3 : r ∉ hostOps0_2_W) (h4 : r ∉ hostOps0_3_W) (h5 : r ∉ hostOps0_4_W) :
    e5 V (Proc.devRef .tc r) = e1 V (Proc.devRef .tc r) :=
  (kept5 V h5).trans ((kept4 V h4).trans ((kept3 V h3).trans (kept2 V h2)))

end Keep

/-- What the chunk `k` of sequence `b` reads, entering with state zero. -/
abbrev J (b k : ℕ) : Cert.Spec.In := Cert.Spec.inAt (A V) b k (fun _ _ => 0)

theorem e37_at (b : Fin 2) (k : Fin 64) (l : Fin 128) (c : Fin 2560) (r : Fin 8192) (hr : (r : ℕ) = k * 128 + l) :
    b37 (e2 V) (ix3 b r c) = Cert.Spec.act (J V b k) l c := by
  refine (v37_at (e1 V) b r c).trans ((congrArg Cert.Spec.sil (v36_at V b r c)).trans ?_)
  show Cert.Spec.act (Cert.Spec.inAt (A V) b ((r : ℕ) / 128) (fun _ _ => 0)) ((r : ℕ) % 128) c = _
  rw [show (r : ℕ) / 128 = k from by omega, show (r : ℕ) % 128 = l from by omega]

theorem e39_at (b : Fin 2) (r : Fin 8192) (h : Fin 24) (p : Fin 64) :
    b39 (e11 V) (ix4 b r h p) = Cert.Spec.act (J V b (r / 128)) (r % 128) (h * 64 + p) := by
  have q : b39 (e11 V) = b39 (e3 V) :=
    (kept11 V (by decide +kernel)).trans ((kept_5_10 V (by decide +kernel) (by decide +kernel) (by decide +kernel) (by decide +kernel) (by decide +kernel)).trans
      ((kept5 V (by decide +kernel)).trans (kept4 V (by decide +kernel))))
  rw [q]
  refine (v39_at (e2 V) b r h p).trans ?_
  exact e37_at V b ⟨r / 128, by omega⟩ ⟨r % 128, by omega⟩ _ r (by show (r : ℕ) = r / 128 * 128 + r % 128; omega)

theorem e50_at (b : Fin 2) (k : Fin 64) (l : Fin 128) (g : Fin 4) (j : Fin 6) (p : Fin 64) :
    b50 (e5 V) (ix6 b k l g j p) = Cert.Spec.act (J V b k) l ((g * 6 + j) * 64 + p) := by
  refine (v50_at (e4 V) b k l g j p).trans ?_
  rw [show b39 (e4 V) = b39 (e3 V) from kept4 V (by decide +kernel)]
  exact (v39_at (e2 V) b _ _ p).trans (e37_at V b k l _ _ rfl)

theorem e52_at (b : Fin 2) (k : Fin 64) (l : Fin 128) (g : Fin 4) (n : Fin 128) :
    b52 (e5 V) (ix5 b k l g n) = Cert.Spec.act (J V b k) l (1536 + (g * 128 + n)) := by
  refine (v52_at (e4 V) b k l g n).trans ?_
  rw [show b41 (e4 V) = b41 (e3 V) from kept4 V (by decide +kernel)]
  exact (v41_at (e2 V) b _ g n).trans (e37_at V b k l _ _ rfl)

theorem e53_at (b : Fin 2) (k : Fin 64) (l : Fin 128) (g : Fin 4) (n : Fin 128) :
    b53 (e5 V) (ix5 b k l g n) = Cert.Spec.act (J V b k) l (2048 + (g * 128 + n)) := by
  refine (v53_at (e4 V) b k l g n).trans ?_
  rw [show b43 (e4 V) = b43 (e3 V) from kept4 V (by decide +kernel)]
  exact (v43_at (e2 V) b _ g n).trans (e37_at V b k l _ _ rfl)

theorem A_of (W : Val) (h0 : W (Proc.devRef .tc main_arg0) = V (Proc.devRef .tc main_arg0)) (h1 : W (Proc.devRef .tc main_arg1) = V (Proc.devRef .tc main_arg1))
    (h2 : W (Proc.devRef .tc main_arg2) = V (Proc.devRef .tc main_arg2)) (h3 : W (Proc.devRef .tc main_arg3) = V (Proc.devRef .tc main_arg3))
    (h4 : W (Proc.devRef .tc main_arg4) = V (Proc.devRef .tc main_arg4)) (h5 : W (Proc.devRef .tc main_arg5) = V (Proc.devRef .tc main_arg5))
    (h6 : W (Proc.devRef .tc main_arg6) = V (Proc.devRef .tc main_arg6)) : A W = A V := by
  unfold A
  rw [h0, h1, h2, h3, h4, h5, h6]

theorem kept_0_4 {r : Ref sig .tc} (h1 : r ∉ hostOps0_W) (h2 : r ∉ hostOps0_1_W) (h3 : r ∉ hostOps0_2_W) (h4 : r ∉ hostOps0_3_W) :
    e4 V (Proc.devRef .tc r) = V (Proc.devRef .tc r) :=
  (kept4 V h4).trans ((kept3 V h3).trans ((kept2 V h2).trans (kept1 V h1)))

theorem kept_0_2 {r : Ref sig .tc} (h1 : r ∉ hostOps0_W) (h2 : r ∉ hostOps0_1_W) : e2 V (Proc.devRef .tc r) = V (Proc.devRef .tc r) :=
  (kept2 V h2).trans (kept1 V h1)

theorem A_e2 : A (e2 V) = A V := by
  apply A_of <;> exact kept_0_2 V (by decide +kernel) (by decide +kernel)

theorem A_e4 : A (e4 V) = A V := by
  apply A_of <;> exact kept_0_4 V (by decide +kernel) (by decide +kernel) (by decide +kernel) (by decide +kernel)

theorem e47_at (b : Fin 2) (k : Fin 64) (l : Fin 128) (h : Fin 24) (r : Fin 8192) (hr : (r : ℕ) = k * 128 + l) :
    b47 (e4 V) (ix3 b r h) = Cert.Spec.dt (J V b k) l h := by
  refine (v47_at (e3 V) b r h).trans (congrArg Cert.Spec.softplus ((v46_at (e2 V) b r h).trans ?_))
  rw [A_e2, show b3 (e2 V) = b3 (e1 V) from kept2 V (by decide +kernel), show b3 (e1 V) (ix3 b r h) = _ from v3_at V b r h]
  show (A V).p (8192 * b + r) (5632 + h) + (A V).dtb h = (A V).p (8192 * b + 128 * k + l) (5632 + h) + (if (h : ℕ) < 24 then (A V).dtb h else 0)
  rw [if_pos h.isLt, show 8192 * (b : ℕ) + r = 8192 * b + 128 * k + l from by omega]

theorem e51_at (b : Fin 2) (k : Fin 64) (l : Fin 128) (g : Fin 4) (j : Fin 6) :
    b51 (e5 V) (ix5 b k l g j) = Cert.Spec.dt (J V b k) l (g * 6 + j) :=
  (v51_at (e4 V) b k l g j).trans (e47_at V b k l _ _ rfl)

theorem e57_at (b : Fin 2) (k : Fin 64) (l : Fin 128) (g : Fin 4) (j : Fin 6) :
    b57 (e5 V) (ix5 b k l g j) = Cert.Spec.dt (J V b k) l (g * 6 + j) * (J V b k).av (g * 6 + j) := by
  refine (v57_at (e4 V) b k l g j).trans ?_
  rw [A_e4, e47_at V b k l _ _ rfl]
  exact congrArg (fun x : EReal => Cert.Spec.dt (J V b k) l (g * 6 + j) * x) (if_pos (show (g : ℕ) * 6 + j < 24 from by omega)).symm

theorem e58_at (b : Fin 2) (k : Fin 64) (l : Fin 128) (g : Fin 4) (j : Fin 6) :
    b58 (e6 V) (ix5 b k l g j) = Cert.Spec.acs (J V b k) l (g * 6 + j) := by
  refine (v58_at (e5 V) b k l g j).trans ?_
  unfold Cert.Spec.acs
  exact Finset.sum_congr rfl fun s _ => by rw [e57_at]; rfl

theorem e58_8 : b58 (e8 V) = b58 (e6 V) := (kept8 V (by decide +kernel)).trans (kept7 V (by decide +kernel))

theorem e58_10 : b58 (e10 V) = b58 (e6 V) :=
  (kept10 V (by decide +kernel)).trans ((kept9 V (by decide +kernel)).trans (e58_8 V))

theorem e61_at (b : Fin 2) (k : Fin 64) (l : Fin 128) (g : Fin 4) (j : Fin 6) (p : Fin 64) :
    b61 (e10 V) (ix6 b k l g j p) = Cert.Spec.xdt (J V b k) l ((g * 6 + j) * 64 + p) := by
  rw [show b61 (e10 V) = b61 (e7 V) from (kept10 V (by decide +kernel)).trans ((kept9 V (by decide +kernel)).trans (kept8 V (by decide +kernel)))]
  refine (v61_at (e6 V) b k l g j p).trans ?_
  rw [show b50 (e6 V) = b50 (e5 V) from kept6 V (by decide +kernel), show b51 (e6 V) = b51 (e5 V) from kept6 V (by decide +kernel), e50_at, e51_at]
  unfold Cert.Spec.xdt
  rw [show (((g : ℕ) * 6 + j) * 64 + p) / 64 = g * 6 + j from by omega]

theorem e52_10 (b : Fin 2) (k : Fin 64) (l : Fin 128) (g : Fin 4) (n : Fin 128) :
    b52 (e10 V) (ix5 b k l g n) = Cert.Spec.act (J V b k) l (1536 + (g * 128 + n)) := by
  rw [show b52 (e10 V) = b52 (e5 V) from kept_5_10 V (by decide +kernel) (by decide +kernel) (by decide +kernel) (by decide +kernel) (by decide +kernel)]
  exact e52_at V b k l g n

theorem e53_10 (b : Fin 2) (k : Fin 64) (l : Fin 128) (g : Fin 4) (n : Fin 128) :
    b53 (e10 V) (ix5 b k l g n) = Cert.Spec.act (J V b k) l (2048 + (g * 128 + n)) := by
  rw [show b53 (e10 V) = b53 (e5 V) from kept_5_10 V (by decide +kernel) (by decide +kernel) (by decide +kernel) (by decide +kernel) (by decide +kernel)]
  exact e53_at V b k l g n

theorem e70_at (b : Fin 2) (k : Fin 64) (l s : Fin 128) (g : Fin 4) (j : Fin 6) :
    Ideal.exp (b70 (e10 V) (ix6 b k l s g j)) = Cert.Spec.decay (J V b k) (g * 6 + j) l s := by
  have h63 : b63 (e8 V) (ix2 l s) = if (s : ℕ) ≤ l then 1#1 else 0#1 := v63_at (e7 V) l s (v62_at (e6 V) l s)
  unfold Cert.Spec.decay
  refine congrArg Ideal.exp ((v70_at (e9 V) b k l s g j ((v64_at (e8 V) l s).trans h63)).trans ?_)
  rw [show b69 (e9 V) (ix6 b k l s g j) = _ from v69_at (e8 V) b k l s g j, show bneg (e9 V) ix0 = _ from neg_at (e8 V), e58_8, e58_at, e58_at]

theorem e78_at (b : Fin 2) (k : Fin 64) (l : Fin 128) (g : Fin 4) (j : Fin 6) (p : Fin 64) :
    b78 (e11 V) (ix6 b k l g j p) = Cert.Spec.ydiag (J V b k) l ((g * 6 + j) * 64 + p) := by
  refine (v78_at (e10 V) b k l g j p).trans ?_
  unfold Cert.Spec.ydiag Cert.Spec.cbm
  rw [show (((g : ℕ) * 6 + j) * 64 + p) / 64 = g * 6 + j from by omega, show (((g : ℕ) * 6 + j) * 64 + p) / 384 = g from by omega]
  refine Finset.sum_congr rfl fun s _ => ?_
  rw [e61_at, e70_at, mul_comm]
  congr 2
  refine Finset.sum_congr rfl fun n _ => ?_
  rw [e52_10, e53_10, mul_comm, show 2048 + 128 * (g : ℕ) + n = 2048 + (g * 128 + n) from by omega, show 1536 + 128 * (g : ℕ) + n = 1536 + (g * 128 + n) from by omega]

theorem eq0_at (b : Fin 2) (k : Fin 64) (g : Fin 4) (j : Fin 6) :
    q0 (e11 V) (ix4 k b g j) = Ideal.exp (Cert.Spec.acs (J V b k) 127 (g * 6 + j)) := by
  refine (q0_at (e10 V) b k g j).trans ?_
  rw [e58_10, e58_at]
  rfl

theorem eq1_at (b : Fin 2) (k : Fin 64) (g : Fin 4) (j : Fin 6) (p : Fin 64) (n : Fin 128) :
    q1 (e11 V) (ix6 k b g j p n) = Cert.Spec.stat (J V b k) ((g * 6 + j) * 64 + p) n := by
  refine (q1_at (e10 V) b k g j p n).trans ?_
  unfold Cert.Spec.stat
  rw [show (((g : ℕ) * 6 + j) * 64 + p) / 64 = g * 6 + j from by omega, show (((g : ℕ) * 6 + j) * 64 + p) / 384 = g from by omega]
  refine Finset.sum_congr rfl fun s _ => ?_
  rw [e61_at, e58_10, e58_at, e58_at, e52_10, show 1536 + 128 * (g : ℕ) + n = 1536 + (g * 128 + n) from by omega]
  rfl

theorem eq3_at (b : Fin 2) (g : Fin 4) (j : Fin 6) (p : Fin 64) (n : Fin 128) : q3 (e11 V) (ix5 b g j p n) = 0 := by
  refine (q3_at (e10 V) b g j p n).trans ?_
  rw [show b5 (e10 V) = b5 (e1 V) from (kept_5_10 V (by decide +kernel) (by decide +kernel) (by decide +kernel) (by decide +kernel) (by decide +kernel)).trans
    (kept_1_5 V (by decide +kernel) (by decide +kernel) (by decide +kernel) (by decide +kernel))]
  exact v5_at V b _ p n

theorem e1_at (b : Fin 2) (r : Fin 8192) (c : Fin 1536) : b1 (e11 V) (ix3 b r c) = (A V).p (8192 * b + r) c := by
  rw [show b1 (e11 V) = b1 (e1 V) from (kept11 V (by decide +kernel)).trans ((kept_5_10 V (by decide +kernel) (by decide +kernel) (by decide +kernel) (by decide +kernel) (by decide +kernel)).trans
    (kept_1_5 V (by decide +kernel) (by decide +kernel) (by decide +kernel) (by decide +kernel)))]
  exact v1_at V b r c

theorem e53_11 (b : Fin 2) (k : Fin 64) (l : Fin 128) (g : Fin 4) (n : Fin 128) :
    b53 (e11 V) (ix5 b k l g n) = Cert.Spec.act (J V b k) l (2048 + (g * 128 + n)) := by
  rw [show b53 (e11 V) = b53 (e10 V) from kept11 V (by decide +kernel)]
  exact e53_10 V b k l g n

theorem e58_11 (b : Fin 2) (k : Fin 64) (l : Fin 128) (g : Fin 4) (j : Fin 6) :
    b58 (e11 V) (ix5 b k l g j) = Cert.Spec.acs (J V b k) l (g * 6 + j) := by
  rw [show b58 (e11 V) = b58 (e10 V) from kept11 V (by decide +kernel), e58_10]
  exact e58_at V b k l g j

theorem earg_of {r : Ref sig .tc} (h1 : r ∉ hostOps0_W) (h2 : r ∉ hostOps0_1_W) (h3 : r ∉ hostOps0_2_W) (h4 : r ∉ hostOps0_3_W) (h5 : r ∉ hostOps0_4_W)
    (h6 : r ∉ hostOps0_5_W) (h7 : r ∉ hostOps0_6_W) (h8 : r ∉ hostOps0_7_W) (h9 : r ∉ hostOps0_8_W) (h10 : r ∉ hostOps0_9_W) (h11 : r ∉ hostOps0_10_W) :
    e11 V (Proc.devRef .tc r) = V (Proc.devRef .tc r) :=
  (kept11 V h11).trans ((kept_5_10 V h6 h7 h8 h9 h10).trans ((kept5 V h5).trans (kept_0_4 V h1 h2 h3 h4)))

theorem earg5 : e11 V (Proc.devRef .tc main_arg5) = V (Proc.devRef .tc main_arg5) := by
  apply earg_of <;> decide +kernel

theorem earg6 : e11 V (Proc.devRef .tc main_arg6) = V (Proc.devRef .tc main_arg6) := by
  apply earg_of <;> decide +kernel

end Cert.ReferenceIdeal.Chunk
-- ==== Proof.RefPost.lean ====
/- The reference's stretches after its loop, each in terms of what it finds. -/
module

public import proofs.«01_k».proof.Proof.RefPre

@[expose] public section

set_option maxRecDepth 100000

noncomputable section

namespace Cert.ReferenceIdeal.Chunk

open Idealize.ShloMosaic Idealize.ShloMosaic.TcCoe Idealize.SL.Sem Cert.ReferenceIdeal Cert.ReferenceIdeal.Gen Cert.ReferenceIdeal.Value Idealize.ShloMosaic.StableHlo Idealize.ShloMosaic.Pointwise

variable (V : Val)

abbrev a5 (V : Val) : S24.Idx → EReal := V (Proc.devRef .tc main_arg5)
abbrev a6 (V : Val) : S1536.Idx → EReal := V (Proc.devRef .tc main_arg6)

set_option maxHeartbeats 1600000 in
theorem v110_at (b : Fin 2) (r : Fin 8192) (c : Fin 1536) :
    b110 (after hostOps0_11 V) (ix3 b r c) =
      b78 V (ix6 b ⟨r / 128, by omega⟩ ⟨r % 128, by omega⟩ ⟨c / 64 / 6, by omega⟩ ⟨c / 64 % 6, by omega⟩ ⟨c % 64, by omega⟩)
        + (∑ x : Fin 128, q4 V (ix6 ⟨r / 128, by omega⟩ b ⟨c / 64 / 6, by omega⟩ ⟨c / 64 % 6, by omega⟩ ⟨c % 64, by omega⟩ x)
            * b53 V (ix5 b ⟨r / 128, by omega⟩ ⟨r % 128, by omega⟩ ⟨c / 64 / 6, by omega⟩ x))
          * Ideal.exp (b58 V (ix5 b ⟨r / 128, by omega⟩ ⟨r % 128, by omega⟩ ⟨c / 64 / 6, by omega⟩ ⟨c / 64 % 6, by omega⟩))
        + b39 V (ix4 b r ⟨c / 64, by omega⟩ ⟨c % 64, by omega⟩) * a5 V (ix1 ⟨c / 64, by omega⟩) := by
  after_reads_at

theorem v104_at (b : Fin 2) (h : Fin 24) (p : Fin 64) (n : Fin 128) :
    b104 (after hostOps0_11 V) (ix4 b h p n) = q3 V (ix5 b ⟨h / 6, by omega⟩ ⟨h % 6, by omega⟩ p n) := by
  after_reads_at

theorem v111_at (b : Fin 2) (r : Fin 8192) (c : Fin 1536) :
    b111 (after hostOps0_12 V) (ix3 b r c) = Cert.Spec.sil (b1 V (ix3 b r c)) := by
  after_reads_at
  exact div_sil _

set_option maxHeartbeats 1600000 in
theorem v128_at (r : Fin 16384) (c : Fin 1536) :
    b128 (after hostOps0_13 V) (ix2 r c) =
      b110 V (ix3 ⟨r / 8192, by omega⟩ ⟨r % 8192, by omega⟩ ⟨c / 384 * 384 + c % 384, by omega⟩) * b111 V (ix3 ⟨r / 8192, by omega⟩ ⟨r % 8192, by omega⟩ ⟨c / 384 * 384 + c % 384, by omega⟩)
        * Cert.Spec.rs (∑ x : Fin 384, b110 V (ix3 ⟨r / 8192, by omega⟩ ⟨r % 8192, by omega⟩ ⟨c / 384 * 384 + x, by omega⟩) * b111 V (ix3 ⟨r / 8192, by omega⟩ ⟨r % 8192, by omega⟩ ⟨c / 384 * 384 + x, by omega⟩)
            * (b110 V (ix3 ⟨r / 8192, by omega⟩ ⟨r % 8192, by omega⟩ ⟨c / 384 * 384 + x, by omega⟩) * b111 V (ix3 ⟨r / 8192, by omega⟩ ⟨r % 8192, by omega⟩ ⟨c / 384 * 384 + x, by omega⟩)))
        * a6 V (ix1 c) := by
  unfold Cert.Spec.rs
  after_reads_at

theorem v129_at (b : Fin 2) (r : Fin 1536) (n : Fin 128) :
    b129 (after hostOps0_13 V) (ix3 b r n) = b104 V (ix4 b ⟨r / 64, by omega⟩ ⟨r % 64, by omega⟩ n) := by
  after_reads_at

/-! Buffers that the stretches after the loop keep. -/

theorem post_b1 : b1 (after hostOps0_11 V) = b1 V := by
  after_reads_simp

theorem post_b110 : b110 (after hostOps0_12 V) = b110 V := by
  after_reads_simp

theorem post_b104 : b104 (after hostOps0_12 V) = b104 V := by
  after_reads_simp

theorem post_a6 : a6 (after hostOps0_12 (after hostOps0_11 V)) = a6 V := by
  have h1 : a6 (after hostOps0_12 (after hostOps0_11 V)) = a6 (after hostOps0_11 V) := by after_reads_simp
  have h2 : a6 (after hostOps0_11 V) = a6 V := by after_reads_simp
  exact h1.trans h2

end Cert.ReferenceIdeal.Chunk
-- ==== Proof.RefRun.lean ====
/- What the reference leaves: after any number of trips, and at the end. -/
module

public import proofs.«01_k».proof.Proof.RefLoop
public import proofs.«01_k».proof.Proof.RefEntry
public import proofs.«01_k».proof.Proof.RefPost

@[expose] public section

set_option maxRecDepth 100000

noncomputable section

namespace Cert.ReferenceIdeal.Chunk

open Idealize.ShloMosaic Idealize.ShloMosaic.TcCoe Idealize.SL.Sem Cert.ReferenceIdeal Cert.ReferenceIdeal.Gen Cert.ReferenceIdeal.Value Idealize.ShloMosaic.StableHlo Idealize.ShloMosaic.Pointwise

variable (m : (ℓ : Loc nD τ sig) → Buf (Elt Ideal) ℓ) (c : Dev nD)

/-- The contents the call is launched with. -/
abbrev V0 : Val := launchContents m c

theorem entry_eq : entryContents preI m c = e11 (V0 m c) := by
  simp only [entryContents, afterL_cons, afterL_nil]
  rfl

/-- The call's arguments. -/
def B : Cert.Spec.Args := A (V0 m c)

/-- What holds after `k` trips. -/
structure Inv (k : ℕ) (W : Val) : Prop where
  ctr : Ctr W k
  decay : q0 W = q0 (e11 (V0 m c))
  own : q1 W = q1 (e11 (V0 m c))
  now : ∀ (b : Fin 2) (g : Fin 4) (j : Fin 6) (p : Fin 64) (n : Fin 128), q3 W (ix5 b g j p n) = Cert.Spec.state (B m c) b k ((g * 6 + j) * 64 + p) n
  past : ∀ (i : Fin 64) (b : Fin 2) (g : Fin 4) (j : Fin 6) (p : Fin 64) (n : Fin 128), (i : ℕ) < k →
    q4 W (ix6 i b g j p n) = Cert.Spec.state (B m c) b i ((g * 6 + j) * 64 + p) n

theorem inv_zero : Inv m c 0 (e11 (V0 m c)) where
  ctr := (congrArg (fun W : Val => (W (Proc.devRef .tc main_v94_2) : IVec S_ 32)) (entry_eq m c)).symm.trans (ctr_entry m c)
  decay := rfl
  own := rfl
  now b g j p n := eq3_at (V0 m c) b g j p n
  past i b g j p n h := absurd h (Nat.not_lt_zero _)

theorem hout_eq (A : Cert.Spec.Args) (b k g j p n : ℕ) (h : ℕ → ℕ → EReal) (hj : j < 6) (hp : p < 64) :
    Cert.Spec.hout (Cert.Spec.inAt A b k h) ((g * 6 + j) * 64 + p) n =
      Ideal.exp (Cert.Spec.acs (Cert.Spec.inAt A b k (fun _ _ => 0)) 127 (g * 6 + j)) * h ((g * 6 + j) * 64 + p) n
        + Cert.Spec.stat (Cert.Spec.inAt A b k (fun _ _ => 0)) ((g * 6 + j) * 64 + p) n := by
  unfold Cert.Spec.hout
  rw [show ((g * 6 + j) * 64 + p) / 64 = g * 6 + j from by omega]
  rfl

theorem inv_succ (k : ℕ) (hk : k < 64) (W : Val) (h : Inv m c k W) : Inv m c (k + 1) (STEP W) where
  ctr := step_ctr W k h.ctr
  decay := (STEP_main_v94_0 W).trans h.decay
  own := (STEP_main_v94_1 W).trans h.own
  now b g j p n := by
    rw [step3_at W k hk h.ctr, h.decay, h.own, h.now, eq0_at, eq1_at]
    exact (hout_eq (B m c) b k g j p n _ j.isLt p.isLt).symm
  past i b g j p n hi := by
    rw [step4_at W k hk h.ctr]
    by_cases e : (i : ℕ) = k
    · rw [if_pos e, h.now, e]
    · rw [if_neg e, h.past i b g j p n (by omega)]

theorem inv_all (k : ℕ) (hk : k ≤ 64) : Inv m c k (STEP^[k] (e11 (V0 m c))) := by
  induction k with
  | zero => exact inv_zero m c
  | succ k ih =>
    rw [Function.iterate_succ_apply']
    exact inv_succ m c k (by omega) _ (ih (by omega))

/-- A buffer that neither the loop's condition nor its body writes is as the loop found it. -/
theorem kept_loop {r : Ref sig .tc} (hc : r ∉ condOps_W) (h0 : r ∉ while0Ops0_W) (h1 : r ∉ while0Ops0_1_W) (h2 : r ∉ while0Ops0_2_W) (h3 : r ∉ while0Ops0_3_W)
    (h4 : r ∉ while0Ops0_4_W) (k : ℕ) : atK m k c (Proc.devRef .tc r) = e11 (V0 m c) (Proc.devRef .tc r) := by
  induction k with
  | zero => exact congrFun (entry_eq m c) _
  | succ k ih =>
    show afterL bodyI (after condOps (atK m k c)) (Proc.devRef .tc r) = _
    simp only [afterL_cons, afterL_nil]
    rw [after_of_writes_sub _ _ while0Ops0_4_writes h4, after_of_writes_sub _ _ while0Ops0_3_writes h3, after_of_writes_sub _ _ while0Ops0_2_writes h2,
      after_of_writes_sub _ _ while0Ops0_1_writes h1, after_of_writes_sub _ _ while0Ops0_writes h0, after_of_writes_sub _ _ condOps_writes hc, ih]

/-- The contents when the loop is left. -/
def Fin0 : Val := after condOps (atK m 64 c)

theorem kept_fin {r : Ref sig .tc} (hc : r ∉ condOps_W) (h0 : r ∉ while0Ops0_W) (h1 : r ∉ while0Ops0_1_W) (h2 : r ∉ while0Ops0_2_W) (h3 : r ∉ while0Ops0_3_W)
    (h4 : r ∉ while0Ops0_4_W) : Fin0 m c (Proc.devRef .tc r) = e11 (V0 m c) (Proc.devRef .tc r) :=
  (after_of_writes_sub _ _ condOps_writes hc).trans (kept_loop m c hc h0 h1 h2 h3 h4 64)

theorem fin_carried (r : Ref sig .tc) (h : r ∈ carriedRefs) : Fin0 m c (Proc.devRef .tc r) = STEP^[64] (e11 (V0 m c)) (Proc.devRef .tc r) := by
  refine (cond_keeps _ r h).trans ((atK_agree m c 64 r h).trans ?_)
  rw [entry_eq]

theorem f3_at (b : Fin 2) (g : Fin 4) (j : Fin 6) (p : Fin 64) (n : Fin 128) :
    q3 (Fin0 m c) (ix5 b g j p n) = Cert.Spec.state (B m c) b 64 ((g * 6 + j) * 64 + p) n := by
  rw [show q3 (Fin0 m c) = q3 (STEP^[64] (e11 (V0 m c))) from fin_carried m c main_v94_3 (by decide)]
  exact (inv_all m c 64 le_rfl).now b g j p n

theorem f4_at (i : Fin 64) (b : Fin 2) (g : Fin 4) (j : Fin 6) (p : Fin 64) (n : Fin 128) :
    q4 (Fin0 m c) (ix6 i b g j p n) = Cert.Spec.state (B m c) b i ((g * 6 + j) * 64 + p) n := by
  rw [show q4 (Fin0 m c) = q4 (STEP^[64] (e11 (V0 m c))) from fin_carried m c main_v94_4 (by decide)]
  exact (inv_all m c 64 le_rfl).past i b g j p n i.isLt

theorem f78 : b78 (Fin0 m c) = b78 (e11 (V0 m c)) := by apply kept_fin <;> decide +kernel
theorem f53 : b53 (Fin0 m c) = b53 (e11 (V0 m c)) := by apply kept_fin <;> decide +kernel
theorem f58 : b58 (Fin0 m c) = b58 (e11 (V0 m c)) := by apply kept_fin <;> decide +kernel
theorem f39 : b39 (Fin0 m c) = b39 (e11 (V0 m c)) := by apply kept_fin <;> decide +kernel
theorem f1 : b1 (Fin0 m c) = b1 (e11 (V0 m c)) := by apply kept_fin <;> decide +kernel
theorem fa5 : a5 (Fin0 m c) = a5 (V0 m c) := Eq.trans (by apply kept_fin <;> decide +kernel) (earg5 (V0 m c))
theorem fa6 : a6 (Fin0 m c) = a6 (V0 m c) := Eq.trans (by apply kept_fin <;> decide +kernel) (earg6 (V0 m c))

/-! ## After the loop -/

def P1 : Val := after hostOps0_11 (Fin0 m c)
def P2 : Val := after hostOps0_12 (P1 m c)
def P3 : Val := after hostOps0_13 (P2 m c)

theorem final_eq : finalContents condOps preI bodyI postI 64 m c = P3 m c := by
  simp only [finalContents, afterL_cons, afterL_nil]
  rfl

/-- The chunk that position `r` of sequence `b` lies in. -/
abbrev K (b r : ℕ) : Cert.Spec.In := Cert.Spec.inAt (B m c) b (r / 128) (Cert.Spec.state (B m c) b (r / 128))

theorem p110_at (b : Fin 2) (r : Fin 8192) (x : Fin 1536) : b110 (P1 m c) (ix3 b r x) = Cert.Spec.ypre (K m c b r) (r % 128) x := by
  have hx : ((x : ℕ) / 64 / 6 * 6 + x / 64 % 6) * 64 + x % 64 = x := by omega
  have hx' : (x : ℕ) / 64 / 6 * 6 + x / 64 % 6 = x / 64 := by omega
  have hx2 : (x : ℕ) / 64 * 64 + x % 64 = x := by omega
  refine (v110_at (Fin0 m c) b r x).trans ?_
  rw [f78, f53, f58, f39, fa5, e78_at, e58_11, e39_at]
  unfold Cert.Spec.ypre
  refine congrArg₂ (fun y z : EReal => y + z) (congrArg₂ (fun y z : EReal => y + z) ?_ ?_) ?_
  · show Cert.Spec.ydiag _ _ (((x : ℕ) / 64 / 6 * 6 + x / 64 % 6) * 64 + x % 64) = _
    rw [hx]
    rfl
  · unfold Cert.Spec.yoff
    refine congrArg₂ (fun y z : EReal => y * z) (Finset.sum_congr rfl fun n _ => ?_) ?_
    · rw [f4_at, e53_11, mul_comm]
      show Cert.Spec.act _ _ (2048 + ((x : ℕ) / 64 / 6 * 128 + n)) * Cert.Spec.state _ _ _ (((x : ℕ) / 64 / 6 * 6 + x / 64 % 6) * 64 + x % 64) _ = _
      rw [hx, show 2048 + ((x : ℕ) / 64 / 6 * 128 + n) = 2048 + 128 * (x / 384) + n from by omega]
      rfl
    · show Ideal.exp (Cert.Spec.acs _ _ ((x : ℕ) / 64 / 6 * 6 + x / 64 % 6)) = _
      rw [hx']
      rfl
  · show Cert.Spec.act _ _ ((x : ℕ) / 64 * 64 + x % 64) * _ = _
    rw [hx2]
    exact congrArg (fun y : EReal => Cert.Spec.act (J (V0 m c) b (r / 128)) (r % 128) x * y) (Cert.Spec.nat1_at _ ⟨(x : ℕ) / 64, by omega⟩ _ rfl).symm

theorem p111_at (b : Fin 2) (r : Fin 8192) (x : Fin 1536) : b111 (P2 m c) (ix3 b r x) = Cert.Spec.sil ((K m c b r).z (r % 128) x) := by
  refine (v111_at (P1 m c) b r x).trans (congrArg Cert.Spec.sil ?_)
  rw [show b1 (P1 m c) = b1 (Fin0 m c) from post_b1 _, f1, e1_at]
  show (B m c).p (8192 * b + r) x = (B m c).p (8192 * b + 128 * (r / 128) + r % 128) x
  rw [show 8192 * (b : ℕ) + 128 * (r / 128) + r % 128 = 8192 * b + r from by omega]

theorem gated_at (b : Fin 2) (r : Fin 8192) (x : Fin 1536) :
    b110 (P2 m c) (ix3 b r x) * b111 (P2 m c) (ix3 b r x) = Cert.Spec.gated (K m c b r) (r % 128) x := by
  rw [show b110 (P2 m c) = b110 (P1 m c) from post_b110 _, p110_at, p111_at]
  rfl

theorem out_at (r : Fin 16384) (x : Fin 1536) : b128 (P3 m c) (ix2 r x) = Cert.Spec.outY (B m c) (r / 8192) (r % 8192) x := by
  refine (v128_at (P2 m c) r x).trans ?_
  rw [gated_at]
  unfold Cert.Spec.outY Cert.Spec.yout
  refine congrArg₂ (fun y z : EReal => y * z) (congrArg₂ (fun y z : EReal => y * z) ?_ (congrArg Cert.Spec.rs ?_)) ?_
  · show Cert.Spec.gated _ _ ((x : ℕ) / 384 * 384 + x % 384) = _
    rw [show (x : ℕ) / 384 * 384 + x % 384 = x from by omega]
  · unfold Cert.Spec.ssq
    refine Finset.sum_congr rfl fun t _ => ?_
    rw [gated_at]
    show Cert.Spec.gated _ _ ((x : ℕ) / 384 * 384 + t) * Cert.Spec.gated _ _ ((x : ℕ) / 384 * 384 + t) = _
    rw [show (x : ℕ) / 384 * 384 + t = 384 * (x / 384) + t from by omega]
  · rw [show a6 (P2 m c) = a6 (Fin0 m c) from post_a6 _, fa6]
    exact (Cert.Spec.nat1_at _ x _ rfl).symm

theorem state_at (b : Fin 2) (r : Fin 1536) (n : Fin 128) : b129 (P3 m c) (ix3 b r n) = Cert.Spec.state (B m c) b 64 r n := by
  refine (v129_at (P2 m c) b r n).trans ?_
  rw [show b104 (P2 m c) = b104 (P1 m c) from post_b104 _]
  refine (v104_at (Fin0 m c) b _ _ n).trans ((f3_at m c b _ _ _ n).trans ?_)
  show Cert.Spec.state _ _ _ (((r : ℕ) / 64 / 6 * 6 + r / 64 % 6) * 64 + r % 64) _ = _
  rw [show ((r : ℕ) / 64 / 6 * 6 + r / 64 % 6) * 64 + r % 64 = r from by omega]

end Cert.ReferenceIdeal.Chunk
-- ==== Proof.RefEnd.lean ====
/- The reference's run: what its results are, and that its arguments are kept. -/
module

public import proofs.«01_k».proof.Proof.RefRun
public import Idealize.ShloMosaic.Lib.Quiescent

@[expose] public section

set_option maxRecDepth 100000

noncomputable section

namespace Cert.ReferenceIdeal.Chunk

open Idealize.ShloMosaic Idealize.ShloMosaic.TcCoe Idealize.SL.Sem Cert.ReferenceIdeal Cert.ReferenceIdeal.Gen Cert.ReferenceIdeal.Value Idealize.ShloMosaic.StableHlo Idealize.ShloMosaic.Pointwise

/-! The buffers the stretches after the loop write. -/

abbrev postW11 : List (Ref sig .tc) := [main_v95, main_v96, main_v97, main_v98, main_v99, main_v100, main_v101, main_v102, main_v103, main_v104, main_v105, main_v106, main_v107, main_v108, main_v109, main_v110]

theorem post_writes11 : (hostOps0_11 : List (HloOp τ sig (Elt Ideal))).Forall fun op => op.writes ⊆ (postW11.map (Proc.devRef (τ := τ) .tc)).toFinset :=
  StableHlo.forall_writes_sub_of_map rfl

abbrev postW12 : List (Ref sig .tc) := [main_call8_v0, main_call8_v1, main_call8_cst, main_call8_v2, main_call8_v3, main_call8_cst_0, main_call8_v4, main_call8_v5, main_v111]

theorem post_writes12 : (hostOps0_12 : List (HloOp τ sig (Elt Ideal))).Forall fun op => op.writes ⊆ (postW12.map (Proc.devRef (τ := τ) .tc)).toFinset :=
  StableHlo.forall_writes_sub_of_map rfl

abbrev postW13 : List (Ref sig .tc) := [main_v112, main_v113, main_v114, main_cst_4, main_v115, main_v116, main_cst_5, main_v117, main_v118, main_cst_6, main_v119, main_v120, main_v121, main_v122, main_v123, main_v124, main_v125, main_v126, main_v127, main_v128, main_v129]

theorem post_writes13 : (hostOps0_13 : List (HloOp τ sig (Elt Ideal))).Forall fun op => op.writes ⊆ (postW13.map (Proc.devRef (τ := τ) .tc)).toFinset :=
  StableHlo.forall_writes_sub_of_map rfl

variable (m : (ℓ : Loc nD τ sig) → Buf (Elt Ideal) ℓ) (ρ : Dev nD → PrngReg) (c : Dev nD)

theorem kept_post {r : Ref sig .tc} (h11 : r ∉ postW11) (h12 : r ∉ postW12) (h13 : r ∉ postW13) : P3 m c (Proc.devRef .tc r) = Fin0 m c (Proc.devRef .tc r) :=
  (after_of_writes_sub _ _ post_writes13 h13).trans ((after_of_writes_sub _ _ post_writes12 h12).trans (after_of_writes_sub _ _ post_writes11 h11))

/-- The buffers that the whole program writes. -/
abbrev allW : List (Ref sig .tc) :=
  hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W
    ++ condOps_W ++ while0Ops0_W ++ while0Ops0_1_W ++ while0Ops0_2_W ++ while0Ops0_3_W ++ while0Ops0_4_W ++ postW11 ++ postW12 ++ postW13

/-- A buffer that the program does not write ends as it began. -/
theorem kept_all {r : Ref sig .tc} (h : r ∉ allW) : P3 m c (Proc.devRef .tc r) = m ((c.tc : Thread nD τ).loc r) := by
  simp only [allW, List.mem_append, not_or] at h
  obtain ⟨⟨⟨⟨⟨⟨⟨⟨⟨⟨⟨⟨⟨⟨⟨⟨⟨⟨⟨h0, h1⟩, h2⟩, h3⟩, h4⟩, h5⟩, h6⟩, h7⟩, h8⟩, h9⟩, h10⟩, hc⟩, b0⟩, b1⟩, b2⟩, b3⟩, b4⟩, p1⟩, p2⟩, p3⟩ := h
  exact (kept_post m c p1 p2 p3).trans ((kept_fin m c hc b0 b1 b2 b3 b4).trans (earg_of (V0 m c) h0 h1 h2 h3 h4 h5 h6 h7 h8 h9 h10))

/-- The arguments of the contents the call is launched with. -/
def argsAt : Cert.Spec.Args :=
  Cert.Spec.args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

theorem B_eq : B m c = argsAt m c := rfl

theorem run : θ_run (defs (F := Ideal)) (onTc (τ := τ) (main (F := Ideal))) ⟨m, fun _ => 0, ρ⟩ (fun r => ∀ c : Dev nD,
    r.2.mem ((c.tc : Thread nD τ).loc main_v128) = P3 m c (Proc.devRef .tc main_v128)
    ∧ r.2.mem ((c.tc : Thread nD τ).loc main_v129) = P3 m c (Proc.devRef .tc main_v129)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run _ _ _).mono (fun r h c => by
    have e : ∀ b : Ref sig .tc, (Proc.devRef .tc b : DevRef τ sig).isScoped = false → r.2.mem ((c.tc : Thread nD τ).loc b) = P3 m c (Proc.devRef .tc b) :=
      fun b hb => (h c b hb).trans (congrFun (final_eq m c) _)
    exact ⟨e _ rfl, e _ rfl, (e main_arg0 rfl).trans (kept_all m c (by decide +kernel)), (e main_arg1 rfl).trans (kept_all m c (by decide +kernel)), (e main_arg2 rfl).trans (kept_all m c (by decide +kernel)), (e main_arg3 rfl).trans (kept_all m c (by decide +kernel)), (e main_arg4 rfl).trans (kept_all m c (by decide +kernel)), (e main_arg5 rfl).trans (kept_all m c (by decide +kernel)), (e main_arg6 rfl).trans (kept_all m c (by decide +kernel))⟩) (run_fold m ρ)

end Cert.ReferenceIdeal.Chunk
-- ==== Proof.ProjSpec.lean ====
/- What the input projection computes: one row of a matrix product, a rotation of the query and key columns by the row's
   position, in the columns' padded order. -/
module

public import proofs.«01_k».proof.Proof.Spec

@[expose] public section

noncomputable section

namespace Cert.Proj

open Idealize.ShloMosaic Idealize.ShloMosaic.Pointwise

/-- The angle of position `p` at frequency `f`. -/
def ang (p f : ℕ) : EReal :=
  FloatOps.sitofp (F := Ideal) .f32 (BitVec.ofNat 32 p) *
    Ideal.pow (FloatOps.ofBits (F := Ideal) .f32 0x461C4000#32)
      (Ideal.div (-(FloatOps.sitofp (F := Ideal) .f32 (BitVec.ofNat 32 f))) (FloatOps.ofBits (F := Ideal) .f32 0x42000000#32))

/-- The tables' lanes: the cosine, and the sine with the sign that its half of a head takes. -/
def cosT (p e : ℕ) : EReal := Ideal.cos (ang p (e % 32))
def sinT (p e : ℕ) : EReal := if e % 64 < 32 then -Ideal.sin (ang p (e % 32)) else Ideal.sin (ang p (e % 32))

/-- The activations' rows, the weight's columns in the padded order, zero past the last. -/
structure Args where
  x : ℕ → ℕ → EReal
  w : ℕ → ℕ → EReal

def nat3 {a b d : ℕ} (v : (⟨3, ![a, b, d]⟩ : Shape).Idx → EReal) (i j k : ℕ) : EReal :=
  if h : i < a ∧ j < b ∧ k < d then v (ix3 ⟨i, h.1⟩ ⟨j, h.2.1⟩ ⟨k, h.2.2⟩) else 0

theorem nat3_at {a b d : ℕ} (v : (⟨3, ![a, b, d]⟩ : Shape).Idx → EReal) (i : Fin a) (j : Fin b) (k : Fin d) (i' j' k' : ℕ)
    (hi : i' = i) (hj : j' = j) (hk : k' = k) : nat3 v i' j' k' = v (ix3 i j k) := by
  subst hi hj hk
  exact dif_pos ⟨i.2, j.2, k.2⟩

/-- Column `j` of the padded order among the weight's 5656. -/
def col (j : ℕ) : ℕ := if j < 4096 then j else if j < 5632 then j + 24 else j - 1536

def args (v0 : (⟨3, ![2, 8192, 1024]⟩ : Shape).Idx → EReal) (v1 : (⟨3, ![1, 1024, 5656]⟩ : Shape).Idx → EReal) : Args where
  x r k := nat3 v0 (r / 8192) (r % 8192) k
  w k j := if j < 5656 then nat3 v1 0 k (col j) else 0

/-- The sample's rows, four to a sequence. -/
def argsS (v0 : (⟨3, ![128, 4, 1024]⟩ : Shape).Idx → EReal) (v1 : (⟨3, ![1, 1024, 5656]⟩ : Shape).Idx → EReal) : Args where
  x r k := nat3 v0 (r / 4) (r % 4) k
  w k j := if j < 5656 then nat3 v1 0 k (col j) else 0

variable (A : Args)

/-- Row `r` against column `j`. -/
def acc (r j : ℕ) : EReal := ∑ k : Fin 1024, A.x r k * A.w k j

/-- The column that lane `j` is rotated with. -/
def partner (j : ℕ) : ℕ := if j % 64 < 32 then j + 32 else j - 32

/-- The projection's entry at row `r`, which stands at position `p`. -/
def outAt (p r j : ℕ) : EReal :=
  if 4096 ≤ j ∧ j < 5120 then acc A r j * cosT p j + acc A r (partner j) * sinT p j else acc A r j

/-- The prompt's rows stand at their place in the sequence, the sample's after the 8192 positions of the past. -/
def out (r j : ℕ) : EReal := outAt A (r % 8192) r j
def outS (r j : ℕ) : EReal := outAt A (8192 + r % 4) r j

end Cert.Proj
-- ==== Proof.ProjBody.lean ====
/- One grid point of the projection: a block product, and in the block of queries and keys the rotation. -/
module

public import proofs.«01_k».proof.Proof.ProjSpec
public import proofs.«01_k».proof.Proof.Gen.Kernel2Ideal.Skeleton

@[expose] public section

set_option maxRecDepth 16384

noncomputable section

namespace Cert.Kernel2Ideal.Proj

open Idealize.ShloMosaic Idealize.SL.Sem Cert.Kernel2Ideal Cert.Kernel2Ideal.Gen Idealize.ShloMosaic.Pointwise

theorem pay1_at (v : Vec Ideal S1024x1024 .f32) (a k : Fin 1024) : k0_pay1 v (ix2 a k) = v (ix2 a k) := by
  pointwise [k0_pay1]

theorem pay2_at (x w : Vec Ideal S1024x1024 .bf16) (a b : Fin 1024) :
    k0_pay2 x w (ix2 a b) = ∑ k : Fin 1024, x (ix2 a k) * w (ix2 k b) := by
  pointwise [k0_pay2]

/-- Which half of a head a lane lies in, as the body's integer arithmetic says it. -/
theorem half_mask : ∀ b : Fin 1024, IntOp.cmpi CmpIPredicate.slt
    (Scalar.select
      (IntOp.andi
        (IntOp.xori
          (IntOp.cmpi CmpIPredicate.slt
            (IntOp.remsi ArithUnit.vector (BitVec.ofNat 32 (b : ℕ)) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne
          (IntOp.remsi ArithUnit.vector (BitVec.ofNat 32 (b : ℕ)) (Scalar.select (Scalar.cmpi CmpIPredicate.eq 64#32 0#32) 1#32 64#32)) 0#32))
      (IntOp.addi
        (IntOp.remsi ArithUnit.vector (BitVec.ofNat 32 (b : ℕ)) (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 (b : ℕ)) (Scalar.select (Scalar.cmpi CmpIPredicate.eq 64#32 0#32) 1#32 64#32)))
    32#32 = if (b : ℕ) % 64 < 32 then 1#1 else 0#1 := by decide +kernel

/-- Eight copies of a 128-lane row side by side, read at lane `b`. -/
theorem tile_at (f : Fin 128 → EReal) (b : Fin 1024) :
    (if h : (b : ℕ) < 128 then f ⟨b, h⟩
      else if h : (b : ℕ) - 128 < 128 then f ⟨b - 128, h⟩
      else if h : (b : ℕ) - 128 - 128 < 128 then f ⟨b - 128 - 128, h⟩
      else if h : (b : ℕ) - 128 - 128 - 128 < 128 then f ⟨b - 128 - 128 - 128, h⟩
      else if h : (b : ℕ) - 128 - 128 - 128 - 128 < 128 then f ⟨b - 128 - 128 - 128 - 128, h⟩
      else if h : (b : ℕ) - 128 - 128 - 128 - 128 - 128 < 128 then f ⟨b - 128 - 128 - 128 - 128 - 128, h⟩
      else if h : (b : ℕ) - 128 - 128 - 128 - 128 - 128 - 128 < 128 then f ⟨b - 128 - 128 - 128 - 128 - 128 - 128, h⟩
      else f ⟨b - 128 - 128 - 128 - 128 - 128 - 128 - 128, by omega⟩) = f ⟨b % 128, by omega⟩ := by
  have hb := b.2
  split_ifs <;> exact congrArg f (Fin.ext (by simp only []; omega))

/-- The rotated block. -/
theorem pay3_at (x w : Vec Ideal S1024x1024 .bf16) (c s : Vec Ideal S1024x128 .f32) (a b : Fin 1024) :
    k0_pay3 x w c s (ix2 a b) = k0_pay2 x w (ix2 a b) * c (ix2 a ⟨b % 128, by omega⟩) +
      (if (b : ℕ) % 64 < 32 then k0_pay2 x w (ix2 a ⟨(b + 1024 - 992) % 1024, by omega⟩)
        else k0_pay2 x w (ix2 a ⟨(b + 1024 - 32) % 1024, by omega⟩)) * s (ix2 a ⟨b % 128, by omega⟩) := by
  unfold k0_pay3
  generalize k0_pay2 x w = y
  pointwise []
  rw [half_mask b]
  refine congr (congrArg _ (congrArg _ (tile_at (fun k => c (ix2 a k)) b))) (congr (congrArg _ ?_) (tile_at (fun k => s (ix2 a k)) b))
  by_cases h : (b : ℕ) % 64 < 32
  · rw [if_pos h, if_pos h]
    rfl
  · rw [if_neg h, if_neg h]
    rfl

end Cert.Kernel2Ideal.Proj
-- ==== Proof.ProjBlocks.lean ====
/- The arrays that the host prepares for the projection, and the blocks each grid point is given. -/
module

public import proofs.«01_k».proof.Proof.ProjBody
public import proofs.«01_k».proof.Proof.Gen.Kernel2Ideal.Frame.Runs
public import Idealize.ShloMosaic.Lib.StableHlo.RunRead

@[expose] public section

set_option maxRecDepth 16384

noncomputable section

namespace Cert.Kernel2Ideal.Proj

open Idealize.ShloMosaic Idealize.ShloMosaic.TcCoe Idealize.SL.Sem Cert.Kernel2Ideal Cert.Kernel2Ideal.Gen Idealize.ShloMosaic.Pointwise

variable (m : (ℓ : Loc nD τ sig) → Buf (Elt Ideal) ℓ) (c : Dev nD)

/-- The call's arguments in memory `m`. -/
def argsOf : Cert.Proj.Args :=
  Cert.Proj.args (m ((c : Thread nD τ).loc main_arg0)) (m ((c : Thread nD τ).loc main_arg1))

/-- The angles, as the host computes them. -/
def angles : Vec Ideal S8192x32 .f32 :=
  mulf (broadcastInDim S8192x32 ![0, 1] bcast_S8192x1_S8192x32_0_1 (broadcastInDim S8192x1 ![0] bcast_S8192_S8192x1_0
      (sitofp (F := Ideal) .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant (F := Ideal) S_ .f32 0x461C4000#32) : Vec Ideal S32 .f32)
        (Host.divf (Host.negf (sitofp (F := Ideal) .f32 (iotaInDim S32 32 0)))
          (broadcastInDim S32 ![] bcast_S_S32 (constant (F := Ideal) S_ .f32 0x42000000#32))))))

theorem angles_at (p : Fin 8192) (f : Fin 32) : angles (ix2 p f) = Cert.Proj.ang p f := by
  pointwise [angles]
  rfl

/-- Two tables of half a head side by side, twice over. -/
def lanes (x y : Vec Ideal S8192x32 .f32) : Vec Ideal S8192x128 .f32 :=
  shapeCast S8192x128 (broadcastInDim S1x8192x2x64 ![0, 1, 2, 3] bcast_S1x8192x1x64_S1x8192x2x64_0_1_2_3
    (shapeCast S1x8192x1x64 (concatenate S8192x64 1 [⟨S8192x32, x⟩, ⟨S8192x32, y⟩] concatenates_S8192x32_S8192x32_S8192x64_d1)
      shapeCasts_S8192x64_S1x8192x1x64)) shapeCasts_S1x8192x2x64_S8192x128

theorem lanes_at (x y : Vec Ideal S8192x32 .f32) (p : Fin 8192) (e : Fin 128) :
    lanes x y (ix2 p e) = if (e : ℕ) % 64 < 32 then x (ix2 p ⟨e % 32, by omega⟩) else y (ix2 p ⟨e % 32, by omega⟩) := by
  pointwise [lanes]
  by_cases h : (e : ℕ) % 64 < 32
  · rw [if_pos h, dif_pos h]
    exact congrArg x (Cert.Spec.idx2_of _ _ _ rfl (by show (e : ℕ) % 64 = e % 32; omega))
  · rw [if_neg h, dif_neg h]
    exact congrArg y (Cert.Spec.idx2_of _ _ _ rfl (by show (e : ℕ) % 64 - 32 = e % 32; omega))

theorem V18 (p : Fin 8192) (e : Fin 128) : V m c main_v18 (ix2 p e) = Cert.Proj.cosT p e := by
  have h : V m c main_v18 = lanes (Host.cos (F := Ideal) (φ := .f32) angles) (Host.cos (F := Ideal) (φ := .f32) angles) := by
    after_reads_simp
    rfl
  rw [h, lanes_at]
  pointwise []
  rw [angles_at, ite_self]
  rfl

theorem V23 (p : Fin 8192) (e : Fin 128) : V m c main_v23 (ix2 p e) = Cert.Proj.sinT p e := by
  have h : V m c main_v23 = lanes (Host.negf (F := Ideal) (φ := .f32) (Host.sin (F := Ideal) (φ := .f32) angles)) (Host.sin (F := Ideal) (φ := .f32) angles) := by
    after_reads_simp
    rfl
  rw [h, lanes_at]
  pointwise []
  rw [angles_at]
  rfl

/-- The prompt's rows, one sequence after the other. -/
def rows (v : Vec Ideal S2x8192x1024 .f32) : Vec Ideal S16384x1024 .f32 := shapeCast S16384x1024 v shapeCasts_S2x8192x1024_S16384x1024

theorem rows_at (v : Vec Ideal S2x8192x1024 .f32) (r : Fin 16384) (k : Fin 1024) :
    rows v (ix2 r k) = v (ix3 ⟨r / 8192, by omega⟩ ⟨r % 8192, by omega⟩ k) := by
  pointwise [rows]
  done

theorem V24 (r : Fin 16384) (k : Fin 1024) : V m c main_v24 (ix2 r k) = (argsOf m c).x r k := by
  have h : V m c main_v24 = rows (m ((c : Thread nD τ).loc main_arg0)) := by
    after_reads_simp
    rfl
  rw [h, rows_at]
  exact (Cert.Proj.nat3_at _ ⟨r / 8192, by omega⟩ ⟨r % 8192, by omega⟩ k _ _ _ rfl rfl rfl).symm

/-- The weight's rows. -/
def flat (v : Vec Ideal S1x1024x5656 .f32) : Vec Ideal S1024x5656 .f32 := shapeCast S1024x5656 v shapeCasts_S1x1024x5656_S1024x5656

theorem flat_at (v : Vec Ideal S1x1024x5656 .f32) (k : Fin 1024) (j : Fin 5656) : flat v (ix2 k j) = v (ix3 0 k j) := by
  pointwise [flat]
  done

/-- The weight's columns in the padded order. -/
def cols (w : Vec Ideal S1024x5656 .f32) : Vec Ideal S1024x6144 .f32 :=
  concatenate S1024x6144 1
      [⟨S1024x4096, extractStridedSlice S1024x4096 ![0, 0] w slices_S1024x5656_S1024x4096_0_0⟩,
       ⟨S1024x1536, extractStridedSlice S1024x1536 ![0, 4120] w slices_S1024x5656_S1024x1536_0_4120⟩,
       ⟨S1024x512, pad S1024x512 ![0, 0] ![0, 488] ![0, 0] (extractStridedSlice S1024x24 ![0, 4096] w slices_S1024x5656_S1024x24_0_4096)
          (sitofp (F := Ideal) .f32 (constantI S_ 32 0#32)) pads_S1024x24_S1024x512_000_04880 h_S_⟩]
      concatenates_S1024x4096_S1024x1536_S1024x512_S1024x6144_d1

theorem cols_at (w : Vec Ideal S1024x5656 .f32) (k : Fin 1024) (j : Fin 6144) :
    cols w (ix2 k j) = if h : (j : ℕ) < 5656 then w (ix2 k ⟨Cert.Proj.col j, by unfold Cert.Proj.col; split_ifs <;> omega⟩) else 0 := by
  pointwise [cols]
  by_cases h0 : (j : ℕ) < 4096
  · rw [dif_pos h0, dif_pos (show (j : ℕ) < 5656 by omega)]
    exact congrArg w (Cert.Spec.idx2_of _ _ _ rfl (by show (j : ℕ) = Cert.Proj.col j; unfold Cert.Proj.col; rw [if_pos h0]))
  rw [dif_neg h0]
  by_cases h1 : (j : ℕ) < 5632
  · rw [dif_pos (show (j : ℕ) - 4096 < 1536 by omega), dif_pos (show (j : ℕ) < 5656 by omega)]
    exact congrArg w (Cert.Spec.idx2_of _ _ _ rfl (by
      show 4120 + ((j : ℕ) - 4096) = Cert.Proj.col j; unfold Cert.Proj.col; rw [if_neg h0, if_pos h1]; omega))
  rw [dif_neg (show ¬(j : ℕ) - 4096 < 1536 by omega)]
  by_cases h2 : (j : ℕ) < 5656
  · refine (dif_pos (show (j : ℕ) - 4096 - 1536 < 24 by omega)).trans (Eq.trans ?_ (dif_pos h2).symm)
    exact congrArg w (Cert.Spec.idx2_of _ _ _ rfl (by
      show 4096 + ((j : ℕ) - 4096 - 1536) = Cert.Proj.col j; unfold Cert.Proj.col; rw [if_neg h0, if_neg h1]; omega))
  · refine (dif_neg (show ¬(j : ℕ) - 4096 - 1536 < 24 by omega)).trans (Eq.trans ?_ (dif_neg h2).symm)
    simp [FloatOps.sitofp]

theorem V31 (k : Fin 1024) (j : Fin 6144) : V m c main_v31 (ix2 k j) = (argsOf m c).w k j := by
  have h : V m c main_v31 = truncf (F := Ideal) .bf16 (cols (flat (m ((c : Thread nD τ).loc main_arg1)))) bitsLt_bf16_f32 := by
    after_reads_simp
    rfl
  rw [h]
  show cols (flat (m ((c : Thread nD τ).loc main_arg1))) (ix2 k j) = if (j : ℕ) < 5656 then Cert.Proj.nat3 _ 0 k (Cert.Proj.col j) else 0
  rw [cols_at]
  by_cases hj : (j : ℕ) < 5656
  · rw [dif_pos hj, if_pos hj, flat_at]
    exact (Cert.Proj.nat3_at _ 0 k _ _ _ _ rfl rfl rfl).symm
  · rw [dif_neg hj, if_neg hj]

theorem index_facts : ∀ t : Fin cfg0.N, (win0_0.index t (0 : Fin 2) = t.val / 6 ∧ win0_0.index t (1 : Fin 2) = 0)
    ∧ (win0_1.index t (0 : Fin 2) = 0 ∧ win0_1.index t (1 : Fin 2) = t.val % 6)
    ∧ (win0_2.index t (0 : Fin 2) = t.val / 6 % 8 ∧ win0_2.index t (1 : Fin 2) = 0)
    ∧ (win0_3.index t (0 : Fin 2) = t.val / 6 % 8 ∧ win0_3.index t (1 : Fin 2) = 0) :=
  (by decide +kernel : ∀ t : Fin grid0.N, _)

/-- The rows of point `t`. -/
theorem blk0 (t : Fin cfg0.N) (a k : Fin 1024) : iblk m c 0 t (ix2 a k) = (argsOf m c).x (1024 * (t.val / 6) + a) k := by
  have hN : t.val < 96 := lt_of_lt_of_eq t.isLt (show cfg0.N = 96 from N_0)
  obtain ⟨⟨a0, b0⟩, -, -, -⟩ := index_facts t
  refine Eq.trans ?_ (V24 m c ⟨1024 * (t.val / 6) + a, by omega⟩ k)
  unfold iblk
  rw [View.read_apply]
  show V m c main_v24 _ = _
  congr 1
  exact Cert.Spec.idx2_of _ _ _ (show win0_0.index t (0 : Fin 2) * 1024 + 1 * (a : ℕ) = 1024 * (t.val / 6) + a by omega)
    (show win0_0.index t (1 : Fin 2) * 1024 + 1 * (k : ℕ) = k by omega)

/-- Its columns. -/
theorem blk1 (t : Fin cfg0.N) (k b : Fin 1024) : iblk m c 1 t (ix2 k b) = (argsOf m c).w k (1024 * (t.val % 6) + b) := by
  obtain ⟨-, ⟨a0, b0⟩, -, -⟩ := index_facts t
  refine Eq.trans ?_ (V31 m c k ⟨1024 * (t.val % 6) + b, by omega⟩)
  unfold iblk
  rw [View.read_apply]
  show V m c main_v31 _ = _
  congr 1
  exact Cert.Spec.idx2_of _ _ _ (show win0_1.index t (0 : Fin 2) * 1024 + 1 * (k : ℕ) = k by omega)
    (show win0_1.index t (1 : Fin 2) * 1024 + 1 * (b : ℕ) = 1024 * (t.val % 6) + b by omega)

/-- Its rows of the tables. -/
theorem blk2 (t : Fin cfg0.N) (a : Fin 1024) (e : Fin 128) : iblk m c 2 t (ix2 a e) = Cert.Proj.cosT (1024 * (t.val / 6 % 8) + a) e := by
  obtain ⟨-, -, ⟨a0, b0⟩, -⟩ := index_facts t
  refine Eq.trans ?_ (V18 m c ⟨1024 * (t.val / 6 % 8) + a, by omega⟩ e)
  unfold iblk
  rw [View.read_apply]
  show V m c main_v18 _ = _
  congr 1
  exact Cert.Spec.idx2_of _ _ _ (show win0_2.index t (0 : Fin 2) * 1024 + 1 * (a : ℕ) = 1024 * (t.val / 6 % 8) + a by omega)
    (show win0_2.index t (1 : Fin 2) * 128 + 1 * (e : ℕ) = e by omega)

theorem blk3 (t : Fin cfg0.N) (a : Fin 1024) (e : Fin 128) : iblk m c 3 t (ix2 a e) = Cert.Proj.sinT (1024 * (t.val / 6 % 8) + a) e := by
  obtain ⟨-, -, -, ⟨a0, b0⟩⟩ := index_facts t
  refine Eq.trans ?_ (V23 m c ⟨1024 * (t.val / 6 % 8) + a, by omega⟩ e)
  unfold iblk
  rw [View.read_apply]
  show V m c main_v23 _ = _
  congr 1
  exact Cert.Spec.idx2_of _ _ _ (show win0_3.index t (0 : Fin 2) * 1024 + 1 * (a : ℕ) = 1024 * (t.val / 6 % 8) + a by omega)
    (show win0_3.index t (1 : Fin 2) * 128 + 1 * (e : ℕ) = e by omega)

end Cert.Kernel2Ideal.Proj
-- ==== Proof.ProjRuns.lean ====
/- The projection call's result is the specification's. -/
module

public import proofs.«01_k».proof.Proof.ProjBlocks
public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Kernel2Ideal.Proj

open Idealize.ShloMosaic Idealize.ShloMosaic.TcCoe Idealize.SL.Sem Cert.Kernel2Ideal Cert.Kernel2Ideal.Gen Cert.Kernel2Ideal.Value Idealize.ShloMosaic.Pointwise

variable (m : (ℓ : Loc nD τ sig) → Buf (Elt Ideal) ℓ) (c : Dev nD)

/-- A row block's first point. -/
theorem outs_A (t : Fin cfg0.N) (h0 : t.val % 6 = 0) (h1 : ¬t.val % 6 = 4) (h2 : t.val % 6 ≠ 4) :
    outsAt0 m c t.val t.isLt = (k0_pay2 (k0_pay1 (iblk m c 0 t)) (iblk m c 1 t), k0_pay1 (iblk m c 0 t)) := by
  rw [outsAt0_A m c t h0 h1 h2]
  frame_out

/-- A later point, which reads the rows that the first one kept. -/
theorem outs_B (t : Fin cfg0.N) (h0 : ¬t.val % 6 = 0) (h1 : ¬t.val % 6 = 4) (h2 : t.val % 6 ≠ 4) :
    outsAt0 m c t.val t.isLt = (k0_pay2 (outsAt0 m c (t.val - 1) (Nat.lt_of_le_of_lt (Nat.sub_le _ _) t.isLt)).2 (iblk m c 1 t),
      (outsAt0 m c (t.val - 1) (Nat.lt_of_le_of_lt (Nat.sub_le _ _) t.isLt)).2) := by
  rw [outsAt0_B m c t h0 h1 h2]
  frame_out
  rw [read_unread_whole]
  rfl

/-- The point of the queries and keys. -/
theorem outs_C (t : Fin cfg0.N) (h0 : ¬t.val % 6 = 0) (h1 : t.val % 6 = 4) (h2 : ¬t.val % 6 ≠ 4) :
    outsAt0 m c t.val t.isLt = (k0_pay3 (outsAt0 m c (t.val - 1) (Nat.lt_of_le_of_lt (Nat.sub_le _ _) t.isLt)).2 (iblk m c 1 t) (iblk m c 2 t) (iblk m c 3 t),
      (outsAt0 m c (t.val - 1) (Nat.lt_of_le_of_lt (Nat.sub_le _ _) t.isLt)).2) := by
  rw [outsAt0_C m c t h0 h1 h2]
  frame_out
  rw [read_unread_whole]
  rfl

/-- What holds after point `n`: the kept rows are the row block's, and the block written is the specification's. -/
def Inv (n : ℕ) (s : Vec Ideal S1024x1024 .f32 × Vec Ideal S1024x1024 .bf16) : Prop :=
  (∀ a k : Fin 1024, s.2 (ix2 a k) = (argsOf m c).x (1024 * (n / 6) + a) k) ∧
    ∀ a b : Fin 1024, s.1 (ix2 a b) = Cert.Proj.out (argsOf m c) (1024 * (n / 6) + a) (1024 * (n % 6) + b)

/-- The product of kept rows with a column block. -/
theorem prod_at (t : Fin cfg0.N) (s : Vec Ideal S1024x1024 .bf16) (hs : ∀ a k : Fin 1024, s (ix2 a k) = (argsOf m c).x (1024 * (t.val / 6) + a) k)
    (a b : Fin 1024) : k0_pay2 s (iblk m c 1 t) (ix2 a b) = Cert.Proj.acc (argsOf m c) (1024 * (t.val / 6) + a) (1024 * (t.val % 6) + b) := by
  rw [pay2_at]
  unfold Cert.Proj.acc
  exact Finset.sum_congr rfl (fun k _ => congrArg₂ (· * ·) (hs a k) (blk1 m c t k b))

theorem plain_at (t : Fin cfg0.N) (s : Vec Ideal S1024x1024 .bf16) (hs : ∀ a k : Fin 1024, s (ix2 a k) = (argsOf m c).x (1024 * (t.val / 6) + a) k)
    (h1 : ¬t.val % 6 = 4) : Inv m c t.val (k0_pay2 s (iblk m c 1 t), s) := by
  refine ⟨hs, fun a b => (prod_at m c t s hs a b).trans ?_⟩
  unfold Cert.Proj.out Cert.Proj.outAt
  rw [if_neg (by omega)]

theorem cosT_mod (p i b : ℕ) : Cert.Proj.cosT p (b % 128) = Cert.Proj.cosT p (1024 * i + b) := by
  unfold Cert.Proj.cosT
  rw [show b % 128 % 32 = (1024 * i + b) % 32 by omega]

theorem sinT_mod (p i b : ℕ) : Cert.Proj.sinT p (b % 128) = Cert.Proj.sinT p (1024 * i + b) := by
  unfold Cert.Proj.sinT
  rw [show b % 128 % 32 = (1024 * i + b) % 32 by omega, show b % 128 % 64 = (1024 * i + b) % 64 by omega]

theorem turned_at (t : Fin cfg0.N) (s : Vec Ideal S1024x1024 .bf16) (hs : ∀ a k : Fin 1024, s (ix2 a k) = (argsOf m c).x (1024 * (t.val / 6) + a) k)
    (h1 : t.val % 6 = 4) : Inv m c t.val (k0_pay3 s (iblk m c 1 t) (iblk m c 2 t) (iblk m c 3 t), s) := by
  refine ⟨hs, fun a b => ?_⟩
  show k0_pay3 s (iblk m c 1 t) (iblk m c 2 t) (iblk m c 3 t) (ix2 a b) = _
  rw [pay3_at, blk2, blk3, prod_at m c t s hs, prod_at m c t s hs, prod_at m c t s hs]
  unfold Cert.Proj.out Cert.Proj.outAt
  rw [if_pos (show 4096 ≤ 1024 * (t.val % 6) + (b : ℕ) ∧ 1024 * (t.val % 6) + (b : ℕ) < 5120 by omega), show (1024 * (t.val / 6) + (a : ℕ)) % 8192 = 1024 * (t.val / 6 % 8) + a by omega,
    ← cosT_mod _ (t.val % 6), ← sinT_mod _ (t.val % 6)]
  refine congrArg₂ (· + ·) rfl (congrArg₂ (· * ·) ?_ rfl)
  unfold Cert.Proj.partner
  by_cases h : (b : ℕ) % 64 < 32
  · rw [if_pos h, if_pos (by omega)]
    exact congrArg _ (by show 1024 * (t.val % 6) + ((b : ℕ) + 1024 - 992) % 1024 = _; omega)
  · rw [if_neg h, if_neg (by omega)]
    exact congrArg _ (by show 1024 * (t.val % 6) + ((b : ℕ) + 1024 - 32) % 1024 = _; omega)

theorem inv_A (t : Fin cfg0.N) (h0 : t.val % 6 = 0) : Inv m c t.val (outsAt0 m c t.val t.isLt) := by
  rw [outs_A m c t h0 (by omega) (by omega)]
  exact plain_at m c t _ (fun a k => (pay1_at _ a k).trans (blk0 m c t a k)) (by omega)

theorem inv_all : ∀ (n : ℕ) (hn : n < cfg0.N), Inv m c n (outsAt0 m c n hn)
  | 0, hn => inv_A m c ⟨0, hn⟩ rfl
  | n + 1, hn => by
    by_cases h : (n + 1) % 6 = 0
    · exact inv_A m c ⟨n + 1, hn⟩ h
    have hs : ∀ a k : Fin 1024, (outsAt0 m c n (by omega)).2 (ix2 a k) = (argsOf m c).x (1024 * ((n + 1) / 6) + a) k := fun a k => by
      rw [show (n + 1) / 6 = n / 6 by omega]
      exact (inv_all n (by omega)).1 a k
    by_cases h1 : (n + 1) % 6 = 4
    · exact (outs_C m c ⟨n + 1, hn⟩ h h1 (fun x => x h1)).symm ▸ turned_at m c ⟨n + 1, hn⟩ _ hs h1
    · exact (outs_B m c ⟨n + 1, hn⟩ h h1 h1).symm ▸ plain_at m c ⟨n + 1, hn⟩ _ hs h1

/-- The result. -/
theorem G4_at (r : Fin 16384) (j : Fin 6144) : G4 m c (ix2 r j) = Cert.Proj.out (argsOf m c) r j := by
  have hN : cfg0.N = 96 := N_0
  have hp : pt4Of (ix2 r j) = 6 * (r / 1024) + j / 1024 := by
    show 6 * ((r : ℕ) / 1024 - 0) + 1 * ((j : ℕ) / 1024 - 0) = _
    omega
  have hl : loc4Of (ix2 r j) = ix2 ⟨r % 1024, by omega⟩ ⟨j % 1024, by omega⟩ := by
    funext a
    apply Fin.ext
    fin_cases a <;> rfl
  unfold G4
  rw [dif_pos (by rw [hp]; omega), ← outsAt0_sweep m c _ (by rw [hp]; omega), hl]
  refine ((inv_all m c _ _).2 _ _).trans ?_
  rw [hp]
  exact congrArg₂ _ (by show 1024 * ((6 * ((r : ℕ) / 1024) + (j : ℕ) / 1024) / 6) + (r : ℕ) % 1024 = r; omega)
    (by show 1024 * ((6 * ((r : ℕ) / 1024) + (j : ℕ) / 1024) % 6) + (j : ℕ) % 1024 = j; omega)

end Cert.Kernel2Ideal.Proj
-- ==== Proof.ProjRef.lean ====
/- The reference's projection is the specification's. -/
module

public import proofs.«01_k».proof.Proof.ProjSpec
public import proofs.«01_k».proof.Proof.Gen.Reference2Ideal.Run

@[expose] public section

set_option maxRecDepth 16384

noncomputable section

namespace Cert.Reference2Ideal.Proj

open Idealize.ShloMosaic Idealize.ShloMosaic.TcCoe Idealize.SL.Sem Cert.Reference2Ideal Cert.Reference2Ideal.Gen Cert.Reference2Ideal.Value Idealize.ShloMosaic.Pointwise

/-- The product. -/
def proj (v0 : Vec Ideal S2x8192x1024 .f32) (v1 : Vec Ideal S1x1024x5656 .f32) : Vec Ideal S2x8192x5656 .f32 :=
  Host.dotGeneral (F := Ideal) (φ₁ := .f32) (φ₂ := .f32) dot_S2x8192x1024_S1024x5656_S2x8192x5656_2_0_01_1_n_n none v0 (shapeCast S1024x5656 v1 shapeCasts_S1x1024x5656_S1024x5656)

theorem proj_at (v0 : Vec Ideal S2x8192x1024 .f32) (v1 : Vec Ideal S1x1024x5656 .f32) (b : Fin 2) (l : Fin 8192) (j : Fin 5656) :
    proj v0 v1 (ix3 b l j) = ∑ k : Fin 1024, v0 (ix3 b l k) * v1 (ix3 0 k j) := by
  pointwise [proj]

/-- The angles. -/
def angles : Vec Ideal S8192x32 .f32 :=
  mulf (broadcastInDim S8192x32 ![0, 1] bcast_S8192x1_S8192x32_0_1 (broadcastInDim S8192x1 ![0] bcast_S8192_S8192x1_0
      (sitofp (F := Ideal) .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant (F := Ideal) S_ .f32 0x461C4000#32) : Vec Ideal S32 .f32)
        (Host.divf (Host.negf (sitofp (F := Ideal) .f32 (iotaInDim S32 32 0)))
          (broadcastInDim S32 ![] bcast_S_S32 (constant (F := Ideal) S_ .f32 0x42000000#32))))))

theorem angles_at (p : Fin 8192) (f : Fin 32) : angles (ix2 p f) = Cert.Proj.ang p f := by
  pointwise [angles]
  rfl

/-- A table of the angles for every sequence and head. -/
def wide (v : Vec Ideal S8192x32 .f32) : Vec Ideal S2x8192x8x32 .f32 :=
  broadcastInDim S2x8192x8x32 ![0, 1, 2, 3] bcast_S1x8192x1x32_S2x8192x8x32_0_1_2_3 (broadcastInDim S1x8192x1x32 ![1, 3] bcast_S8192x32_S1x8192x1x32_1_3 v)

/-- The rotation. -/
def turn (t : Vec Ideal S2x8192x8x64 .f32) : Vec Ideal S2x8192x8x64 .f32 :=
  concatenate S2x8192x8x64 3
    [⟨S2x8192x8x32, subf (F := Ideal) (φ := .f32) (mulf (F := Ideal) (φ := .f32) (extractStridedSlice S2x8192x8x32 ![0, 0, 0, 0] t slices_S2x8192x8x64_S2x8192x8x32_0_0_0_0) (wide (Host.cos (F := Ideal) (φ := .f32) angles)))
      (mulf (F := Ideal) (φ := .f32) (extractStridedSlice S2x8192x8x32 ![0, 0, 0, 32] t slices_S2x8192x8x64_S2x8192x8x32_0_0_0_32) (wide (Host.sin (F := Ideal) (φ := .f32) angles)))⟩,
     ⟨S2x8192x8x32, addf (F := Ideal) (φ := .f32) (mulf (F := Ideal) (φ := .f32) (extractStridedSlice S2x8192x8x32 ![0, 0, 0, 32] t slices_S2x8192x8x64_S2x8192x8x32_0_0_0_32) (wide (Host.cos (F := Ideal) (φ := .f32) angles)))
      (mulf (F := Ideal) (φ := .f32) (extractStridedSlice S2x8192x8x32 ![0, 0, 0, 0] t slices_S2x8192x8x64_S2x8192x8x32_0_0_0_0) (wide (Host.sin (F := Ideal) (φ := .f32) angles)))⟩]
    concatenates_S2x8192x8x32_S2x8192x8x32_S2x8192x8x64_d3

theorem idx4_of {x y z w : ℕ} (i : (⟨4, ![x, y, z, w]⟩ : Shape).Idx) (a : Fin x) (b : Fin y) (d : Fin z) (e : Fin w)
    (h0 : (i 0).val = a) (h1 : (i 1).val = b) (h2 : (i 2).val = d) (h3 : (i 3).val = e) : i = ix4 a b d e := by
  funext n
  apply Fin.ext
  fin_cases n
  exacts [h0, h1, h2, h3]

theorem idx3_of {x y z : ℕ} (i : (⟨3, ![x, y, z]⟩ : Shape).Idx) (a : Fin x) (b : Fin y) (d : Fin z)
    (h0 : (i 0).val = a) (h1 : (i 1).val = b) (h2 : (i 2).val = d) : i = ix3 a b d := by
  funext n
  apply Fin.ext
  fin_cases n
  exacts [h0, h1, h2]

theorem turn_at (t : Vec Ideal S2x8192x8x64 .f32) (b : Fin 2) (l : Fin 8192) (h : Fin 8) (d : Fin 64) :
    turn t (ix4 b l h d) = if hd : (d : ℕ) < 32 then t (ix4 b l h d) * Cert.Proj.cosT l d + t (ix4 b l h ⟨d + 32, by omega⟩) * Cert.Proj.sinT l d
      else t (ix4 b l h d) * Cert.Proj.cosT l d + t (ix4 b l h ⟨d - 32, by omega⟩) * Cert.Proj.sinT l d := by
  pointwise [turn, wide]
  by_cases hd : (d : ℕ) < 32
  · rw [dif_pos hd, dif_pos hd, angles_at]
    unfold Cert.Proj.cosT Cert.Proj.sinT
    rw [if_pos (show (d : ℕ) % 64 < 32 by omega), show (d : ℕ) % 32 = d by omega, sub_eq_add_neg, mul_neg]
    exact congrArg₂ (· + ·) rfl (congrArg (fun i => -(t i * _)) (idx4_of _ _ _ _ _ rfl rfl rfl (Nat.add_comm 32 d)))
  · rw [dif_neg hd, dif_neg hd, angles_at]
    unfold Cert.Proj.cosT Cert.Proj.sinT
    rw [if_neg (show ¬(d : ℕ) % 64 < 32 by omega), show (d : ℕ) % 32 = d - 32 by omega]
    exact congrArg₂ (· + ·) (congrArg (fun i => t i * _) (idx4_of _ _ _ _ _ rfl rfl rfl (by show 32 + ((d : ℕ) - 32) = d; omega))) rfl

/-- One of the projection's three head arrays. -/
def heads (p : Vec Ideal S2x8192x5656 .f32) : Vec Ideal S2x8192x3x8x64 .f32 :=
  shapeCast S2x8192x3x8x64 (extractStridedSlice S2x8192x1536 ![0, 0, 4120] p slices_S2x8192x5656_S2x8192x1536_0_0_4120) shapeCasts_S2x8192x1536_S2x8192x3x8x64

def headsQ (p : Vec Ideal S2x8192x5656 .f32) : Vec Ideal S2x8192x8x64 .f32 :=
  shapeCast S2x8192x8x64 (extractStridedSlice S2x8192x1x8x64 ![0, 0, 0, 0, 0] (heads p) slices_S2x8192x3x8x64_S2x8192x1x8x64_0_0_0_0_0) shapeCasts_S2x8192x1x8x64_S2x8192x8x64
def headsK (p : Vec Ideal S2x8192x5656 .f32) : Vec Ideal S2x8192x8x64 .f32 :=
  shapeCast S2x8192x8x64 (extractStridedSlice S2x8192x1x8x64 ![0, 0, 1, 0, 0] (heads p) slices_S2x8192x3x8x64_S2x8192x1x8x64_0_0_1_0_0) shapeCasts_S2x8192x1x8x64_S2x8192x8x64
def headsV (p : Vec Ideal S2x8192x5656 .f32) : Vec Ideal S2x8192x8x64 .f32 :=
  shapeCast S2x8192x8x64 (extractStridedSlice S2x8192x1x8x64 ![0, 0, 2, 0, 0] (heads p) slices_S2x8192x3x8x64_S2x8192x1x8x64_0_0_2_0_0) shapeCasts_S2x8192x1x8x64_S2x8192x8x64

theorem headsQ_at (p : Vec Ideal S2x8192x5656 .f32) (b : Fin 2) (l : Fin 8192) (h : Fin 8) (d : Fin 64) :
    headsQ p (ix4 b l h d) = p (ix3 b l ⟨4120 + (64 * h + d), by omega⟩) := by
  pointwise [headsQ, heads]
  exact congrArg p (idx3_of _ _ _ _ rfl rfl (by show 4120 + ((h : ℕ) * 64 + d) = 4120 + (64 * h + d); omega))

theorem headsK_at (p : Vec Ideal S2x8192x5656 .f32) (b : Fin 2) (l : Fin 8192) (h : Fin 8) (d : Fin 64) :
    headsK p (ix4 b l h d) = p (ix3 b l ⟨4632 + (64 * h + d), by omega⟩) := by
  pointwise [headsK, heads]
  exact congrArg p (idx3_of _ _ _ _ rfl rfl (by show 4120 + (512 + (h : ℕ) * 64 + d) = 4632 + (64 * h + d); omega))

theorem headsV_at (p : Vec Ideal S2x8192x5656 .f32) (b : Fin 2) (l : Fin 8192) (h : Fin 8) (d : Fin 64) :
    headsV p (ix4 b l h d) = p (ix3 b l ⟨5144 + (64 * h + d), by omega⟩) := by
  pointwise [headsV, heads]
  exact congrArg p (idx3_of _ _ _ _ rfl rfl (by show 4120 + (1024 + (h : ℕ) * 64 + d) = 5144 + (64 * h + d); omega))

/-- The columns in the padded order. -/
def laid (p : Vec Ideal S2x8192x5656 .f32) (q k v : Vec Ideal S2x8192x8x64 .f32) : Vec Ideal S16384x6144 .f32 :=
  shapeCast S16384x6144 (fn_main_v76 (F := Ideal) (extractStridedSlice S2x8192x1536 ![0, 0, 0] p slices_S2x8192x5656_S2x8192x1536_0_0_0)
    (extractStridedSlice S2x8192x2560 ![0, 0, 1536] p slices_S2x8192x5656_S2x8192x2560_0_0_1536)
    (shapeCast S2x8192x512 q shapeCasts_S2x8192x8x64_S2x8192x512) (shapeCast S2x8192x512 k shapeCasts_S2x8192x8x64_S2x8192x512)
    (shapeCast S2x8192x512 v shapeCasts_S2x8192x8x64_S2x8192x512)
    (extractStridedSlice S2x8192x24 ![0, 0, 4096] p slices_S2x8192x5656_S2x8192x24_0_0_4096)
    (broadcastInDim S2x8192x488 ![] bcast_S_S2x8192x488 (constant (F := Ideal) S_ .f32 0x00000000#32))) shapeCasts_S2x8192x6144_S16384x6144

/-- The product's columns, in the padded order, are the specification's. -/
def Cols (p : Vec Ideal S2x8192x5656 .f32) (A : Cert.Proj.Args) : Prop :=
  ∀ (r : Fin 16384) (b : Fin 2) (l : Fin 8192) (j : ℕ) (e : Fin 5656), (b : ℕ) = r / 8192 → (l : ℕ) = r % 8192 → j < 5656 →
    (e : ℕ) = Cert.Proj.col j → p (ix3 b l e) = Cert.Proj.acc A r j

theorem turned_at {A : Cert.Proj.Args} (t : Vec Ideal S2x8192x8x64 .f32) (r : ℕ) (b : Fin 2) (l : Fin 8192) (hl : (l : ℕ) = r % 8192) (base : ℕ) (hb : base % 64 = 0)
    (ht : ∀ (h : Fin 8) (d : Fin 64), t (ix4 b l h d) = Cert.Proj.acc A r (base + (64 * h + d))) (j : ℕ) (h : Fin 8) (d : Fin 64)
    (hj : j = base + (64 * h + d)) (h1 : 4096 ≤ j) (h2 : j < 5120) : turn t (ix4 b l h d) = Cert.Proj.out A r j := by
  rw [turn_at]
  unfold Cert.Proj.out Cert.Proj.outAt
  rw [if_pos ⟨h1, h2⟩, ← hl]
  have e1 : Cert.Proj.cosT l d = Cert.Proj.cosT l j := by
    unfold Cert.Proj.cosT
    rw [show (d : ℕ) % 32 = j % 32 by omega]
  have e2 : Cert.Proj.sinT l d = Cert.Proj.sinT l j := by
    unfold Cert.Proj.sinT
    rw [show (d : ℕ) % 32 = j % 32 by omega, show (d : ℕ) % 64 = j % 64 by omega]
  rw [e1, e2]
  unfold Cert.Proj.partner
  by_cases hd : (d : ℕ) < 32
  · rw [dif_pos hd, if_pos (show j % 64 < 32 by omega), ht, ht, hj]
    exact congrArg (fun n => _ + Cert.Proj.acc A r n * _) (by show base + (64 * (h : ℕ) + (d + 32)) = _; omega)
  · rw [dif_neg hd, if_neg (show ¬j % 64 < 32 by omega), ht, ht, hj]
    exact congrArg (fun n => _ + Cert.Proj.acc A r n * _) (by show base + (64 * (h : ℕ) + (d - 32)) = _; omega)

theorem col_lo {j : ℕ} (h : j < 4096) : Cert.Proj.col j = j := if_pos h
theorem col_mid {j : ℕ} (h : 4096 ≤ j) (h' : j < 5632) : Cert.Proj.col j = j + 24 := (if_neg (by omega)).trans (if_pos h')
theorem col_hi {j : ℕ} (h : 5632 ≤ j) : Cert.Proj.col j = j - 1536 := (if_neg (by omega)).trans (if_neg (by omega))

theorem laid_at (p : Vec Ideal S2x8192x5656 .f32) {A : Cert.Proj.Args} (hp : Cols p A) (hz : ∀ r j, 5656 ≤ j → Cert.Proj.acc A r j = 0)
    (r : Fin 16384) (j : Fin 6144) :
    laid p (turn (headsQ p)) (turn (headsK p)) (headsV p) (ix2 r j) = Cert.Proj.out A r j := by
  have hr := r.2
  have hj := j.2
  have hq : ∀ (b : Fin 2) (l : Fin 8192), (b : ℕ) = r / 8192 → (l : ℕ) = r % 8192 → ∀ (h : Fin 8) (d : Fin 64),
      headsQ p (ix4 b l h d) = Cert.Proj.acc A r (4096 + (64 * h + d)) := fun b l hb hl h d => by
    rw [headsQ_at]
    exact hp r b l _ _ hb hl (by omega) (by rw [col_mid (by omega) (by omega)]; show 4120 + (64 * (h : ℕ) + d) = _; omega)
  have hk : ∀ (b : Fin 2) (l : Fin 8192), (b : ℕ) = r / 8192 → (l : ℕ) = r % 8192 → ∀ (h : Fin 8) (d : Fin 64),
      headsK p (ix4 b l h d) = Cert.Proj.acc A r (4608 + (64 * h + d)) := fun b l hb hl h d => by
    rw [headsK_at]
    exact hp r b l _ _ hb hl (by omega) (by rw [col_mid (by omega) (by omega)]; show 4632 + (64 * (h : ℕ) + d) = _; omega)
  generalize eq : turn (headsQ p) = q
  generalize ek : turn (headsK p) = k
  generalize ev : headsV p = v
  unfold laid fn_main_v76
  pointwise []
  have plain : ¬(4096 ≤ (j : ℕ) ∧ (j : ℕ) < 5120) → Cert.Proj.out A r j = Cert.Proj.acc A r j := fun h => if_neg h
  by_cases h0 : (j : ℕ) < 1536
  · rw [dif_pos h0, plain (by omega)]
    exact hp r _ _ j _ rfl rfl (by omega) (col_lo (show (j : ℕ) < 4096 by omega)).symm
  rw [dif_neg h0]
  by_cases h1 : (j : ℕ) - 1536 < 2560
  · rw [dif_pos h1, plain (by omega)]
    exact hp r _ _ j _ rfl rfl (by omega) (by rw [col_lo (by omega)]; show 1536 + ((j : ℕ) - 1536) = j; omega)
  rw [dif_neg h1]
  by_cases h2 : (j : ℕ) - 1536 - 2560 < 512
  · rw [dif_pos h2, ← eq]
    exact turned_at _ r _ _ rfl 4096 rfl (hq _ _ rfl rfl) _ _ _
      (by show (j : ℕ) = 4096 + (64 * (((j : ℕ) - 1536 - 2560) / 64) + ((j : ℕ) - 1536 - 2560) % 64); omega) (by omega) (by omega)
  rw [dif_neg h2]
  by_cases h3 : (j : ℕ) - 1536 - 2560 - 512 < 512
  · rw [dif_pos h3, ← ek]
    exact turned_at _ r _ _ rfl 4608 rfl (hk _ _ rfl rfl) _ _ _
      (by show (j : ℕ) = 4608 + (64 * (((j : ℕ) - 1536 - 2560 - 512) / 64) + ((j : ℕ) - 1536 - 2560 - 512) % 64); omega) (by omega) (by omega)
  rw [dif_neg h3, plain (by omega)]
  by_cases h4 : (j : ℕ) - 1536 - 2560 - 512 - 512 < 512
  · rw [dif_pos h4, ← ev, headsV_at]
    refine hp r _ _ j _ rfl rfl (by omega) ?_
    rw [col_mid (by omega) (by omega)]
    show 5144 + (64 * (((j : ℕ) - 1536 - 2560 - 512 - 512) / 64) + ((j : ℕ) - 1536 - 2560 - 512 - 512) % 64) = _
    omega
  rw [dif_neg h4]
  by_cases h5 : (j : ℕ) - 1536 - 2560 - 512 - 512 - 512 < 24
  · rw [dif_pos h5]
    refine hp r _ _ j _ rfl rfl (by omega) ?_
    rw [col_hi (by omega)]
    show 4096 + ((j : ℕ) - 1536 - 2560 - 512 - 512 - 512) = _
    omega
  · rw [dif_neg h5]
    exact (hz r j (by omega)).symm

variable (m : (ℓ : Loc nD τ sig) → Buf (Elt Ideal) ℓ) (c : Dev nD)

/-- The call's arguments in memory `m`. -/
def argsAt : Cert.Proj.Args :=
  Cert.Proj.args (m ((c : Thread nD τ).loc main_arg0)) (m ((c : Thread nD τ).loc main_arg1))

theorem proj_cols (v0 : Vec Ideal S2x8192x1024 .f32) (v1 : Vec Ideal S1x1024x5656 .f32) : Cols (proj v0 v1) (Cert.Proj.args v0 v1) := by
  intro r b l j e hb hl hj he
  rw [proj_at]
  unfold Cert.Proj.acc
  refine Finset.sum_congr rfl (fun k _ => congrArg₂ (· * ·) (Cert.Proj.nat3_at v0 b l k _ _ _ hb.symm hl.symm rfl).symm ?_)
  show _ = if j < 5656 then Cert.Proj.nat3 v1 0 k (Cert.Proj.col j) else 0
  rw [if_pos hj]
  exact (Cert.Proj.nat3_at v1 0 k e _ _ _ rfl rfl he.symm).symm

theorem acc_past (v0 : Vec Ideal S2x8192x1024 .f32) (v1 : Vec Ideal S1x1024x5656 .f32) (r j : ℕ) (h : 5656 ≤ j) :
    Cert.Proj.acc (Cert.Proj.args v0 v1) r j = 0 := by
  unfold Cert.Proj.acc
  refine Finset.sum_eq_zero (fun k _ => ?_)
  show _ * (if j < 5656 then Cert.Proj.nat3 v1 0 k (Cert.Proj.col j) else 0) = 0
  rw [if_neg (by omega), mul_zero]

theorem res_eq : res_main_v77 m c = laid (proj (m ((c : Thread nD τ).loc main_arg0)) (m ((c : Thread nD τ).loc main_arg1)))
      (turn (headsQ (proj (m ((c : Thread nD τ).loc main_arg0)) (m ((c : Thread nD τ).loc main_arg1)))))
      (turn (headsK (proj (m ((c : Thread nD τ).loc main_arg0)) (m ((c : Thread nD τ).loc main_arg1)))))
      (headsV (proj (m ((c : Thread nD τ).loc main_arg0)) (m ((c : Thread nD τ).loc main_arg1)))) := by
  rfl

theorem res_at (r : Fin 16384) (j : Fin 6144) : res_main_v77 m c (ix2 r j) = Cert.Proj.out (argsAt m c) r j := by
  rw [res_eq]
  exact laid_at _ (proj_cols _ _) (acc_past _ _) r j

end Cert.Reference2Ideal.Proj
-- ==== Proof.OutSpec.lean ====
/- What the output projection computes: the scan's and the attention's rows against the weight's, added to the scaled
   input, and each row normalised. -/
module

public import proofs.«01_k».proof.Proof.ProjSpec

@[expose] public section

noncomputable section

namespace Cert.Out

open Idealize.ShloMosaic Idealize.ShloMosaic.Pointwise

/-- The row normalised: its mean taken off, over the square root of its variance. -/
def norm (h : Fin 1024 → EReal) (j : Fin 1024) : EReal :=
  (h j - Ideal.div (∑ k, h k) (FloatOps.ofBits (F := Ideal) .f32 0x44800000#32)) *
    Ideal.rsqrt (Ideal.div (∑ i, (h i - Ideal.div (∑ k, h k) (FloatOps.ofBits (F := Ideal) .f32 0x44800000#32)) *
        (h i - Ideal.div (∑ k, h k) (FloatOps.ofBits (F := Ideal) .f32 0x44800000#32))) (FloatOps.ofBits (F := Ideal) .f32 0x44800000#32) +
      FloatOps.ofBits (F := Ideal) .f32 0x3727C5AC#32)

/-- The scan's rows, the attention's, the input's, the weight, and the scale and shift of the normalised rows. -/
structure Args where
  y : Fin 16384 → Fin 1536 → EReal
  a : Fin 16384 → Fin 512 → EReal
  x : ℕ → ℕ → EReal
  w : ℕ → ℕ → EReal
  g : Fin 1024 → EReal
  b : Fin 1024 → EReal

def args (v0 : (⟨2, ![16384, 1536]⟩ : Shape).Idx → EReal) (v1 : (⟨2, ![16384, 512]⟩ : Shape).Idx → EReal)
    (v2 : (⟨3, ![2, 8192, 1024]⟩ : Shape).Idx → EReal) (v3 : (⟨3, ![1, 2048, 1024]⟩ : Shape).Idx → EReal)
    (v4 v5 : (⟨2, ![1, 1024]⟩ : Shape).Idx → EReal) : Args where
  y r k := v0 (ix2 r k)
  a r k := v1 (ix2 r k)
  x r k := Cert.Proj.nat3 v2 (r / 8192) (r % 8192) k
  w k j := Cert.Proj.nat3 v3 0 k j
  g j := v4 (ix2 0 j)
  b j := v5 (ix2 0 j)

variable (A : Args)

/-- Row `r` before it is normalised. -/
def row (r : Fin 16384) (j : Fin 1024) : EReal :=
  FloatOps.ofBits (F := Ideal) .f32 0x3F9837F0#32 * A.x r j +
    ((∑ k : Fin 1536, A.y r k * A.w k j) + ∑ k : Fin 512, A.a r k * A.w (1536 + k) j)

def out (r : Fin 16384) (j : Fin 1024) : EReal := norm (row A r) j * A.g j + A.b j

end Cert.Out
-- ==== Proof.OutBody.lean ====
/- One grid point of the output projection: two block products, the scaled input, and the rows normalised. -/
module

public import proofs.«01_k».proof.Proof.OutSpec
public import proofs.«01_k».proof.Proof.Gen.Kernel3Ideal.Skeleton

@[expose] public section

set_option maxRecDepth 16384

noncomputable section

namespace Cert.Kernel3Ideal.Out

open Idealize.ShloMosaic Idealize.SL.Sem Cert.Kernel3Ideal Cert.Kernel3Ideal.Gen Idealize.ShloMosaic.Pointwise

/-- The block before it is normalised. -/
def pre (v0 : Vec Ideal S512x1536 .f32) (v2 : Vec Ideal S1536x1024 .bf16) (v5 : Vec Ideal S512x512 .f32) (v7 : Vec Ideal S512x1024 .bf16)
    (v11 : Vec Ideal S512x1024 .f32) : Vec Ideal S512x1024 .f32 :=
  addf (F := Ideal) (φ := .f32)
    (mulf (F := Ideal) (φ := .f32) (broadcast S512x1024 (Scalar.ofBits (F := Ideal) .f32 0x3F9837F0#32)) (shapeCast S512x1024 v11 shapeCasts_S512x1024_S512x1024))
    (addf (F := Ideal) (φ := .f32)
      (matmul (F := Ideal) (φ₁ := .bf16) (φ₂ := .bf16) dot_S512x1536_S1536x1024_S512x1024_1_0_0_1_n_n none (truncf (F := Ideal) .bf16 v0 bitsLt_bf16_f32)
        (shapeCast S1536x1024 v2 shapeCasts_S1536x1024_S1536x1024) (constant (F := Ideal) S512x1024 .f32 0x00000000#32))
      (matmul (F := Ideal) (φ₁ := .bf16) (φ₂ := .bf16) dot_S512x512_S512x1024_S512x1024_1_0_0_1_n_n none (truncf (F := Ideal) .bf16 v5 bitsLt_bf16_f32)
        (shapeCast S512x1024 v7 shapeCasts_S512x1024_S512x1024) (constant (F := Ideal) S512x1024 .f32 0x00000000#32)))

theorem pre_at (v0 : Vec Ideal S512x1536 .f32) (v2 : Vec Ideal S1536x1024 .bf16) (v5 : Vec Ideal S512x512 .f32) (v7 : Vec Ideal S512x1024 .bf16)
    (v11 : Vec Ideal S512x1024 .f32) (a : Fin 512) (b : Fin 1024) :
    pre v0 v2 v5 v7 v11 (ix2 a b) = FloatOps.ofBits (F := Ideal) .f32 0x3F9837F0#32 * v11 (ix2 a b) +
      ((∑ k : Fin 1536, v0 (ix2 a k) * v2 (ix2 k b)) + ∑ k : Fin 512, v5 (ix2 a k) * v7 (ix2 k b)) := by
  pointwise [pre]

/-- The mean of each row, in every lane. -/
def mean (h : Vec Ideal S512x1024 .f32) : Vec Ideal S512x1 .f32 :=
  divf (F := Ideal) (φ := .f32) (shapeCast S512x1 (multiReduction (F := Ideal) .add [1] S512 h 0x00000000#32 reduces_S512x1024_S512 (.inl rfl) rfl) shapeCasts_S512_S512x1)
    (broadcast S512x1 (Scalar.ofBits (F := Ideal) .f32 0x44800000#32))

theorem mean_at (h : Vec Ideal S512x1024 .f32) (a : Fin 512) :
    mean h (ix2 a 0) = Ideal.div (∑ k : Fin 1024, h (ix2 a k)) (FloatOps.ofBits (F := Ideal) .f32 0x44800000#32) := by
  pointwise [mean]

/-- The block with each row's mean taken off. -/
def off (h : Vec Ideal S512x1024 .f32) : Vec Ideal S512x1024 .f32 :=
  subf (F := Ideal) (φ := .f32) h (broadcastTo S512x1024 (mean h) broadcasts_S512x1_S512x1024)

theorem off_at (h : Vec Ideal S512x1024 .f32) (a : Fin 512) (b : Fin 1024) : off h (ix2 a b) = h (ix2 a b) - mean h (ix2 a 0) := by
  unfold off
  generalize mean h = u
  pointwise []

def normed (h : Vec Ideal S512x1024 .f32) : Vec Ideal S512x1024 .f32 :=
  mulf (F := Ideal) (φ := .f32) (off h) (broadcastTo S512x1024
    (rsqrt (F := Ideal) (φ := .f32) (addf (F := Ideal) (φ := .f32) (mean (mulf (F := Ideal) (φ := .f32) (off h) (off h)))
      (broadcast S512x1 (Scalar.ofBits (F := Ideal) .f32 0x3727C5AC#32)))) broadcasts_S512x1_S512x1024)

theorem normed_mid (o : Vec Ideal S512x1024 .f32) (u : Vec Ideal S512x1 .f32) (a : Fin 512) (b : Fin 1024) :
    mulf (F := Ideal) (φ := .f32) o (broadcastTo S512x1024 (rsqrt (F := Ideal) (φ := .f32) (addf (F := Ideal) (φ := .f32) u
      (broadcast S512x1 (Scalar.ofBits (F := Ideal) .f32 0x3727C5AC#32)))) broadcasts_S512x1_S512x1024) (ix2 a b) =
      o (ix2 a b) * Ideal.rsqrt (u (ix2 a 0) + FloatOps.ofBits (F := Ideal) .f32 0x3727C5AC#32) := by
  pointwise []

theorem normed_at (h : Vec Ideal S512x1024 .f32) (a : Fin 512) (b : Fin 1024) : normed h (ix2 a b) = Cert.Out.norm (fun j => h (ix2 a j)) b := by
  unfold normed
  rw [normed_mid, off_at, mean_at, mean_at]
  have e : ∀ k : Fin 1024, mulf (F := Ideal) (φ := .f32) (off h) (off h) (ix2 a k) =
      (h (ix2 a k) - Ideal.div (∑ k : Fin 1024, h (ix2 a k)) (FloatOps.ofBits (F := Ideal) .f32 0x44800000#32)) *
      (h (ix2 a k) - Ideal.div (∑ k : Fin 1024, h (ix2 a k)) (FloatOps.ofBits (F := Ideal) .f32 0x44800000#32)) := fun k => by
    show off h (ix2 a k) * off h (ix2 a k) = _
    rw [off_at, mean_at]
  rw [Finset.sum_congr rfl (fun k _ => e k)]
  rfl

theorem pay3_eq (v0 : Vec Ideal S512x1536 .f32) (v2 : Vec Ideal S1536x1024 .bf16) (v5 : Vec Ideal S512x512 .f32) (v7 : Vec Ideal S512x1024 .bf16)
    (v11 : Vec Ideal S512x1024 .f32) : k0_pay3 v0 v2 v5 v7 v11 = normed (pre v0 v2 v5 v7 v11) := rfl

theorem last_at (n : Vec Ideal S512x1024 .f32) (g s : Vec Ideal S1x1024 .f32) (a : Fin 512) (b : Fin 1024) :
    k0_pay1 (k0_pay2 s) n (k0_pay4 g) (ix2 a b) = n (ix2 a b) * g (ix2 0 b) + s (ix2 0 b) := by
  pointwise [k0_pay1, k0_pay2, k0_pay4]

end Cert.Kernel3Ideal.Out
-- ==== Proof.OutBlocks.lean ====
/- The arrays that the host prepares for the output projection, and the blocks each grid point is given. -/
module

public import proofs.«01_k».proof.Proof.OutBody
public import proofs.«01_k».proof.Proof.Gen.Kernel3Ideal.Frame
public import Idealize.ShloMosaic.Lib.StableHlo.RunRead

@[expose] public section

set_option maxRecDepth 16384

noncomputable section

namespace Cert.Kernel3Ideal.Out

open Idealize.ShloMosaic Idealize.ShloMosaic.TcCoe Idealize.SL.Sem Cert.Kernel3Ideal Cert.Kernel3Ideal.Gen Idealize.ShloMosaic.Pointwise

variable (m : (ℓ : Loc nD τ sig) → Buf (Elt Ideal) ℓ) (c : Dev nD)

/-- The call's arguments in memory `m`. -/
def argsOf : Cert.Out.Args :=
  Cert.Out.args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The input's rows, one sequence after the other. -/
def rows (v : Vec Ideal S2x8192x1024 .f32) : Vec Ideal S16384x1024 .f32 := shapeCast S16384x1024 v shapeCasts_S2x8192x1024_S16384x1024

theorem rows_at (v : Vec Ideal S2x8192x1024 .f32) (r : Fin 16384) (k : Fin 1024) :
    rows v (ix2 r k) = v (ix3 ⟨r / 8192, by omega⟩ ⟨r % 8192, by omega⟩ k) := by
  pointwise [rows]
  done

theorem V0 (r : Fin 16384) (k : Fin 1024) : V m c main_v0 (ix2 r k) = (argsOf m c).x r k := by
  have h : V m c main_v0 = rows (m ((c : Thread nD τ).loc main_arg2)) := by
    after_reads_simp
    rfl
  rw [h, rows_at]
  exact (Cert.Proj.nat3_at _ ⟨r / 8192, by omega⟩ ⟨r % 8192, by omega⟩ k _ _ _ rfl rfl rfl).symm

/-- The weight's rows for the scan, and those for the attention. -/
def upper (v : Vec Ideal S1x2048x1024 .f32) : Vec Ideal S1536x1024 .bf16 :=
  truncf (F := Ideal) .bf16 (extractStridedSlice S1536x1024 ![0, 0] (shapeCast S2048x1024 v shapeCasts_S1x2048x1024_S2048x1024) slices_S2048x1024_S1536x1024_0_0) bitsLt_bf16_f32
def lower (v : Vec Ideal S1x2048x1024 .f32) : Vec Ideal S512x1024 .bf16 :=
  truncf (F := Ideal) .bf16 (extractStridedSlice S512x1024 ![1536, 0] (shapeCast S2048x1024 v shapeCasts_S1x2048x1024_S2048x1024) slices_S2048x1024_S512x1024_1536_0) bitsLt_bf16_f32

theorem upper_at (v : Vec Ideal S1x2048x1024 .f32) (k : Fin 1536) (j : Fin 1024) : upper v (ix2 k j) = v (ix3 0 ⟨k, by omega⟩ j) := by
  pointwise [upper]
  done

theorem lower_at (v : Vec Ideal S1x2048x1024 .f32) (k : Fin 512) (j : Fin 1024) : lower v (ix2 k j) = v (ix3 0 ⟨1536 + k, by omega⟩ j) := by
  pointwise [lower]
  done

theorem V3 (k : Fin 1536) (j : Fin 1024) : V m c main_v3 (ix2 k j) = (argsOf m c).w k j := by
  have h : V m c main_v3 = upper (m ((c : Thread nD τ).loc main_arg3)) := by
    after_reads_simp
    rfl
  rw [h, upper_at]
  exact (Cert.Proj.nat3_at _ 0 ⟨k, by omega⟩ j _ _ _ rfl rfl rfl).symm

theorem V6 (k : Fin 512) (j : Fin 1024) : V m c main_v6 (ix2 k j) = (argsOf m c).w (1536 + k) j := by
  have h : V m c main_v6 = lower (m ((c : Thread nD τ).loc main_arg3)) := by
    after_reads_simp
    rfl
  rw [h, lower_at]
  exact (Cert.Proj.nat3_at _ 0 ⟨1536 + k, by omega⟩ j _ _ _ rfl rfl rfl).symm

def lane (v : Vec Ideal S1x1024 .f32) : Vec Ideal S1x1024 .f32 :=
  broadcastInDim S1x1024 ![1] bcast_S1024_S1x1024_1 (shapeCast S1024 v shapeCasts_S1x1024_S1024)

theorem lane_at (v : Vec Ideal S1x1024 .f32) (j : Fin 1024) : lane v (ix2 0 j) = v (ix2 0 j) := by
  pointwise [lane]
  done

theorem V8 (j : Fin 1024) : V m c main_v8 (ix2 0 j) = (argsOf m c).g j := by
  have h : V m c main_v8 = lane (m ((c : Thread nD τ).loc main_arg4)) := by
    after_reads_simp
    rfl
  rw [h, lane_at]
  rfl

theorem V10 (j : Fin 1024) : V m c main_v10 (ix2 0 j) = (argsOf m c).b j := by
  have h : V m c main_v10 = lane (m ((c : Thread nD τ).loc main_arg5)) := by
    after_reads_simp
    rfl
  rw [h, lane_at]
  rfl

theorem index_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

variable (t : Fin cfg0.N)

/-- Row `a` of point `t`'s block. -/
def at_ (t : Fin cfg0.N) (a : Fin 512) : Fin 16384 :=
  ⟨512 * t.val + a, by have hN : t.val < 32 := lt_of_lt_of_eq t.isLt (show cfg0.N = 32 from N_0); omega⟩

theorem blk0 (a : Fin 512) (k : Fin 1536) : iblk m c 0 t (ix2 a k) = (argsOf m c).y (at_ t a) k := by
  obtain ⟨⟨a0, b0⟩, -⟩ := index_facts t
  refine Eq.trans ?_ (congrFun (V_main_arg0 m c) (ix2 (at_ t a) k))
  unfold iblk
  rw [View.read_apply]
  show V m c main_arg0 _ = _
  congr 1
  exact Cert.Spec.idx2_of _ _ _ (show win0_0.index t (0 : Fin 2) * 512 + 1 * (a : ℕ) = 512 * t.val + a by omega)
    (show win0_0.index t (1 : Fin 2) * 1536 + 1 * (k : ℕ) = k by omega)

theorem blk1 (a : Fin 512) (k : Fin 512) : iblk m c 1 t (ix2 a k) = (argsOf m c).a (at_ t a) k := by
  obtain ⟨-, ⟨a0, b0⟩, -⟩ := index_facts t
  refine Eq.trans ?_ (congrFun (V_main_arg1 m c) (ix2 (at_ t a) k))
  unfold iblk
  rw [View.read_apply]
  show V m c main_arg1 _ = _
  congr 1
  exact Cert.Spec.idx2_of _ _ _ (show win0_1.index t (0 : Fin 2) * 512 + 1 * (a : ℕ) = 512 * t.val + a by omega)
    (show win0_1.index t (1 : Fin 2) * 512 + 1 * (k : ℕ) = k by omega)

theorem blk2 (a : Fin 512) (k : Fin 1024) : iblk m c 2 t (ix2 a k) = (argsOf m c).x (at_ t a) k := by
  obtain ⟨-, -, ⟨a0, b0⟩, -⟩ := index_facts t
  refine Eq.trans ?_ (V0 m c (at_ t a) k)
  unfold iblk
  rw [View.read_apply]
  show V m c main_v0 _ = _
  congr 1
  exact Cert.Spec.idx2_of _ _ _ (show win0_2.index t (0 : Fin 2) * 512 + 1 * (a : ℕ) = 512 * t.val + a by omega)
    (show win0_2.index t (1 : Fin 2) * 1024 + 1 * (k : ℕ) = k by omega)

theorem blk3 (k : Fin 1536) (j : Fin 1024) : iblk m c 3 t (ix2 k j) = (argsOf m c).w k j := by
  obtain ⟨-, -, -, ⟨a0, b0⟩, -⟩ := index_facts t
  refine Eq.trans ?_ (V3 m c k j)
  unfold iblk
  rw [View.read_apply]
  show V m c main_v3 _ = _
  congr 1
  exact Cert.Spec.idx2_of _ _ _ (show win0_3.index t (0 : Fin 2) * 1536 + 1 * (k : ℕ) = k by omega)
    (show win0_3.index t (1 : Fin 2) * 1024 + 1 * (j : ℕ) = j by omega)

theorem blk4 (k : Fin 512) (j : Fin 1024) : iblk m c 4 t (ix2 k j) = (argsOf m c).w (1536 + k) j := by
  obtain ⟨-, -, -, -, ⟨a0, b0⟩, -⟩ := index_facts t
  refine Eq.trans ?_ (V6 m c k j)
  unfold iblk
  rw [View.read_apply]
  show V m c main_v6 _ = _
  congr 1
  exact Cert.Spec.idx2_of _ _ _ (show win0_4.index t (0 : Fin 2) * 512 + 1 * (k : ℕ) = k by omega)
    (show win0_4.index t (1 : Fin 2) * 1024 + 1 * (j : ℕ) = j by omega)

theorem blk5 (j : Fin 1024) : iblk m c 5 t (ix2 0 j) = (argsOf m c).g j := by
  obtain ⟨-, -, -, -, -, ⟨a0, b0⟩, -⟩ := index_facts t
  refine Eq.trans ?_ (V8 m c j)
  unfold iblk
  rw [View.read_apply]
  show V m c main_v8 _ = _
  congr 1
  exact Cert.Spec.idx2_of _ _ _ (show win0_5.index t (0 : Fin 2) * 1 + 1 * 0 = 0 by omega)
    (show win0_5.index t (1 : Fin 2) * 1024 + 1 * (j : ℕ) = j by omega)

theorem blk6 (j : Fin 1024) : iblk m c 6 t (ix2 0 j) = (argsOf m c).b j := by
  obtain ⟨-, -, -, -, -, -, ⟨a0, b0⟩, -⟩ := index_facts t
  refine Eq.trans ?_ (V10 m c j)
  unfold iblk
  rw [View.read_apply]
  show V m c main_v10 _ = _
  congr 1
  exact Cert.Spec.idx2_of _ _ _ (show win0_6.index t (0 : Fin 2) * 1 + 1 * 0 = 0 by omega)
    (show win0_6.index t (1 : Fin 2) * 1024 + 1 * (j : ℕ) = j by omega)

/-- What point `t` stores. -/
theorem body_at (a : Fin 512) (b : Fin 1024) :
    k0_pay1 (k0_pay2 (iblk m c 6 t)) (k0_pay3 (iblk m c 0 t) (iblk m c 3 t) (iblk m c 1 t) (iblk m c 4 t) (iblk m c 2 t)) (k0_pay4 (iblk m c 5 t)) (ix2 a b) =
      Cert.Out.out (argsOf m c) (at_ t a) b := by
  rw [last_at, blk5, blk6, pay3_eq, normed_at]
  have e : (fun j : Fin 1024 => pre (iblk m c 0 t) (iblk m c 3 t) (iblk m c 1 t) (iblk m c 4 t) (iblk m c 2 t) (ix2 a j)) = Cert.Out.row (argsOf m c) (at_ t a) :=
    funext fun j => by
      rw [pre_at, blk2]
      refine congrArg (_ + ·) (congrArg₂ (· + ·) (Finset.sum_congr rfl fun k _ => ?_) (Finset.sum_congr rfl fun k _ => ?_))
      · rw [blk0, blk3]
      · rw [blk1, blk4]
  rw [e]
  rfl

end Cert.Kernel3Ideal.Out
-- ==== Proof.OutRuns.lean ====
/- The output projection call's result is the specification's. -/
module

public import proofs.«01_k».proof.Proof.OutBlocks
public import proofs.«01_k».proof.Proof.Gen.Kernel3Ideal.Value
public import Idealize.ShloMosaic.Lib.Pipeline.ValueKit
public import Idealize.ShloMosaic.Lib.Pipeline.ReadBack

@[expose] public section

set_option maxRecDepth 16384

noncomputable section

namespace Cert.Kernel3Ideal.Out

open Idealize.ShloMosaic Idealize.ShloMosaic.TcCoe Idealize.SL.Sem Cert.Kernel3Ideal Cert.Kernel3Ideal.Gen Cert.Kernel3Ideal.Value Idealize.ShloMosaic.Pointwise

variable (m : (ℓ : Loc nD τ sig) → Buf (Elt Ideal) ℓ) (c : Dev nD)

/-- What point `t` writes back. -/
theorem flushed_at (t : Fin cfg0.N) (a : Fin 512) (b : Fin 1024) :
    (dats m 0 c).flushed 7 t (ix2 a b) = Cert.Out.out (argsOf m c) (at_ t a) b := by
  rw [flushed7]
  show out0_7 (iblk m c 0 t) (iblk m c 1 t) (iblk m c 2 t) (iblk m c 3 t) (iblk m c 4 t) (iblk m c 5 t) (iblk m c 6 t) (ix2 a b) = _
  frame_out
  exact body_at m c t a b

/-- The result. -/
theorem arr_at (r : Fin 16384) (j : Fin 1024) : (dats m 0 c).arrAt 7 cfg0.N (ix2 r j) = Cert.Out.out (argsOf m c) r j := by
  have ht : (r : ℕ) / 512 < cfg0.N := lt_of_lt_of_eq (show (r : ℕ) / 512 < 32 by omega) (show 32 = cfg0.N from N_0.symm)
  obtain ⟨-, -, -, -, -, -, -, a0, b0⟩ := index_facts ⟨r / 512, ht⟩
  have h := congrFun (blocks7 m c ⟨r / 512, ht⟩ (flush0_7 _)) (ix2 ⟨r % 512, by omega⟩ j)
  rw [flushed_at, View.read_apply] at h
  have hr : at_ ⟨(r : ℕ) / 512, ht⟩ ⟨(r : ℕ) % 512, by omega⟩ = r := Fin.ext (Nat.div_add_mod _ _)
  rw [hr] at h
  refine Eq.trans ?_ h
  show _ = (dats m 0 c).arrAt 7 cfg0.N _
  refine congrArg _ (Eq.symm ?_)
  exact Cert.Spec.idx2_of _ _ _ (by
      show win0_7.index ⟨(r : ℕ) / 512, ht⟩ (0 : Fin 2) * 512 + 1 * ((r : ℕ) % 512) = r
      rw [a0]
      show (r : ℕ) / 512 * 512 + 1 * ((r : ℕ) % 512) = r
      omega)
    (by
      show win0_7.index ⟨(r : ℕ) / 512, ht⟩ (1 : Fin 2) * 1024 + 1 * (j : ℕ) = j
      rw [b0]
      omega)

end Cert.Kernel3Ideal.Out
-- ==== Proof.OutRef.lean ====
/- The reference's output projection is the specification's. -/
module

public import proofs.«01_k».proof.Proof.OutSpec
public import proofs.«01_k».proof.Proof.Gen.Reference3Ideal.Run

@[expose] public section

set_option maxRecDepth 16384

noncomputable section

namespace Cert.Reference3Ideal.Out

open Idealize.ShloMosaic Idealize.ShloMosaic.TcCoe Idealize.SL.Sem Cert.Reference3Ideal Cert.Reference3Ideal.Gen Cert.Reference3Ideal.Value Idealize.ShloMosaic.Pointwise

/-- The scan's and the attention's rows side by side. -/
def both (v0 : Vec Ideal S16384x1536 .f32) (v1 : Vec Ideal S16384x512 .f32) : Vec Ideal S2x8192x2048 .f32 :=
  concatenate S2x8192x2048 2 [⟨S2x8192x1536, shapeCast S2x8192x1536 v0 shapeCasts_S16384x1536_S2x8192x1536⟩,
    ⟨S2x8192x512, shapeCast S2x8192x512 v1 shapeCasts_S16384x512_S2x8192x512⟩] concatenates_S2x8192x1536_S2x8192x512_S2x8192x2048_d2

theorem both_at (v0 : Vec Ideal S16384x1536 .f32) (v1 : Vec Ideal S16384x512 .f32) (s : Fin 2) (l : Fin 8192) (k : Fin 2048) :
    both v0 v1 (ix3 s l k) = if h : (k : ℕ) < 1536 then v0 (ix2 ⟨8192 * s + l, by omega⟩ ⟨k, h⟩) else v1 (ix2 ⟨8192 * s + l, by omega⟩ ⟨k - 1536, by omega⟩) := by
  pointwise [both]
  by_cases h : (k : ℕ) < 1536
  · rw [dif_pos h, dif_pos h]
    exact congrArg v0 (Cert.Spec.idx2_of _ _ _ (by show (s : ℕ) * 8192 + l = 8192 * s + l; omega) rfl)
  · rw [dif_neg h, dif_neg h]
    exact congrArg v1 (Cert.Spec.idx2_of _ _ _ (by show (s : ℕ) * 8192 + l = 8192 * s + l; omega) rfl)

/-- The product, added to the scaled input. -/
def pre (u : Vec Ideal S2x8192x2048 .f32) (v2 : Vec Ideal S2x8192x1024 .f32) (v3 : Vec Ideal S1x2048x1024 .f32) : Vec Ideal S2x8192x1024 .f32 :=
  addf (F := Ideal) (φ := .f32) (mulf (F := Ideal) (φ := .f32) (broadcastInDim S2x8192x1024 ![] bcast_S_S2x8192x1024 (constant (F := Ideal) S_ .f32 0x3F9837F0#32)) v2)
    (Host.dotGeneral (F := Ideal) (φ₁ := .f32) (φ₂ := .f32) dot_S2x8192x2048_S2048x1024_S2x8192x1024_2_0_01_1_n_n none u
      (shapeCast S2048x1024 v3 shapeCasts_S1x2048x1024_S2048x1024))

theorem pre_at (u : Vec Ideal S2x8192x2048 .f32) (v2 : Vec Ideal S2x8192x1024 .f32) (v3 : Vec Ideal S1x2048x1024 .f32) (s : Fin 2) (l : Fin 8192) (j : Fin 1024) :
    pre u v2 v3 (ix3 s l j) = FloatOps.ofBits (F := Ideal) .f32 0x3F9837F0#32 * v2 (ix3 s l j) + ∑ k : Fin 2048, u (ix3 s l k) * v3 (ix3 0 k j) := by
  pointwise [pre]

/-- The mean of each row. -/
def mean (h : Vec Ideal S2x8192x1024 .f32) : Vec Ideal S2x8192x1 .f32 :=
  Host.divf (F := Ideal) (φ := .f32) (broadcastInDim S2x8192x1 ![0, 1] bcast_S2x8192_S2x8192x1_0_1
      (Host.reduceAdd (F := Ideal) (φ := .f32) h (constant (F := Ideal) S_ .f32 0x00000000#32) reducesTo_S2x8192x1024_S2x8192_d2 h_S_))
    (broadcastInDim S2x8192x1 ![] bcast_S_S2x8192x1 (constant (F := Ideal) S_ .f32 0x44800000#32))

theorem mean_at (h : Vec Ideal S2x8192x1024 .f32) (s : Fin 2) (l : Fin 8192) :
    mean h (ix3 s l 0) = Ideal.div (∑ k : Fin 1024, h (ix3 s l k)) (FloatOps.ofBits (F := Ideal) .f32 0x44800000#32) := by
  pointwise [mean]

/-- A row's value in every lane. -/
def wide (u : Vec Ideal S2x8192x1 .f32) : Vec Ideal S2x8192x1024 .f32 :=
  broadcastInDim S2x8192x1024 ![0, 1, 2] bcast_S2x8192x1_S2x8192x1024_0_1_2 u

theorem wide_at (u : Vec Ideal S2x8192x1 .f32) (s : Fin 2) (l : Fin 8192) (j : Fin 1024) : wide u (ix3 s l j) = u (ix3 s l 0) := by
  pointwise [wide]
  done

/-- Each row with its mean taken off. -/
def off (h : Vec Ideal S2x8192x1024 .f32) : Vec Ideal S2x8192x1024 .f32 := subf (F := Ideal) (φ := .f32) h (wide (mean h))

theorem off_at (h : Vec Ideal S2x8192x1024 .f32) (s : Fin 2) (l : Fin 8192) (j : Fin 1024) :
    off h (ix3 s l j) = h (ix3 s l j) - Ideal.div (∑ k : Fin 1024, h (ix3 s l k)) (FloatOps.ofBits (F := Ideal) .f32 0x44800000#32) := by
  rw [← mean_at, ← wide_at (mean h) s l j]
  rfl

def root (u : Vec Ideal S2x8192x1 .f32) : Vec Ideal S2x8192x1 .f32 :=
  Host.rsqrt (F := Ideal) (φ := .f32) (addf (F := Ideal) (φ := .f32) u (broadcastInDim S2x8192x1 ![] bcast_S_S2x8192x1 (constant (F := Ideal) S_ .f32 0x3727C5AC#32)))

theorem root_at (u : Vec Ideal S2x8192x1 .f32) (s : Fin 2) (l : Fin 8192) :
    root u (ix3 s l 0) = Ideal.rsqrt (u (ix3 s l 0) + FloatOps.ofBits (F := Ideal) .f32 0x3727C5AC#32) := by
  pointwise [root]

def normed (h : Vec Ideal S2x8192x1024 .f32) : Vec Ideal S2x8192x1024 .f32 :=
  mulf (F := Ideal) (φ := .f32) (off h) (wide (root (mean (mulf (F := Ideal) (φ := .f32) (off h) (off h)))))

theorem normed_at (h : Vec Ideal S2x8192x1024 .f32) (s : Fin 2) (l : Fin 8192) (j : Fin 1024) :
    normed h (ix3 s l j) = Cert.Out.norm (fun k => h (ix3 s l k)) j := by
  show off h (ix3 s l j) * wide (root (mean (mulf (F := Ideal) (φ := .f32) (off h) (off h)))) (ix3 s l j) = _
  rw [wide_at, root_at, mean_at, off_at]
  have e : ∀ k : Fin 1024, mulf (F := Ideal) (φ := .f32) (off h) (off h) (ix3 s l k) =
      (h (ix3 s l k) - Ideal.div (∑ k : Fin 1024, h (ix3 s l k)) (FloatOps.ofBits (F := Ideal) .f32 0x44800000#32)) *
      (h (ix3 s l k) - Ideal.div (∑ k : Fin 1024, h (ix3 s l k)) (FloatOps.ofBits (F := Ideal) .f32 0x44800000#32)) := fun k => by
    show off h (ix3 s l k) * off h (ix3 s l k) = _
    rw [off_at]
  rw [Finset.sum_congr rfl (fun k _ => e k)]
  rfl

/-- The scale and the shift of the lanes, and the rows one sequence after the other. -/
def lane (v : Vec Ideal S1x1024 .f32) : Vec Ideal S2x8192x1024 .f32 :=
  broadcastInDim S2x8192x1024 ![0, 1, 2] bcast_S1x1x1024_S2x8192x1024_0_1_2 (broadcastInDim S1x1x1024 ![2] bcast_S1024_S1x1x1024_2
    (shapeCast S1024 v shapeCasts_S1x1024_S1024))

def last (n : Vec Ideal S2x8192x1024 .f32) (g s : Vec Ideal S1x1024 .f32) : Vec Ideal S16384x1024 .f32 :=
  shapeCast S16384x1024 (addf (F := Ideal) (φ := .f32) (mulf (F := Ideal) (φ := .f32) n (lane g)) (lane s)) shapeCasts_S2x8192x1024_S16384x1024

theorem last_at (n : Vec Ideal S2x8192x1024 .f32) (g s : Vec Ideal S1x1024 .f32) (r : Fin 16384) (j : Fin 1024) :
    last n g s (ix2 r j) = n (ix3 ⟨r / 8192, by omega⟩ ⟨r % 8192, by omega⟩ j) * g (ix2 0 j) + s (ix2 0 j) := by
  pointwise [last, lane]

/-- A sum over the columns side by side is the sum over the first and the sum over the second. -/
theorem sum_split (f : Fin 2048 → EReal) : ∑ k, f k = (∑ k : Fin 1536, f ⟨k, by omega⟩) + ∑ k : Fin 512, f ⟨1536 + k, by omega⟩ :=
  Fin.sum_univ_add (a := 1536) (b := 512) f

variable (m : (ℓ : Loc nD τ sig) → Buf (Elt Ideal) ℓ) (c : Dev nD)

/-- The call's arguments in memory `m`. -/
def argsAt : Cert.Out.Args :=
  Cert.Out.args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem res_eq : res_main_v32 m c = last (normed (pre (both (m ((c : Thread nD τ).loc main_arg0)) (m ((c : Thread nD τ).loc main_arg1)))
    (m ((c : Thread nD τ).loc main_arg2)) (m ((c : Thread nD τ).loc main_arg3)))) (m ((c : Thread nD τ).loc main_arg4)) (m ((c : Thread nD τ).loc main_arg5)) := by
  rfl

theorem row_at (v0 : Vec Ideal S16384x1536 .f32) (v1 : Vec Ideal S16384x512 .f32) (v2 : Vec Ideal S2x8192x1024 .f32) (v3 : Vec Ideal S1x2048x1024 .f32)
    (v4 v5 : Vec Ideal S1x1024 .f32) (r : Fin 16384) (j : Fin 1024) :
    pre (both v0 v1) v2 v3 (ix3 ⟨r / 8192, by omega⟩ ⟨r % 8192, by omega⟩ j) = Cert.Out.row (Cert.Out.args v0 v1 v2 v3 v4 v5) r j := by
  have hr : 8192 * ((r : ℕ) / 8192) + (r : ℕ) % 8192 = r := Nat.div_add_mod _ _
  rw [pre_at, sum_split]
  unfold Cert.Out.row
  refine congrArg₂ (· + ·) (congrArg (_ * ·) ?_) (congrArg₂ (· + ·) (Finset.sum_congr rfl fun k _ => congrArg₂ (· * ·) ?_ ?_)
    (Finset.sum_congr rfl fun k _ => congrArg₂ (· * ·) ?_ ?_))
  · exact (Cert.Proj.nat3_at v2 ⟨r / 8192, by omega⟩ ⟨r % 8192, by omega⟩ j _ _ _ rfl rfl rfl).symm
  · refine (both_at _ _ _ _ _).trans ((dif_pos (show (k : ℕ) < 1536 from k.2)).trans ?_)
    exact congrArg v0 (Cert.Spec.idx2_of _ _ _ hr rfl)
  · exact (Cert.Proj.nat3_at v3 0 ⟨k, by omega⟩ j _ _ _ rfl rfl rfl).symm
  · refine (both_at _ _ _ _ _).trans ((dif_neg (show ¬1536 + (k : ℕ) < 1536 by omega)).trans ?_)
    exact congrArg v1 (Cert.Spec.idx2_of _ _ _ hr (by show 1536 + (k : ℕ) - 1536 = k; omega))
  · exact (Cert.Proj.nat3_at v3 0 ⟨1536 + k, by omega⟩ j _ _ _ rfl rfl rfl).symm

theorem res_at (r : Fin 16384) (j : Fin 1024) : res_main_v32 m c (ix2 r j) = Cert.Out.out (argsAt m c) r j := by
  rw [res_eq, last_at, normed_at]
  unfold Cert.Out.out
  refine congrArg₂ (· + ·) (congrArg₂ (· * ·) (congrArg (fun f => Cert.Out.norm f j) (funext fun k => ?_)) rfl) rfl
  exact row_at _ _ _ _ _ _ r k

end Cert.Reference3Ideal.Out
-- ==== Proof.SampBody.lean ====
/- One grid point of the sample group's projection, as for the prompt. -/
module

public import proofs.«01_k».proof.Proof.ProjBody
public import proofs.«01_k».proof.Proof.Gen.Kernel4Ideal.Skeleton

@[expose] public section

set_option maxRecDepth 16384

noncomputable section

namespace Cert.Kernel4Ideal.Proj

open Idealize.ShloMosaic Idealize.SL.Sem Cert.Kernel4Ideal Cert.Kernel4Ideal.Gen Idealize.ShloMosaic.Pointwise

theorem pay1_at (v : Vec Ideal S512x1024 .f32) (a : Fin 512) (k : Fin 1024) : k0_pay1 v (ix2 a k) = v (ix2 a k) := by
  pointwise [k0_pay1]

theorem pay2_at (x : Vec Ideal S512x1024 .bf16) (w : Vec Ideal S1024x1024 .bf16) (a : Fin 512) (b : Fin 1024) :
    k0_pay2 x w (ix2 a b) = ∑ k : Fin 1024, x (ix2 a k) * w (ix2 k b) := by
  pointwise [k0_pay2]

/-- The rotated block. -/
theorem pay3_at (x : Vec Ideal S512x1024 .bf16) (w : Vec Ideal S1024x1024 .bf16) (c s : Vec Ideal S512x128 .f32) (a : Fin 512) (b : Fin 1024) :
    k0_pay3 x w c s (ix2 a b) = k0_pay2 x w (ix2 a b) * c (ix2 a ⟨b % 128, by omega⟩) +
      (if (b : ℕ) % 64 < 32 then k0_pay2 x w (ix2 a ⟨(b + 1024 - 992) % 1024, by omega⟩)
        else k0_pay2 x w (ix2 a ⟨(b + 1024 - 32) % 1024, by omega⟩)) * s (ix2 a ⟨b % 128, by omega⟩) := by
  unfold k0_pay3
  generalize k0_pay2 x w = y
  pointwise []
  rw [Cert.Kernel2Ideal.Proj.half_mask b]
  refine congr (congrArg _ (congrArg _ (Cert.Kernel2Ideal.Proj.tile_at (fun k => c (ix2 a k)) b))) (congr (congrArg _ ?_) (Cert.Kernel2Ideal.Proj.tile_at (fun k => s (ix2 a k)) b))
  by_cases h : (b : ℕ) % 64 < 32
  · rw [if_pos h, if_pos h]
    rfl
  · rw [if_neg h, if_neg h]
    rfl

end Cert.Kernel4Ideal.Proj
-- ==== Proof.SampBlocks.lean ====
/- The arrays that the host prepares for the sample group's projection, and the blocks each grid point is given. -/
module

public import proofs.«01_k».proof.Proof.SampBody
public import proofs.«01_k».proof.Proof.Gen.Kernel4Ideal.Frame.Runs
public import Idealize.ShloMosaic.Lib.StableHlo.RunRead

@[expose] public section

set_option maxRecDepth 16384

noncomputable section

namespace Cert.Kernel4Ideal.Proj

open Idealize.ShloMosaic Idealize.ShloMosaic.TcCoe Idealize.SL.Sem Cert.Kernel4Ideal Cert.Kernel4Ideal.Gen Idealize.ShloMosaic.Pointwise

variable (m : (ℓ : Loc nD τ sig) → Buf (Elt Ideal) ℓ) (c : Dev nD)

/-- The call's arguments in memory `m`. -/
def argsOf : Cert.Proj.Args :=
  Cert.Proj.argsS (m ((c : Thread nD τ).loc main_arg0)) (m ((c : Thread nD τ).loc main_arg1))

/-- The rows' positions. -/
def positions : IVec S512 32 :=
  shapeCast S512 (broadcastInDim S128x4 ![0, 1] bcast_S1x4_S128x4_0_1 (shapeCast S1x4
    (addi (broadcastInDim S4 ![] bcast_S_S4 (constantI S_ 32 8192#32)) (iotaInDim S4 32 0)) shapeCasts_S4_S1x4)) shapeCasts_S128x4_S512

theorem pos_add : ∀ p : Fin 4, IntOp.addi 8192#32 (BitVec.ofNat 32 (p : ℕ)) = BitVec.ofNat 32 (8192 + p) := by decide +kernel

theorem positions_at (r : Fin 512) : positions (ix1 r) = BitVec.ofNat 32 (8192 + r % 4) := by
  pointwise [positions]
  exact pos_add ⟨r % 4, by omega⟩

/-- The angles, as the host computes them. -/
def angles : Vec Ideal S512x32 .f32 :=
  mulf (broadcastInDim S512x32 ![0, 1] bcast_S512x1_S512x32_0_1 (broadcastInDim S512x1 ![0] bcast_S512_S512x1_0
      (sitofp (F := Ideal) .f32 positions)))
    (broadcastInDim S512x32 ![0, 1] bcast_S1x32_S512x32_0_1 (broadcastInDim S1x32 ![1] bcast_S32_S1x32_1
      (Host.powf (broadcastInDim S32 ![] bcast_S_S32 (constant (F := Ideal) S_ .f32 0x461C4000#32) : Vec Ideal S32 .f32)
        (Host.divf (Host.negf (sitofp (F := Ideal) .f32 (iotaInDim S32 32 0)))
          (broadcastInDim S32 ![] bcast_S_S32 (constant (F := Ideal) S_ .f32 0x42000000#32))))))

theorem angles_at (p : Fin 512) (f : Fin 32) : angles (ix2 p f) = Cert.Proj.ang (8192 + p % 4) f := by
  pointwise [angles]
  rw [positions_at]
  rfl

/-- Two tables of half a head side by side, twice over. -/
def lanes (x y : Vec Ideal S512x32 .f32) : Vec Ideal S512x128 .f32 :=
  shapeCast S512x128 (broadcastInDim S1x512x2x64 ![0, 1, 2, 3] bcast_S1x512x1x64_S1x512x2x64_0_1_2_3
    (shapeCast S1x512x1x64 (concatenate S512x64 1 [⟨S512x32, x⟩, ⟨S512x32, y⟩] concatenates_S512x32_S512x32_S512x64_d1)
      shapeCasts_S512x64_S1x512x1x64)) shapeCasts_S1x512x2x64_S512x128

theorem lanes_at (x y : Vec Ideal S512x32 .f32) (p : Fin 512) (e : Fin 128) :
    lanes x y (ix2 p e) = if (e : ℕ) % 64 < 32 then x (ix2 p ⟨e % 32, by omega⟩) else y (ix2 p ⟨e % 32, by omega⟩) := by
  pointwise [lanes]
  by_cases h : (e : ℕ) % 64 < 32
  · rw [if_pos h, dif_pos h]
    exact congrArg x (Cert.Spec.idx2_of _ _ _ rfl (by show (e : ℕ) % 64 = e % 32; omega))
  · rw [if_neg h, dif_neg h]
    exact congrArg y (Cert.Spec.idx2_of _ _ _ rfl (by show (e : ℕ) % 64 - 32 = e % 32; omega))

theorem V23 (p : Fin 512) (e : Fin 128) : V m c main_v23 (ix2 p e) = Cert.Proj.cosT (8192 + p % 4) e := by
  have h : V m c main_v23 = lanes (Host.cos (F := Ideal) (φ := .f32) angles) (Host.cos (F := Ideal) (φ := .f32) angles) := by
    after_reads_simp
    rfl
  rw [h, lanes_at]
  pointwise []
  rw [angles_at, ite_self]
  rfl

theorem V28 (p : Fin 512) (e : Fin 128) : V m c main_v28 (ix2 p e) = Cert.Proj.sinT (8192 + p % 4) e := by
  have h : V m c main_v28 = lanes (Host.negf (F := Ideal) (φ := .f32) (Host.sin (F := Ideal) (φ := .f32) angles)) (Host.sin (F := Ideal) (φ := .f32) angles) := by
    after_reads_simp
    rfl
  rw [h, lanes_at]
  pointwise []
  rw [angles_at]
  rfl

/-- The sample's rows, one sequence after the other. -/
def rows (v : Vec Ideal S128x4x1024 .f32) : Vec Ideal S512x1024 .f32 := shapeCast S512x1024 v shapeCasts_S128x4x1024_S512x1024

theorem rows_at (v : Vec Ideal S128x4x1024 .f32) (r : Fin 512) (k : Fin 1024) :
    rows v (ix2 r k) = v (ix3 ⟨r / 4, by omega⟩ ⟨r % 4, by omega⟩ k) := by
  pointwise [rows]
  done

theorem V29 (r : Fin 512) (k : Fin 1024) : V m c main_v29 (ix2 r k) = (argsOf m c).x r k := by
  have h : V m c main_v29 = rows (m ((c : Thread nD τ).loc main_arg0)) := by
    after_reads_simp
    rfl
  rw [h, rows_at]
  exact (Cert.Proj.nat3_at _ ⟨r / 4, by omega⟩ ⟨r % 4, by omega⟩ k _ _ _ rfl rfl rfl).symm

/-- The weight's rows. -/
def flat (v : Vec Ideal S1x1024x5656 .f32) : Vec Ideal S1024x5656 .f32 := shapeCast S1024x5656 v shapeCasts_S1x1024x5656_S1024x5656

theorem flat_at (v : Vec Ideal S1x1024x5656 .f32) (k : Fin 1024) (j : Fin 5656) : flat v (ix2 k j) = v (ix3 0 k j) := by
  pointwise [flat]
  done

/-- The weight's columns in the padded order. -/
def cols (w : Vec Ideal S1024x5656 .f32) : Vec Ideal S1024x6144 .f32 :=
  concatenate S1024x6144 1
      [⟨S1024x4096, extractStridedSlice S1024x4096 ![0, 0] w slices_S1024x5656_S1024x4096_0_0⟩,
       ⟨S1024x1536, extractStridedSlice S1024x1536 ![0, 4120] w slices_S1024x5656_S1024x1536_0_4120⟩,
       ⟨S1024x512, pad S1024x512 ![0, 0] ![0, 488] ![0, 0] (extractStridedSlice S1024x24 ![0, 4096] w slices_S1024x5656_S1024x24_0_4096)
          (sitofp (F := Ideal) .f32 (constantI S_ 32 0#32)) pads_S1024x24_S1024x512_000_04880 h_S_⟩]
      concatenates_S1024x4096_S1024x1536_S1024x512_S1024x6144_d1

theorem cols_at (w : Vec Ideal S1024x5656 .f32) (k : Fin 1024) (j : Fin 6144) :
    cols w (ix2 k j) = if h : (j : ℕ) < 5656 then w (ix2 k ⟨Cert.Proj.col j, by unfold Cert.Proj.col; split_ifs <;> omega⟩) else 0 := by
  pointwise [cols]
  by_cases h0 : (j : ℕ) < 4096
  · rw [dif_pos h0, dif_pos (show (j : ℕ) < 5656 by omega)]
    exact congrArg w (Cert.Spec.idx2_of _ _ _ rfl (by show (j : ℕ) = Cert.Proj.col j; unfold Cert.Proj.col; rw [if_pos h0]))
  rw [dif_neg h0]
  by_cases h1 : (j : ℕ) < 5632
  · rw [dif_pos (show (j : ℕ) - 4096 < 1536 by omega), dif_pos (show (j : ℕ) < 5656 by omega)]
    exact congrArg w (Cert.Spec.idx2_of _ _ _ rfl (by
      show 4120 + ((j : ℕ) - 4096) = Cert.Proj.col j; unfold Cert.Proj.col; rw [if_neg h0, if_pos h1]; omega))
  rw [dif_neg (show ¬(j : ℕ) - 4096 < 1536 by omega)]
  by_cases h2 : (j : ℕ) < 5656
  · refine (dif_pos (show (j : ℕ) - 4096 - 1536 < 24 by omega)).trans (Eq.trans ?_ (dif_pos h2).symm)
    exact congrArg w (Cert.Spec.idx2_of _ _ _ rfl (by
      show 4096 + ((j : ℕ) - 4096 - 1536) = Cert.Proj.col j; unfold Cert.Proj.col; rw [if_neg h0, if_neg h1]; omega))
  · refine (dif_neg (show ¬(j : ℕ) - 4096 - 1536 < 24 by omega)).trans (Eq.trans ?_ (dif_neg h2).symm)
    simp [FloatOps.sitofp]

theorem V36 (k : Fin 1024) (j : Fin 6144) : V m c main_v36 (ix2 k j) = (argsOf m c).w k j := by
  have h : V m c main_v36 = truncf (F := Ideal) .bf16 (cols (flat (m ((c : Thread nD τ).loc main_arg1)))) bitsLt_bf16_f32 := by
    after_reads_simp
    rfl
  rw [h]
  show cols (flat (m ((c : Thread nD τ).loc main_arg1))) (ix2 k j) = if (j : ℕ) < 5656 then Cert.Proj.nat3 _ 0 k (Cert.Proj.col j) else 0
  rw [cols_at]
  by_cases hj : (j : ℕ) < 5656
  · rw [dif_pos hj, if_pos hj, flat_at]
    exact (Cert.Proj.nat3_at _ 0 k _ _ _ _ rfl rfl rfl).symm
  · rw [dif_neg hj, if_neg hj]

theorem index_facts : ∀ t : Fin cfg0.N, (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, _)

/-- The rows of point `t`. -/
theorem blk0 (t : Fin cfg0.N) (a : Fin 512) (k : Fin 1024) : iblk m c 0 t (ix2 a k) = (argsOf m c).x a k := by
  obtain ⟨⟨a0, b0⟩, -, -, -⟩ := index_facts t
  refine Eq.trans ?_ (V29 m c a k)
  unfold iblk
  rw [View.read_apply]
  show V m c main_v29 _ = _
  congr 1
  exact Cert.Spec.idx2_of _ _ _ (show win0_0.index t (0 : Fin 2) * 512 + 1 * (a : ℕ) = a by omega)
    (show win0_0.index t (1 : Fin 2) * 1024 + 1 * (k : ℕ) = k by omega)

/-- Its columns. -/
theorem blk1 (t : Fin cfg0.N) (k b : Fin 1024) : iblk m c 1 t (ix2 k b) = (argsOf m c).w k (1024 * t.val + b) := by
  have hN : t.val < 6 := lt_of_lt_of_eq t.isLt (show cfg0.N = 6 from N_0)
  obtain ⟨-, ⟨a0, b0⟩, -, -⟩ := index_facts t
  refine Eq.trans ?_ (V36 m c k ⟨1024 * t.val + b, by omega⟩)
  unfold iblk
  rw [View.read_apply]
  show V m c main_v36 _ = _
  congr 1
  exact Cert.Spec.idx2_of _ _ _ (show win0_1.index t (0 : Fin 2) * 1024 + 1 * (k : ℕ) = k by omega)
    (show win0_1.index t (1 : Fin 2) * 1024 + 1 * (b : ℕ) = 1024 * t.val + b by omega)

/-- Its rows of the tables. -/
theorem blk2 (t : Fin cfg0.N) (a : Fin 512) (e : Fin 128) : iblk m c 2 t (ix2 a e) = Cert.Proj.cosT (8192 + a % 4) e := by
  obtain ⟨-, -, ⟨a0, b0⟩, -⟩ := index_facts t
  refine Eq.trans ?_ (V23 m c a e)
  unfold iblk
  rw [View.read_apply]
  show V m c main_v23 _ = _
  congr 1
  exact Cert.Spec.idx2_of _ _ _ (show win0_2.index t (0 : Fin 2) * 512 + 1 * (a : ℕ) = a by omega)
    (show win0_2.index t (1 : Fin 2) * 128 + 1 * (e : ℕ) = e by omega)

theorem blk3 (t : Fin cfg0.N) (a : Fin 512) (e : Fin 128) : iblk m c 3 t (ix2 a e) = Cert.Proj.sinT (8192 + a % 4) e := by
  obtain ⟨-, -, -, ⟨a0, b0⟩⟩ := index_facts t
  refine Eq.trans ?_ (V28 m c a e)
  unfold iblk
  rw [View.read_apply]
  show V m c main_v28 _ = _
  congr 1
  exact Cert.Spec.idx2_of _ _ _ (show win0_3.index t (0 : Fin 2) * 512 + 1 * (a : ℕ) = a by omega)
    (show win0_3.index t (1 : Fin 2) * 128 + 1 * (e : ℕ) = e by omega)

end Cert.Kernel4Ideal.Proj
-- ==== Proof.SampRuns.lean ====
/- The sample group's projection call's result is the specification's. -/
module

public import proofs.«01_k».proof.Proof.SampBlocks
public import proofs.«01_k».proof.Proof.ProjRuns
public import proofs.«01_k».proof.Proof.Gen.Kernel4Ideal.Value
public import Idealize.ShloMosaic.Lib.Pipeline.ValueKit
public import Idealize.ShloMosaic.Lib.Pipeline.ReadBack

@[expose] public section

set_option maxRecDepth 512

noncomputable section

namespace Cert.Kernel4Ideal.Proj

open Idealize.ShloMosaic Idealize.ShloMosaic.TcCoe Idealize.SL.Sem Cert.Kernel4Ideal Cert.Kernel4Ideal.Gen Cert.Kernel4Ideal.Value Idealize.ShloMosaic.Pointwise

variable (m : (ℓ : Loc nD τ sig) → Buf (Elt Ideal) ℓ) (c : Dev nD)

/-- A row block's first point. -/
theorem outs_A (t : Fin cfg0.N) (h0 : t.val % 6 = 0) (h1 : ¬t.val % 6 = 4) (h2 : t.val % 6 ≠ 4) :
    outsAt0 m c t.val t.isLt = (k0_pay2 (k0_pay1 (iblk m c 0 t)) (iblk m c 1 t), k0_pay1 (iblk m c 0 t)) := by
  rw [outsAt0_A m c t h0 h1 h2]
  frame_out

/-- A later point, which reads the rows that the first one kept. -/
theorem outs_B (t : Fin cfg0.N) (h0 : ¬t.val % 6 = 0) (h1 : ¬t.val % 6 = 4) (h2 : t.val % 6 ≠ 4) :
    outsAt0 m c t.val t.isLt = (k0_pay2 (outsAt0 m c (t.val - 1) (Nat.lt_of_le_of_lt (Nat.sub_le _ _) t.isLt)).2 (iblk m c 1 t),
      (outsAt0 m c (t.val - 1) (Nat.lt_of_le_of_lt (Nat.sub_le _ _) t.isLt)).2) := by
  rw [outsAt0_B m c t h0 h1 h2]
  frame_out
  rw [read_unread_whole]
  rfl

/-- The point of the queries and keys. -/
theorem outs_C (t : Fin cfg0.N) (h0 : ¬t.val % 6 = 0) (h1 : t.val % 6 = 4) (h2 : ¬t.val % 6 ≠ 4) :
    outsAt0 m c t.val t.isLt = (k0_pay3 (outsAt0 m c (t.val - 1) (Nat.lt_of_le_of_lt (Nat.sub_le _ _) t.isLt)).2 (iblk m c 1 t) (iblk m c 2 t) (iblk m c 3 t),
      (outsAt0 m c (t.val - 1) (Nat.lt_of_le_of_lt (Nat.sub_le _ _) t.isLt)).2) := by
  rw [outsAt0_C m c t h0 h1 h2]
  frame_out
  rw [read_unread_whole]
  rfl

/-- What holds after point `n`: the kept rows are the row block's, and the block written is the specification's. -/
def Inv (n : ℕ) (s : Vec Ideal S512x1024 .f32 × Vec Ideal S512x1024 .bf16) : Prop :=
  (∀ (a : Fin 512) (k : Fin 1024), s.2 (ix2 a k) = (argsOf m c).x a k) ∧
    ∀ (a : Fin 512) (b : Fin 1024), s.1 (ix2 a b) = Cert.Proj.outS (argsOf m c) a (1024 * (n % 6) + b)

/-- The product of kept rows with a column block. -/
theorem prod_at (t : Fin cfg0.N) (s : Vec Ideal S512x1024 .bf16) (hs : ∀ (a : Fin 512) (k : Fin 1024), s (ix2 a k) = (argsOf m c).x a k)
    (a : Fin 512) (b : Fin 1024) : k0_pay2 s (iblk m c 1 t) (ix2 a b) = Cert.Proj.acc (argsOf m c) a (1024 * (t.val % 6) + b) := by
  rw [pay2_at]
  unfold Cert.Proj.acc
  exact Finset.sum_congr rfl (fun k _ => congrArg₂ (· * ·) (hs a k) ((blk1 m c t k b).trans (congrArg _ (by have hN : t.val < 6 := lt_of_lt_of_eq t.isLt (show cfg0.N = 6 from N_0); omega))))

theorem plain_at (t : Fin cfg0.N) (s : Vec Ideal S512x1024 .bf16) (hs : ∀ (a : Fin 512) (k : Fin 1024), s (ix2 a k) = (argsOf m c).x a k)
    (h1 : ¬t.val % 6 = 4) : Inv m c t.val (k0_pay2 s (iblk m c 1 t), s) := by
  refine ⟨hs, fun a b => (prod_at m c t s hs a b).trans ?_⟩
  unfold Cert.Proj.outS Cert.Proj.outAt
  rw [if_neg (by omega)]

theorem turned_at (t : Fin cfg0.N) (s : Vec Ideal S512x1024 .bf16) (hs : ∀ (a : Fin 512) (k : Fin 1024), s (ix2 a k) = (argsOf m c).x a k)
    (h1 : t.val % 6 = 4) : Inv m c t.val (k0_pay3 s (iblk m c 1 t) (iblk m c 2 t) (iblk m c 3 t), s) := by
  refine ⟨hs, fun a b => ?_⟩
  show k0_pay3 s (iblk m c 1 t) (iblk m c 2 t) (iblk m c 3 t) (ix2 a b) = _
  rw [pay3_at, blk2, blk3, prod_at m c t s hs, prod_at m c t s hs, prod_at m c t s hs]
  unfold Cert.Proj.outS Cert.Proj.outAt
  rw [if_pos (show 4096 ≤ 1024 * (t.val % 6) + (b : ℕ) ∧ 1024 * (t.val % 6) + (b : ℕ) < 5120 by omega), ← Cert.Kernel2Ideal.Proj.cosT_mod _ (t.val % 6), ← Cert.Kernel2Ideal.Proj.sinT_mod _ (t.val % 6)]
  refine congrArg₂ (· + ·) rfl (congrArg₂ (· * ·) ?_ rfl)
  unfold Cert.Proj.partner
  by_cases h : (b : ℕ) % 64 < 32
  · rw [if_pos h, if_pos (by omega)]
    exact congrArg _ (by show 1024 * (t.val % 6) + ((b : ℕ) + 1024 - 992) % 1024 = _; omega)
  · rw [if_neg h, if_neg (by omega)]
    exact congrArg _ (by show 1024 * (t.val % 6) + ((b : ℕ) + 1024 - 32) % 1024 = _; omega)

theorem inv_A (t : Fin cfg0.N) (h0 : t.val % 6 = 0) : Inv m c t.val (outsAt0 m c t.val t.isLt) := by
  rw [outs_A m c t h0 (by omega) (by omega)]
  exact plain_at m c t _ (fun a k => (pay1_at _ a k).trans (blk0 m c t a k)) (by omega)

theorem inv_all : ∀ (n : ℕ) (hn : n < cfg0.N), Inv m c n (outsAt0 m c n hn)
  | 0, hn => inv_A m c ⟨0, hn⟩ rfl
  | n + 1, hn => by
    by_cases h : (n + 1) % 6 = 0
    · exact inv_A m c ⟨n + 1, hn⟩ h
    have hs : ∀ (a : Fin 512) (k : Fin 1024), (outsAt0 m c n (by omega)).2 (ix2 a k) = (argsOf m c).x a k := fun a k => (inv_all n (by omega)).1 a k
    by_cases h1 : (n + 1) % 6 = 4
    · exact (outs_C m c ⟨n + 1, hn⟩ h h1 (fun x => x h1)).symm ▸ turned_at m c ⟨n + 1, hn⟩ _ hs h1
    · exact (outs_B m c ⟨n + 1, hn⟩ h h1 h1).symm ▸ plain_at m c ⟨n + 1, hn⟩ _ hs h1

/-- The result. -/
theorem G4_at (r : Fin 512) (j : Fin 6144) : G4 m c (ix2 r j) = Cert.Proj.outS (argsOf m c) r j := by
  have hN : cfg0.N = 6 := N_0
  have hp : pt4Of (ix2 r j) = (j : ℕ) / 1024 := by
    show 6 * ((r : ℕ) / 512 - 0) + 1 * ((j : ℕ) / 1024 - 0) = _
    omega
  have hl : loc4Of (ix2 r j) = ix2 r ⟨j % 1024, by omega⟩ := by
    funext a
    apply Fin.ext
    fin_cases a
    · exact Nat.mod_eq_of_lt r.2
    · rfl
  unfold G4
  rw [dif_pos (by rw [hp]; omega), ← outsAt0_sweep m c _ (by rw [hp]; omega), hl]
  refine ((inv_all m c _ _).2 _ _).trans ?_
  rw [hp]
  exact congrArg _ (by show 1024 * ((j : ℕ) / 1024 % 6) + (j : ℕ) % 1024 = j; omega)

end Cert.Kernel4Ideal.Proj
-- ==== Proof.SampRef.lean ====
/- The reference's projection of the sample group is the specification's. -/
module

public import proofs.«01_k».proof.Proof.ProjRef
public import proofs.«01_k».proof.Proof.Gen.Reference4Ideal.Run

@[expose] public section

set_option maxRecDepth 512

noncomputable section

namespace Cert.Reference4Ideal.Proj

open Idealize.ShloMosaic Idealize.ShloMosaic.TcCoe Idealize.SL.Sem Cert.Reference4Ideal Cert.Reference4Ideal.Gen Cert.Reference4Ideal.Value Idealize.ShloMosaic.Pointwise

/-- The product. -/
def proj (v0 : Vec Ideal S128x4x1024 .f32) (v1 : Vec Ideal S1x1024x5656 .f32) : Vec Ideal S128x4x5656 .f32 :=
  Host.dotGeneral (F := Ideal) (φ₁ := .f32) (φ₂ := .f32) dot_S128x4x1024_S1024x5656_S128x4x5656_2_0_01_1_n_n none v0 (shapeCast S1024x5656 v1 shapeCasts_S1x1024x5656_S1024x5656)

theorem proj_at (v0 : Vec Ideal S128x4x1024 .f32) (v1 : Vec Ideal S1x1024x5656 .f32) (b : Fin 128) (l : Fin 4) (j : Fin 5656) :
    proj v0 v1 (ix3 b l j) = ∑ k : Fin 1024, v0 (ix3 b l k) * v1 (ix3 0 k j) := by
  pointwise [proj]

/-- The steps' positions. -/
def positions : IVec S4 32 := addi (broadcastInDim S4 ![] bcast_S_S4 (constantI S_ 32 8192#32)) (iotaInDim S4 32 0)

theorem positions_at (p : Fin 4) : positions (ix1 p) = BitVec.ofNat 32 (8192 + p) := by
  pointwise [positions]
  exact (by decide +kernel : ∀ p : Fin 4, IntOp.addi 8192#32 (BitVec.ofNat 32 (p : ℕ)) = BitVec.ofNat 32 (8192 + p)) p

/-- The angles. -/
def angles : Vec Ideal S4x32 .f32 :=
  mulf (broadcastInDim S4x32 ![0, 1] bcast_S4x1_S4x32_0_1 (broadcastInDim S4x1 ![0] bcast_S4_S4x1_0
      (sitofp (F := Ideal) .f32 positions)))
    (broadcastInDim S4x32 ![0, 1] bcast_S1x32_S4x32_0_1 (broadcastInDim S1x32 ![1] bcast_S32_S1x32_1
      (Host.powf (broadcastInDim S32 ![] bcast_S_S32 (constant (F := Ideal) S_ .f32 0x461C4000#32) : Vec Ideal S32 .f32)
        (Host.divf (Host.negf (sitofp (F := Ideal) .f32 (iotaInDim S32 32 0)))
          (broadcastInDim S32 ![] bcast_S_S32 (constant (F := Ideal) S_ .f32 0x42000000#32))))))

theorem angles_at (p : Fin 4) (f : Fin 32) : angles (ix2 p f) = Cert.Proj.ang (8192 + p) f := by
  pointwise [angles]
  rw [positions_at]
  rfl

/-- A table of the angles for every sequence and head. -/
def wide (v : Vec Ideal S4x32 .f32) : Vec Ideal S128x4x8x32 .f32 :=
  broadcastInDim S128x4x8x32 ![0, 1, 2, 3] bcast_S1x4x1x32_S128x4x8x32_0_1_2_3 (broadcastInDim S1x4x1x32 ![1, 3] bcast_S4x32_S1x4x1x32_1_3 v)

/-- The rotation. -/
def turn (t : Vec Ideal S128x4x8x64 .f32) : Vec Ideal S128x4x8x64 .f32 :=
  concatenate S128x4x8x64 3
    [⟨S128x4x8x32, subf (F := Ideal) (φ := .f32) (mulf (F := Ideal) (φ := .f32) (extractStridedSlice S128x4x8x32 ![0, 0, 0, 0] t slices_S128x4x8x64_S128x4x8x32_0_0_0_0) (wide (Host.cos (F := Ideal) (φ := .f32) angles)))
      (mulf (F := Ideal) (φ := .f32) (extractStridedSlice S128x4x8x32 ![0, 0, 0, 32] t slices_S128x4x8x64_S128x4x8x32_0_0_0_32) (wide (Host.sin (F := Ideal) (φ := .f32) angles)))⟩,
     ⟨S128x4x8x32, addf (F := Ideal) (φ := .f32) (mulf (F := Ideal) (φ := .f32) (extractStridedSlice S128x4x8x32 ![0, 0, 0, 32] t slices_S128x4x8x64_S128x4x8x32_0_0_0_32) (wide (Host.cos (F := Ideal) (φ := .f32) angles)))
      (mulf (F := Ideal) (φ := .f32) (extractStridedSlice S128x4x8x32 ![0, 0, 0, 0] t slices_S128x4x8x64_S128x4x8x32_0_0_0_0) (wide (Host.sin (F := Ideal) (φ := .f32) angles)))⟩]
    concatenates_S128x4x8x32_S128x4x8x32_S128x4x8x64_d3

theorem turn_at (t : Vec Ideal S128x4x8x64 .f32) (b : Fin 128) (l : Fin 4) (h : Fin 8) (d : Fin 64) :
    turn t (ix4 b l h d) = if hd : (d : ℕ) < 32 then t (ix4 b l h d) * Cert.Proj.cosT (8192 + l) d + t (ix4 b l h ⟨d + 32, by omega⟩) * Cert.Proj.sinT (8192 + l) d
      else t (ix4 b l h d) * Cert.Proj.cosT (8192 + l) d + t (ix4 b l h ⟨d - 32, by omega⟩) * Cert.Proj.sinT (8192 + l) d := by
  pointwise [turn, wide]
  by_cases hd : (d : ℕ) < 32
  · rw [dif_pos hd, dif_pos hd, angles_at]
    unfold Cert.Proj.cosT Cert.Proj.sinT
    rw [if_pos (show (d : ℕ) % 64 < 32 by omega), show (d : ℕ) % 32 = d by omega, sub_eq_add_neg, mul_neg]
    exact congrArg₂ (· + ·) rfl (congrArg (fun i => -(t i * _)) (Cert.Reference2Ideal.Proj.idx4_of _ _ _ _ _ rfl rfl rfl (Nat.add_comm 32 d)))
  · rw [dif_neg hd, dif_neg hd, angles_at]
    unfold Cert.Proj.cosT Cert.Proj.sinT
    rw [if_neg (show ¬(d : ℕ) % 64 < 32 by omega), show (d : ℕ) % 32 = d - 32 by omega]
    exact congrArg₂ (· + ·) (congrArg (fun i => t i * _) (Cert.Reference2Ideal.Proj.idx4_of _ _ _ _ _ rfl rfl rfl (by show 32 + ((d : ℕ) - 32) = d; omega))) rfl

/-- One of the projection's three head arrays. -/
def heads (p : Vec Ideal S128x4x5656 .f32) : Vec Ideal S128x4x3x8x64 .f32 :=
  shapeCast S128x4x3x8x64 (extractStridedSlice S128x4x1536 ![0, 0, 4120] p slices_S128x4x5656_S128x4x1536_0_0_4120) shapeCasts_S128x4x1536_S128x4x3x8x64

def headsQ (p : Vec Ideal S128x4x5656 .f32) : Vec Ideal S128x4x8x64 .f32 :=
  shapeCast S128x4x8x64 (extractStridedSlice S128x4x1x8x64 ![0, 0, 0, 0, 0] (heads p) slices_S128x4x3x8x64_S128x4x1x8x64_0_0_0_0_0) shapeCasts_S128x4x1x8x64_S128x4x8x64
def headsK (p : Vec Ideal S128x4x5656 .f32) : Vec Ideal S128x4x8x64 .f32 :=
  shapeCast S128x4x8x64 (extractStridedSlice S128x4x1x8x64 ![0, 0, 1, 0, 0] (heads p) slices_S128x4x3x8x64_S128x4x1x8x64_0_0_1_0_0) shapeCasts_S128x4x1x8x64_S128x4x8x64
def headsV (p : Vec Ideal S128x4x5656 .f32) : Vec Ideal S128x4x8x64 .f32 :=
  shapeCast S128x4x8x64 (extractStridedSlice S128x4x1x8x64 ![0, 0, 2, 0, 0] (heads p) slices_S128x4x3x8x64_S128x4x1x8x64_0_0_2_0_0) shapeCasts_S128x4x1x8x64_S128x4x8x64

theorem headsQ_at (p : Vec Ideal S128x4x5656 .f32) (b : Fin 128) (l : Fin 4) (h : Fin 8) (d : Fin 64) :
    headsQ p (ix4 b l h d) = p (ix3 b l ⟨4120 + (64 * h + d), by omega⟩) := by
  pointwise [headsQ, heads]
  exact congrArg p (Cert.Reference2Ideal.Proj.idx3_of _ _ _ _ rfl rfl (by show 4120 + ((h : ℕ) * 64 + d) = 4120 + (64 * h + d); omega))

theorem headsK_at (p : Vec Ideal S128x4x5656 .f32) (b : Fin 128) (l : Fin 4) (h : Fin 8) (d : Fin 64) :
    headsK p (ix4 b l h d) = p (ix3 b l ⟨4632 + (64 * h + d), by omega⟩) := by
  pointwise [headsK, heads]
  exact congrArg p (Cert.Reference2Ideal.Proj.idx3_of _ _ _ _ rfl rfl (by show 4120 + (512 + (h : ℕ) * 64 + d) = 4632 + (64 * h + d); omega))

theorem headsV_at (p : Vec Ideal S128x4x5656 .f32) (b : Fin 128) (l : Fin 4) (h : Fin 8) (d : Fin 64) :
    headsV p (ix4 b l h d) = p (ix3 b l ⟨5144 + (64 * h + d), by omega⟩) := by
  pointwise [headsV, heads]
  exact congrArg p (Cert.Reference2Ideal.Proj.idx3_of _ _ _ _ rfl rfl (by show 4120 + (1024 + (h : ℕ) * 64 + d) = 5144 + (64 * h + d); omega))

/-- The columns in the padded order. -/
def laid (p : Vec Ideal S128x4x5656 .f32) (q k v : Vec Ideal S128x4x8x64 .f32) : Vec Ideal S512x6144 .f32 :=
  shapeCast S512x6144 (fn_main_v78 (F := Ideal) (extractStridedSlice S128x4x1536 ![0, 0, 0] p slices_S128x4x5656_S128x4x1536_0_0_0)
    (extractStridedSlice S128x4x2560 ![0, 0, 1536] p slices_S128x4x5656_S128x4x2560_0_0_1536)
    (shapeCast S128x4x512 q shapeCasts_S128x4x8x64_S128x4x512) (shapeCast S128x4x512 k shapeCasts_S128x4x8x64_S128x4x512)
    (shapeCast S128x4x512 v shapeCasts_S128x4x8x64_S128x4x512)
    (extractStridedSlice S128x4x24 ![0, 0, 4096] p slices_S128x4x5656_S128x4x24_0_0_4096)
    (broadcastInDim S128x4x488 ![] bcast_S_S128x4x488 (constant (F := Ideal) S_ .f32 0x00000000#32))) shapeCasts_S128x4x6144_S512x6144

/-- The product's columns, in the padded order, are the specification's. -/
def Cols (p : Vec Ideal S128x4x5656 .f32) (A : Cert.Proj.Args) : Prop :=
  ∀ (r : Fin 512) (b : Fin 128) (l : Fin 4) (j : ℕ) (e : Fin 5656), (b : ℕ) = r / 4 → (l : ℕ) = r % 4 → j < 5656 →
    (e : ℕ) = Cert.Proj.col j → p (ix3 b l e) = Cert.Proj.acc A r j

theorem turned_at {A : Cert.Proj.Args} (t : Vec Ideal S128x4x8x64 .f32) (r : ℕ) (b : Fin 128) (l : Fin 4) (hl : (l : ℕ) = r % 4) (base : ℕ) (hb : base % 64 = 0)
    (ht : ∀ (h : Fin 8) (d : Fin 64), t (ix4 b l h d) = Cert.Proj.acc A r (base + (64 * h + d))) (j : ℕ) (h : Fin 8) (d : Fin 64)
    (hj : j = base + (64 * h + d)) (h1 : 4096 ≤ j) (h2 : j < 5120) : turn t (ix4 b l h d) = Cert.Proj.outS A r j := by
  rw [turn_at]
  unfold Cert.Proj.outS Cert.Proj.outAt
  rw [if_pos ⟨h1, h2⟩, ← hl]
  have e1 : Cert.Proj.cosT (8192 + l) d = Cert.Proj.cosT (8192 + l) j := by
    unfold Cert.Proj.cosT
    rw [show (d : ℕ) % 32 = j % 32 by omega]
  have e2 : Cert.Proj.sinT (8192 + l) d = Cert.Proj.sinT (8192 + l) j := by
    unfold Cert.Proj.sinT
    rw [show (d : ℕ) % 32 = j % 32 by omega, show (d : ℕ) % 64 = j % 64 by omega]
  rw [e1, e2]
  unfold Cert.Proj.partner
  by_cases hd : (d : ℕ) < 32
  · rw [dif_pos hd, if_pos (show j % 64 < 32 by omega), ht, ht, hj]
    exact congrArg (fun n => _ + Cert.Proj.acc A r n * _) (by show base + (64 * (h : ℕ) + (d + 32)) = _; omega)
  · rw [dif_neg hd, if_neg (show ¬j % 64 < 32 by omega), ht, ht, hj]
    exact congrArg (fun n => _ + Cert.Proj.acc A r n * _) (by show base + (64 * (h : ℕ) + (d - 32)) = _; omega)

theorem laid_at (p : Vec Ideal S128x4x5656 .f32) {A : Cert.Proj.Args} (hp : Cols p A) (hz : ∀ r j, 5656 ≤ j → Cert.Proj.acc A r j = 0)
    (r : Fin 512) (j : Fin 6144) :
    laid p (turn (headsQ p)) (turn (headsK p)) (headsV p) (ix2 r j) = Cert.Proj.outS A r j := by
  have hr := r.2
  have hj := j.2
  have hq : ∀ (b : Fin 128) (l : Fin 4), (b : ℕ) = r / 4 → (l : ℕ) = r % 4 → ∀ (h : Fin 8) (d : Fin 64),
      headsQ p (ix4 b l h d) = Cert.Proj.acc A r (4096 + (64 * h + d)) := fun b l hb hl h d => by
    rw [headsQ_at]
    exact hp r b l _ _ hb hl (by omega) (by rw [Cert.Reference2Ideal.Proj.col_mid (by omega) (by omega)]; show 4120 + (64 * (h : ℕ) + d) = _; omega)
  have hk : ∀ (b : Fin 128) (l : Fin 4), (b : ℕ) = r / 4 → (l : ℕ) = r % 4 → ∀ (h : Fin 8) (d : Fin 64),
      headsK p (ix4 b l h d) = Cert.Proj.acc A r (4608 + (64 * h + d)) := fun b l hb hl h d => by
    rw [headsK_at]
    exact hp r b l _ _ hb hl (by omega) (by rw [Cert.Reference2Ideal.Proj.col_mid (by omega) (by omega)]; show 4632 + (64 * (h : ℕ) + d) = _; omega)
  generalize eq : turn (headsQ p) = q
  generalize ek : turn (headsK p) = k
  generalize ev : headsV p = v
  unfold laid fn_main_v78
  pointwise []
  have plain : ¬(4096 ≤ (j : ℕ) ∧ (j : ℕ) < 5120) → Cert.Proj.outS A r j = Cert.Proj.acc A r j := fun h => if_neg h
  by_cases h0 : (j : ℕ) < 1536
  · rw [dif_pos h0, plain (by omega)]
    exact hp r _ _ j _ rfl rfl (by omega) (Cert.Reference2Ideal.Proj.col_lo (show (j : ℕ) < 4096 by omega)).symm
  rw [dif_neg h0]
  by_cases h1 : (j : ℕ) - 1536 < 2560
  · rw [dif_pos h1, plain (by omega)]
    exact hp r _ _ j _ rfl rfl (by omega) (by rw [Cert.Reference2Ideal.Proj.col_lo (by omega)]; show 1536 + ((j : ℕ) - 1536) = j; omega)
  rw [dif_neg h1]
  by_cases h2 : (j : ℕ) - 1536 - 2560 < 512
  · rw [dif_pos h2, ← eq]
    exact turned_at _ r _ _ rfl 4096 rfl (hq _ _ rfl rfl) _ _ _
      (by show (j : ℕ) = 4096 + (64 * (((j : ℕ) - 1536 - 2560) / 64) + ((j : ℕ) - 1536 - 2560) % 64); omega) (by omega) (by omega)
  rw [dif_neg h2]
  by_cases h3 : (j : ℕ) - 1536 - 2560 - 512 < 512
  · rw [dif_pos h3, ← ek]
    exact turned_at _ r _ _ rfl 4608 rfl (hk _ _ rfl rfl) _ _ _
      (by show (j : ℕ) = 4608 + (64 * (((j : ℕ) - 1536 - 2560 - 512) / 64) + ((j : ℕ) - 1536 - 2560 - 512) % 64); omega) (by omega) (by omega)
  rw [dif_neg h3, plain (by omega)]
  by_cases h4 : (j : ℕ) - 1536 - 2560 - 512 - 512 < 512
  · rw [dif_pos h4, ← ev, headsV_at]
    refine hp r _ _ j _ rfl rfl (by omega) ?_
    rw [Cert.Reference2Ideal.Proj.col_mid (by omega) (by omega)]
    show 5144 + (64 * (((j : ℕ) - 1536 - 2560 - 512 - 512) / 64) + ((j : ℕ) - 1536 - 2560 - 512 - 512) % 64) = _
    omega
  rw [dif_neg h4]
  by_cases h5 : (j : ℕ) - 1536 - 2560 - 512 - 512 - 512 < 24
  · rw [dif_pos h5]
    refine hp r _ _ j _ rfl rfl (by omega) ?_
    rw [Cert.Reference2Ideal.Proj.col_hi (by omega)]
    show 4096 + ((j : ℕ) - 1536 - 2560 - 512 - 512 - 512) = _
    omega
  · rw [dif_neg h5]
    exact (hz r j (by omega)).symm

variable (m : (ℓ : Loc nD τ sig) → Buf (Elt Ideal) ℓ) (c : Dev nD)

/-- The call's arguments in memory `m`. -/
def argsAt : Cert.Proj.Args :=
  Cert.Proj.argsS (m ((c : Thread nD τ).loc main_arg0)) (m ((c : Thread nD τ).loc main_arg1))

theorem proj_cols (v0 : Vec Ideal S128x4x1024 .f32) (v1 : Vec Ideal S1x1024x5656 .f32) : Cols (proj v0 v1) (Cert.Proj.argsS v0 v1) := by
  intro r b l j e hb hl hj he
  rw [proj_at]
  unfold Cert.Proj.acc
  refine Finset.sum_congr rfl (fun k _ => congrArg₂ (· * ·) (Cert.Proj.nat3_at v0 b l k _ _ _ hb.symm hl.symm rfl).symm ?_)
  show _ = if j < 5656 then Cert.Proj.nat3 v1 0 k (Cert.Proj.col j) else 0
  rw [if_pos hj]
  exact (Cert.Proj.nat3_at v1 0 k e _ _ _ rfl rfl he.symm).symm

theorem acc_past (v0 : Vec Ideal S128x4x1024 .f32) (v1 : Vec Ideal S1x1024x5656 .f32) (r j : ℕ) (h : 5656 ≤ j) :
    Cert.Proj.acc (Cert.Proj.argsS v0 v1) r j = 0 := by
  unfold Cert.Proj.acc
  refine Finset.sum_eq_zero (fun k _ => ?_)
  show _ * (if j < 5656 then Cert.Proj.nat3 v1 0 k (Cert.Proj.col j) else 0) = 0
  rw [if_neg (by omega), mul_zero]

theorem res_eq : res_main_v79 m c = laid (proj (m ((c : Thread nD τ).loc main_arg0)) (m ((c : Thread nD τ).loc main_arg1)))
      (turn (headsQ (proj (m ((c : Thread nD τ).loc main_arg0)) (m ((c : Thread nD τ).loc main_arg1)))))
      (turn (headsK (proj (m ((c : Thread nD τ).loc main_arg0)) (m ((c : Thread nD τ).loc main_arg1)))))
      (headsV (proj (m ((c : Thread nD τ).loc main_arg0)) (m ((c : Thread nD τ).loc main_arg1)))) := by
  rfl

theorem res_at (r : Fin 512) (j : Fin 6144) : res_main_v79 m c (ix2 r j) = Cert.Proj.outS (argsAt m c) r j := by
  rw [res_eq]
  exact laid_at _ (proj_cols _ _) (acc_past _ _) r j

end Cert.Reference4Ideal.Proj
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.KernelRuns
public import proofs.«01_k».proof.Proof.RefEnd
public import proofs.«01_k».proof.Proof.ProjRuns
public import proofs.«01_k».proof.Proof.ProjRef
public import proofs.«01_k».proof.Proof.OutRuns
public import proofs.«01_k».proof.Proof.OutRef
public import proofs.«01_k».proof.Proof.SampRuns
public import proofs.«01_k».proof.Proof.SampRef
public import Idealize.ShloMosaic.Adequacy
public import Idealize.ShloMosaic.Init

@[expose] public section

set_option maxRecDepth 100000

noncomputable section

namespace Cert.Proof

open Idealize.ShloMosaic Idealize.ShloMosaic.Pointwise Idealize.SL.Sem Cert.Kernel

/-- The reference's frame: its run keeps the arguments, and it declares no semaphore. -/
theorem frame_reference : Cert.quiescent_ReferenceIdeal := fun m ρ _ =>
  (θ_run _ _ _).mono (fun r h => ⟨fun c => (h c).2.2, sem_eq_zero_of_no_sems rfl r.2⟩) (Cert.ReferenceIdeal.Chunk.run m ρ)

/-- Memories that agree on the arguments give both programs the same ones. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Chunk.B m' c = Cert.KernelIdeal.Chunk.argsOf m c := by
  rw [Cert.ReferenceIdeal.Chunk.B_eq]
  unfold Cert.ReferenceIdeal.Chunk.argsAt Cert.KernelIdeal.Chunk.argsOf
  rw [h0, h1, h2, h3, h4, h5, h6]

/-- Both programs leave the same layer outputs and the same final states. -/
theorem algebraic : Cert.algebraic_KernelIdeal_ReferenceIdeal := by
  intro m ρ m' ρ' _ hagree
  refine ⟨fun c => Cert.KernelIdeal.Value.G15 m c, fun c => Cert.KernelIdeal.Value.G16 m c, Cert.KernelIdeal.Value.run (F := Ideal) m ρ, ?_⟩
  refine (θ_run _ _ _).mono (fun r h c => ?_) (Cert.ReferenceIdeal.Chunk.run m' ρ')
  obtain ⟨h0, h1, h2, h3, h4, h5, h6⟩ := hagree c
  have e := args_agree m m' c h0 h1 h2 h3 h4 h5 h6
  refine ⟨(h c).1.trans ?_, (h c).2.1.trans ?_, (h c).2.2⟩
  · refine funext fun i => ?_
    obtain ⟨a, b, rfl⟩ : ∃ (a : Fin 16384) (b : Fin 1536), i = ix2 a b := ⟨i 0, i 1, by funext x; fin_cases x <;> rfl⟩
    exact (Cert.ReferenceIdeal.Chunk.out_at m' c a b).trans ((congrArg (fun A => Cert.Spec.outY A _ _ _) e).trans (Cert.KernelIdeal.Chunk.G15_at m c a b).symm)
  · refine funext fun i => ?_
    obtain ⟨a, b, d, rfl⟩ : ∃ (a : Fin 2) (b : Fin 1536) (d : Fin 128), i = ix3 a b d := ⟨i 0, i 1, i 2, by funext x; fin_cases x <;> rfl⟩
    exact (Cert.ReferenceIdeal.Chunk.state_at m' c a b d).trans ((congrArg (fun A => Cert.Spec.state A _ _ _ _) e).trans (Cert.KernelIdeal.Chunk.G16_at m c a b d).symm)

/-- The second reference's frame, in the same way. -/
theorem frame_reference2 : Cert.quiescent_Reference2Ideal := fun m ρ _ =>
  (θ_run _ _ _).mono (fun r h => ⟨fun c => (h c).2, sem_eq_zero_of_no_sems rfl r.2⟩) (Cert.Reference2Ideal.Value.run (F := Ideal) m ρ)

/-- Both programs leave the same projection. -/
theorem algebraic2 : Cert.algebraic_Kernel2Ideal_Reference2Ideal := by
  intro m ρ m' ρ' _ hagree
  refine ⟨fun c => Cert.Kernel2Ideal.Value.G4 m c, Cert.Kernel2Ideal.Value.run (F := Ideal) m ρ, ?_⟩
  refine (θ_run _ _ _).mono (fun r h c => ⟨(h c).1.trans ?_, (h c).2⟩) (Cert.Reference2Ideal.Value.run (F := Ideal) m' ρ')
  have e : Cert.Reference2Ideal.Proj.argsAt m' c = Cert.Kernel2Ideal.Proj.argsOf m c := by
    unfold Cert.Reference2Ideal.Proj.argsAt Cert.Kernel2Ideal.Proj.argsOf
    rw [(hagree c).1, (hagree c).2]
  refine funext fun i => ?_
  obtain ⟨a, b, rfl⟩ : ∃ (a : Fin 16384) (b : Fin 6144), i = ix2 a b := ⟨i 0, i 1, by funext x; fin_cases x <;> rfl⟩
  exact (Cert.Reference2Ideal.Proj.res_at m' c a b).trans ((congrArg (fun A => Cert.Proj.out A _ _) e).trans (Cert.Kernel2Ideal.Proj.G4_at m c a b).symm)

/-- The third reference's frame, in the same way. -/
theorem frame_reference3 : Cert.quiescent_Reference3Ideal := fun m ρ _ =>
  (θ_run _ _ _).mono (fun r h => ⟨fun c => (h c).2, sem_eq_zero_of_no_sems rfl r.2⟩) (Cert.Reference3Ideal.Value.run (F := Ideal) m ρ)

/-- Both programs leave the same normalised rows. -/
theorem algebraic3 : Cert.algebraic_Kernel3Ideal_Reference3Ideal := by
  intro m ρ m' ρ' _ hagree
  refine ⟨fun c => (Cert.Kernel3Ideal.Gen.dats m 0 c).arrAt 7 Cert.Kernel3Ideal.cfg0.N, Cert.Kernel3Ideal.Value.run_blocks (F := Ideal) m ρ, ?_⟩
  refine (θ_run _ _ _).mono (fun r h c => ⟨(h c).1.trans ?_, (h c).2⟩) (Cert.Reference3Ideal.Value.run (F := Ideal) m' ρ')
  obtain ⟨h0, h1, h2, h3, h4, h5⟩ := hagree c
  have e : Cert.Reference3Ideal.Out.argsAt m' c = Cert.Kernel3Ideal.Out.argsOf m c := by
    unfold Cert.Reference3Ideal.Out.argsAt Cert.Kernel3Ideal.Out.argsOf
    rw [h0, h1, h2, h3, h4, h5]
  refine funext fun i => ?_
  obtain ⟨a, b, rfl⟩ : ∃ (a : Fin 16384) (b : Fin 1024), i = ix2 a b := ⟨i 0, i 1, by funext x; fin_cases x <;> rfl⟩
  exact (Cert.Reference3Ideal.Out.res_at m' c a b).trans ((congrArg (fun A => Cert.Out.out A _ _) e).trans (Cert.Kernel3Ideal.Out.arr_at m c a b).symm)

/-- The fourth reference's frame, in the same way. -/
theorem frame_reference4 : Cert.quiescent_Reference4Ideal := fun m ρ _ =>
  (θ_run _ _ _).mono (fun r h => ⟨fun c => (h c).2, sem_eq_zero_of_no_sems rfl r.2⟩) (Cert.Reference4Ideal.Value.run (F := Ideal) m ρ)

/-- Both programs leave the same projection of the sample group. -/
theorem algebraic4 : Cert.algebraic_Kernel4Ideal_Reference4Ideal := by
  intro m ρ m' ρ' _ hagree
  refine ⟨fun c => Cert.Kernel4Ideal.Value.G4 m c, Cert.Kernel4Ideal.Value.run (F := Ideal) m ρ, ?_⟩
  refine (θ_run _ _ _).mono (fun r h c => ⟨(h c).1.trans ?_, (h c).2⟩) (Cert.Reference4Ideal.Value.run (F := Ideal) m' ρ')
  have e : Cert.Reference4Ideal.Proj.argsAt m' c = Cert.Kernel4Ideal.Proj.argsOf m c := by
    unfold Cert.Reference4Ideal.Proj.argsAt Cert.Kernel4Ideal.Proj.argsOf
    rw [(hagree c).1, (hagree c).2]
  refine funext fun i => ?_
  obtain ⟨a, b, rfl⟩ : ∃ (a : Fin 512) (b : Fin 6144), i = ix2 a b := ⟨i 0, i 1, by funext x; fin_cases x <;> rfl⟩
  exact (Cert.Reference4Ideal.Proj.res_at m' c a b).trans ((congrArg (fun A => Cert.Proj.outS A _ _) e).trans (Cert.Kernel4Ideal.Proj.G4_at m c a b).symm)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  trivial, algebraic, trivial, algebraic2, trivial, algebraic3, trivial, algebraic4⟩

end Cert.Proof

end
